-- ==== Defs.lean ====
def Pre_Kernel [hPre_batch_index_in_range : Cert.Pre_batch_index_in_range.Facts] (m : (ℓ : Loc Cert.Kernel.nD Cert.Kernel.τ Cert.Kernel.sig) → Buf (Elt Bits) ℓ) : Prop :=
  ∀ c : Dev Cert.Kernel.nD,
    (Cert.Pre_batch_index_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_batch_index_in_range : Cert.Pre_batch_index_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_batch_index_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_rois_fit_the_window [hPre_rois_fit_the_window : Cert.Pre_rois_fit_the_window.Facts] (m : (ℓ : Loc Cert.KernelIdeal.nD Cert.KernelIdeal.τ Cert.KernelIdeal.sig) → Buf (Elt Ideal) ℓ) : Prop :=
  ∀ c : Dev Cert.KernelIdeal.nD,
    (Cert.Pre_rois_fit_the_window.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rois_fit_the_window [hPre_rois_fit_the_window : Cert.Pre_rois_fit_the_window.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rois_fit_the_window.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_batch_index_in_range : Cert.Pre_batch_index_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_batch_index_in_range : Cert.Pre_batch_index_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_rois_fit_the_window [hKernelIdeal : Cert.KernelIdeal.Facts] [hPre_rois_fit_the_window : Cert.Pre_rois_fit_the_window.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rois_fit_the_window m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_rois_fit_the_window [hReferenceIdeal : Cert.ReferenceIdeal.Facts] [hPre_rois_fit_the_window : Cert.Pre_rois_fit_the_window.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rois_fit_the_window m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_rois_fit_the_window [hKernelIdeal : Cert.KernelIdeal.Facts] [hReferenceIdeal : Cert.ReferenceIdeal.Facts] [hPre_rois_fit_the_window : Cert.Pre_rois_fit_the_window.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rois_fit_the_window m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1222) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_batch_index_in_range : Cert.Pre_batch_index_in_range.Facts) (hPre_rois_fit_the_window : Cert.Pre_rois_fit_the_window.Facts),
    quiescent_Kernel (hKernel := hKernel) (hPre_batch_index_in_range := hPre_batch_index_in_range)
    ∧ quiescent_KernelIdeal (hKernelIdeal := hKernelIdeal) (hPre_batch_index_in_range := hPre_batch_index_in_range)
    ∧ quiescent_KernelIdeal_pre_rois_fit_the_window (hKernelIdeal := hKernelIdeal) (hPre_rois_fit_the_window := hPre_rois_fit_the_window)
    ∧ quiescent_ReferenceIdeal (hReferenceIdeal := hReferenceIdeal)
    ∧ quiescent_ReferenceIdeal_pre_rois_fit_the_window (hReferenceIdeal := hReferenceIdeal) (hPre_rois_fit_the_window := hPre_rois_fit_the_window)
    ∧ preserves_Kernel_KernelIdeal
    ∧ algebraic_KernelIdeal_ReferenceIdeal_pre_rois_fit_the_window (hKernelIdeal := hKernelIdeal) (hReferenceIdeal := hReferenceIdeal) (hPre_rois_fit_the_window := hPre_rois_fit_the_window)
-- ==== Pre_batch_index_in_range.lean ====
abbrev S4x512x96x96 : Shape := ⟨4, ![4, 512, 96, 96]⟩
abbrev S512x5 : Shape := ⟨2, ![512, 5]⟩
abbrev S512x1 : Shape := ⟨2, ![512, 1]⟩
abbrev S512 : Shape := ⟨1, ![512]⟩
abbrev S_ : Shape := ⟨0, ![]⟩

class Facts : Prop where
  slices_S512x5_S512x1_0_0 : S512x5.Slices ![0, 0] S512x1
  shapeCasts_S512x1_S512 : S512x1.ShapeCasts S512
  bcast_S_S512 : S_.BroadcastsInDim S512 (![] : Fin 0 → Fin S512.rank)

variable [Facts]

def fn {F : FTy → Type} [FloatOps F] (main_arg0 : FVec F S4x512x96x96 .f32) (main_arg1 : FVec F S512x5 .f32) : IVec S512 1 :=
  let main_v0 : FVec F S512x1 .f32 := (extractStridedSlice S512x1 ![0, 0] · slices_S512x5_S512x1_0_0) main_arg1
  let main_v1 : FVec F S512 .f32 := shapeCast S512 main_v0 shapeCasts_S512x1_S512
  let main_v2 : IVec S512 32 := fptosi 32 main_v1
  let main_c : IVec S_ 32 := constantI S_ 32 0#32
  let main_v3 : IVec S512 32 := broadcastInDim S512 ![] bcast_S_S512 main_c
  let main_v4 : IVec S512 1 := cmpi .sge main_v2 main_v3
  let main_c_0 : IVec S_ 32 := constantI S_ 32 4#32
  let main_v5 : IVec S512 32 := broadcastInDim S512 ![] bcast_S_S512 main_c_0
  let main_v6 : IVec S512 1 := cmpi .slt main_v2 main_v5
  let main_v7 : IVec S512 1 := andi main_v4 main_v6
  main_v7
-- ==== Pre_rois_fit_the_window.lean ====
abbrev S4x512x96x96 : Shape := ⟨4, ![4, 512, 96, 96]⟩
abbrev S512x5 : Shape := ⟨2, ![512, 5]⟩
abbrev S512x1 : Shape := ⟨2, ![512, 1]⟩
abbrev S512 : Shape := ⟨1, ![512]⟩
abbrev S_ : Shape := ⟨0, ![]⟩
abbrev S1x512x1x1 : Shape := ⟨4, ![1, 512, 1, 1]⟩

class Facts : Prop where
  slices_S512x5_S512x1_0_0 : S512x5.Slices ![0, 0] S512x1
  shapeCasts_S512x1_S512 : S512x1.ShapeCasts S512
  bcast_S_S512 : S_.BroadcastsInDim S512 (![] : Fin 0 → Fin S512.rank)
  slices_S512x5_S512x1_0_3 : S512x5.Slices ![0, 3] S512x1
  slices_S512x5_S512x1_0_1 : S512x5.Slices ![0, 1] S512x1
  slices_S512x5_S512x1_0_4 : S512x5.Slices ![0, 4] S512x1
  slices_S512x5_S512x1_0_2 : S512x5.Slices ![0, 2] S512x1
  bcast_S_S4x512x96x96 : S_.BroadcastsInDim S4x512x96x96 (![] : Fin 0 → Fin S4x512x96x96.rank)
  bcast_S512_S1x512x1x1_1 : S512.BroadcastsInDim S1x512x1x1 (![1] : Fin 1 → Fin S1x512x1x1.rank)
  bcast_S1x512x1x1_S4x512x96x96_0_1_2_3 : S1x512x1x1.BroadcastsInDim S4x512x96x96 (![0, 1, 2, 3] : Fin 4 → Fin S4x512x96x96.rank)

variable [Facts]

def fn_part1 {F : FTy → Type} [FloatOps F] (main_arg0 : FVec F S4x512x96x96 .f32) (main_v15 : IVec S512 1) (main_v20 : FVec F S512 .f32) : IVec S4x512x96x96 1 :=
  let main_cst_1 : FVec F S_ .f32 := constant S_ .f32 0x43900000#32
  let main_v21 : FVec F S512 .f32 := broadcastInDim S512 ![] bcast_S_S512 main_cst_1
  let main_v22 : IVec S512 1 := cmpf .ole main_v20 main_v21
  let main_v23 : IVec S512 1 := andi main_v15 main_v22
  let main_cst_2 : FVec F S_ .f32 := constant S_ .f32 0xFF800000#32
  let main_v24 : FVec F S4x512x96x96 .f32 := broadcastInDim S4x512x96x96 ![] bcast_S_S4x512x96x96 main_cst_2
  let main_v25 : IVec S4x512x96x96 1 := cmpf .ogt main_arg0 main_v24
  let main_cst_3 : FVec F S_ .f32 := constant S_ .f32 0x7F800000#32
  let main_v26 : FVec F S4x512x96x96 .f32 := broadcastInDim S4x512x96x96 ![] bcast_S_S4x512x96x96 main_cst_3
  let main_v27 : IVec S4x512x96x96 1 := cmpf .olt main_arg0 main_v26
  let main_v28 : IVec S4x512x96x96 1 := andi main_v25 main_v27
  let main_v29 : IVec S1x512x1x1 1 := broadcastInDim S1x512x1x1 ![1] bcast_S512_S1x512x1x1_1 main_v23
  let main_v30 : IVec S4x512x96x96 1 := broadcastInDim S4x512x96x96 ![0, 1, 2, 3] bcast_S1x512x1x1_S4x512x96x96_0_1_2_3 main_v29
  let main_v31 : IVec S4x512x96x96 1 := andi main_v28 main_v30
  main_v31

def fn {F : FTy → Type} [FloatOps F] (main_arg0 : FVec F S4x512x96x96 .f32) (main_arg1 : FVec F S512x5 .f32) : IVec S4x512x96x96 1 :=
  let main_v0 : FVec F S512x1 .f32 := (extractStridedSlice S512x1 ![0, 0] · slices_S512x5_S512x1_0_0) main_arg1
  let main_v1 : FVec F S512 .f32 := shapeCast S512 main_v0 shapeCasts_S512x1_S512
  let main_v2 : IVec S512 32 := fptosi 32 main_v1
  let main_c : IVec S_ 32 := constantI S_ 32 0#32
  let main_v3 : IVec S512 32 := broadcastInDim S512 ![] bcast_S_S512 main_c
  let main_v4 : IVec S512 1 := cmpi .sge main_v2 main_v3
  let main_c_0 : IVec S_ 32 := constantI S_ 32 4#32
  let main_v5 : IVec S512 32 := broadcastInDim S512 ![] bcast_S_S512 main_c_0
  let main_v6 : IVec S512 1 := cmpi .slt main_v2 main_v5
  let main_v7 : IVec S512 1 := andi main_v4 main_v6
  let main_v8 : FVec F S512x1 .f32 := (extractStridedSlice S512x1 ![0, 3] · slices_S512x5_S512x1_0_3) main_arg1
  let main_v9 : FVec F S512 .f32 := shapeCast S512 main_v8 shapeCasts_S512x1_S512
  let main_v10 : FVec F S512x1 .f32 := (extractStridedSlice S512x1 ![0, 1] · slices_S512x5_S512x1_0_1) main_arg1
  let main_v11 : FVec F S512 .f32 := shapeCast S512 main_v10 shapeCasts_S512x1_S512
  let main_v12 : FVec F S512 .f32 := subf main_v9 main_v11
  let main_cst : FVec F S_ .f32 := constant S_ .f32 0x43900000#32
  let main_v13 : FVec F S512 .f32 := broadcastInDim S512 ![] bcast_S_S512 main_cst
  let main_v14 : IVec S512 1 := cmpf .ole main_v12 main_v13
  let main_v15 : IVec S512 1 := andi main_v7 main_v14
  let main_v16 : FVec F S512x1 .f32 := (extractStridedSlice S512x1 ![0, 4] · slices_S512x5_S512x1_0_4) main_arg1
  let main_v17 : FVec F S512 .f32 := shapeCast S512 main_v16 shapeCasts_S512x1_S512
  let main_v18 : FVec F S512x1 .f32 := (extractStridedSlice S512x1 ![0, 2] · slices_S512x5_S512x1_0_2) main_arg1
  let main_v19 : FVec F S512 .f32 := shapeCast S512 main_v18 shapeCasts_S512x1_S512
  let main_v20 : FVec F S512 .f32 := subf main_v17 main_v19
  fn_part1 (F := F) main_arg0 main_v15 main_v20
-- ==== Kernel.lean ====
abbrev S4x512x96x96 : Shape := ⟨4, ![4, 512, 96, 96]⟩
abbrev S512x5 : Shape := ⟨2, ![512, 5]⟩
abbrev S512x1 : Shape := ⟨2, ![512, 1]⟩
abbrev S512 : Shape := ⟨1, ![512]⟩
abbrev S_ : Shape := ⟨0, ![]⟩
abbrev S4x96x96x512 : Shape := ⟨4, ![4, 96, 96, 512]⟩
abbrev S4x96x96x2x256 : Shape := ⟨5, ![4, 96, 96, 2, 256]⟩
abbrev S4x2x96x96x256 : Shape := ⟨5, ![4, 2, 96, 96, 256]⟩
abbrev S4x2x96x24576 : Shape := ⟨4, ![4, 2, 96, 24576]⟩
abbrev S512x1x128 : Shape := ⟨3, ![512, 1, 128]⟩
abbrev S1 : Shape := ⟨1, ![1]⟩
abbrev S2 : Shape := ⟨1, ![2]⟩
abbrev S512x5x5x512 : Shape := ⟨4, ![512, 5, 5, 512]⟩
abbrev S1x2x96x24576 : Shape := ⟨4, ![1, 2, 96, 24576]⟩
abbrev S1x1x128 : Shape := ⟨3, ![1, 1, 128]⟩
abbrev S1x5x5x512 : Shape := ⟨4, ![1, 5, 5, 512]⟩
abbrev S1x128 : Shape := ⟨2, ![1, 128]⟩
abbrev S1x1 : Shape := ⟨2, ![1, 1]⟩
abbrev S16x1 : Shape := ⟨2, ![16, 1]⟩
abbrev S16x48 : Shape := ⟨2, ![16, 48]⟩
abbrev S1x1x48x12288 : Shape := ⟨4, ![1, 1, 48, 12288]⟩
abbrev S48x12288 : Shape := ⟨2, ![48, 12288]⟩
abbrev S16x12288 : Shape := ⟨2, ![16, 12288]⟩
abbrev S16x48x256 : Shape := ⟨3, ![16, 48, 256]⟩
abbrev S11x48x256 : Shape := ⟨3, ![11, 48, 256]⟩
abbrev S16x11x256 : Shape := ⟨3, ![16, 11, 256]⟩
abbrev S1x11x256 : Shape := ⟨3, ![1, 11, 256]⟩
abbrev S11x256 : Shape := ⟨2, ![11, 256]⟩
abbrev S5x11x256 : Shape := ⟨3, ![5, 11, 256]⟩
abbrev S5x3x256 : Shape := ⟨3, ![5, 3, 256]⟩
abbrev S5x256 : Shape := ⟨2, ![5, 256]⟩
abbrev S1x5x256 : Shape := ⟨3, ![1, 5, 256]⟩
abbrev S5x5x256 : Shape := ⟨3, ![5, 5, 256]⟩
abbrev S5x5x512 : Shape := ⟨3, ![5, 5, 512]⟩
abbrev S512x512x5x5 : Shape := ⟨4, ![512, 512, 5, 5]⟩

abbrev nBuf : Space → Nat
  | .hbm => 52
  | .vmem => 6
  | .smem => 1
  | _ => 0

abbrev bufTy : (tb : Table) → Fin (tcTables nBuf tb) → BufTy
  | .hbm, ⟨0, _⟩ => ⟨S4x512x96x96, .f32⟩
  | .hbm, ⟨1, _⟩ => ⟨S512x5, .f32⟩
  | .hbm, ⟨2, _⟩ => ⟨S512x1, .f32⟩
  | .hbm, ⟨3, _⟩ => ⟨S512, .f32⟩
  | .hbm, ⟨4, _⟩ => ⟨S512, .i32⟩
  | .hbm, ⟨5, _⟩ => ⟨S512, .i32⟩
  | .hbm, ⟨6, _⟩ => ⟨S512, .i32⟩
  | .hbm, ⟨7, _⟩ => ⟨S512, .i32⟩
  | .hbm, ⟨8, _⟩ => ⟨S_, .i32⟩
  | .hbm, ⟨9, _⟩ => ⟨S512, .i32⟩
  | .hbm, ⟨10, _⟩ => ⟨S512, .i1⟩
  | .hbm, ⟨11, _⟩ => ⟨S_, .i32⟩
  | .hbm, ⟨12, _⟩ => ⟨S512, .i32⟩
  | .hbm, ⟨13, _⟩ => ⟨S512, .i32⟩
  | .hbm, ⟨14, _⟩ => ⟨S512, .i32⟩
  | .hbm, ⟨15, _⟩ => ⟨S512x1, .i32⟩
  | .hbm, ⟨16, _⟩ => ⟨S_, .i32⟩
  | .hbm, ⟨17, _⟩ => ⟨S512, .i32⟩
  | .hbm, ⟨18, _⟩ => ⟨S512, .i1⟩
  | .hbm, ⟨19, _⟩ => ⟨S_, .i32⟩
  | .hbm, ⟨20, _⟩ => ⟨S512, .i32⟩
  | .hbm, ⟨21, _⟩ => ⟨S512, .i32⟩
  | .hbm, ⟨22, _⟩ => ⟨S512, .i32⟩
  | .hbm, ⟨23, _⟩ => ⟨S512x1, .i32⟩
  | .hbm, ⟨24, _⟩ => ⟨S512x5, .f32⟩
  | .hbm, ⟨25, _⟩ => ⟨S4x96x96x512, .f32⟩
  | .hbm, ⟨26, _⟩ => ⟨S4x96x96x2x256, .f32⟩
  | .hbm, ⟨27, _⟩ => ⟨S4x2x96x96x256, .f32⟩
  | .hbm, ⟨28, _⟩ => ⟨S4x2x96x24576, .f32⟩
  | .hbm, ⟨29, _⟩ => ⟨S4x2x96x24576, .bf16⟩
  | .hbm, ⟨30, _⟩ => ⟨S_, .f32⟩
  | .hbm, ⟨31, _⟩ => ⟨S512x1x128, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S512x1x128, .f32⟩
  | .hbm, ⟨38, _⟩ => ⟨S512x5x5x512, .f32⟩
  | .hbm, ⟨39, _⟩ => ⟨S512, .i32⟩
  | .hbm, ⟨40, _⟩ => ⟨S512, .i32⟩
  | .hbm, ⟨41, _⟩ => ⟨S512, .i32⟩
  | .hbm, ⟨42, _⟩ => ⟨S_, .i32⟩
  | .hbm, ⟨43, _⟩ => ⟨S512, .i32⟩
  | .hbm, ⟨44, _⟩ => ⟨S512, .i1⟩
  | .hbm, ⟨45, _⟩ => ⟨S_, .i32⟩
  | .hbm, ⟨46, _⟩ => ⟨S512, .i32⟩
  | .hbm, ⟨47, _⟩ => ⟨S512, .i32⟩
  | .hbm, ⟨48, _⟩ => ⟨S512, .i32⟩
  | .hbm, ⟨49, _⟩ => ⟨S512x1, .i32⟩
  | .hbm, ⟨50, _⟩ => ⟨S512x5x5x512, .f32⟩
  | .hbm, ⟨51, _⟩ => ⟨S512x512x5x5, .f32⟩
  | .local _ .vmem, ⟨0, _⟩ => ⟨S1x2x96x24576, .bf16⟩
  | .local _ .vmem, ⟨1, _⟩ => ⟨S1x2x96x24576, .bf16⟩
  | .local _ .vmem, ⟨2, _⟩ => ⟨S1x1x128, .f32⟩
  | .local _ .vmem, ⟨3, _⟩ => ⟨S1x1x128, .f32⟩
  | .local _ .vmem, ⟨4, _⟩ => ⟨S1x5x5x512, .f32⟩
  | .local _ .vmem, ⟨5, _⟩ => ⟨S1x5x5x512, .f32⟩
  | .local _ .smem, ⟨0, _⟩ => ⟨S512, .i32⟩
  | _, _ => ⟨S4x512x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1_0 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_c_3 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call1_v0 : Ref sig .tc := ⟨.hbm, 39, rfl⟩
abbrev main_call1_v1_0 : Ref sig .tc := ⟨.hbm, 40, rfl⟩
abbrev main_v29 : Ref sig .tc := ⟨.hbm, 41, rfl⟩
abbrev main_c_5 : Ref sig .tc := ⟨.hbm, 42, rfl⟩
abbrev main_v30 : Ref sig .tc := ⟨.hbm, 43, rfl⟩
abbrev main_v31 : Ref sig .tc := ⟨.hbm, 44, rfl⟩
abbrev main_c_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v10 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![512], ![false]⟩

abbrev pre0 : Pipeline.Prefetch sig := ⟨1, ![main_v10.idx], fun | 0 => main_v10.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (v27 : BitVec 32) : BitVec 32 :=
  let c48_i32 : BitVec 32 := 48#32
  let c0_i32_18 : BitVec 32 := 0#32
  let c2_i32 : BitVec 32 := 2#32
  let v28 : BitVec 32 := Scalar.subi v27 c2_i32
  let c0_i32 : BitVec 32 := 0#32
  let v30 : BitVec 1 := Scalar.cmpi .sgt v28 c0_i32
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c8_i32 : BitVec 32 := 8#32
  let c0_i32_14 : BitVec 32 := 0#32
  let v35 : BitVec 1 := Scalar.cmpi .sgt c8_i32 c0_i32_14
  let v36 : BitVec 32 := Scalar.extui v35
  let c0_i32_15 : BitVec 32 := 0#32
  let v37 : BitVec 1 := Scalar.cmpi .slt c8_i32 c0_i32_15
  let v38 : BitVec 32 := Scalar.extui v37
  let v39 : BitVec 32 := Scalar.subi v36 v38
  let v40 : BitVec 1 := Scalar.cmpi .ne v34 v39
  let v41 : BitVec 32 := Scalar.remsi v28 c8_i32
  let c0_i32_16 : BitVec 32 := 0#32
  let v42 : BitVec 1 := Scalar.cmpi .ne v41 c0_i32_16
  let v43 : BitVec 1 := Scalar.andi v40 v42
  let v29 : BitVec 32 := Scalar.divsi v28 c8_i32
  let c1_i32 : BitVec 32 := 1#32
  let v44 : BitVec 32 := Scalar.subi v29 c1_i32
  let v45 : BitVec 32 := Scalar.select v43 v44 v29
  let c8_i32_17 : BitVec 32 := 8#32
  let v46 : BitVec 32 := Scalar.muli v45 c8_i32_17
  let v47 : BitVec 32 := Scalar.maxsi c0_i32_18 v46
  let v48 : BitVec 32 := Scalar.minsi c48_i32 v47
  v48

def k0_chk1 (v27 : BitVec 32) : Prop :=
  (8 ∣ (k0_mult1 v27).toNat)
theorem k0_mult1_dvd : ∀ (v27 : BitVec 32) (k0_hw1 : k0_chk1 v27), 8 ∣ (k0_mult1 v27).toNat := fun v27 k0_hw1 => k0_hw1

def k0_mult2 (v52 : BitVec 32) : BitVec 32 :=
  let c48_i32_29 : BitVec 32 := 48#32
  let c0_i32_28 : BitVec 32 := 0#32
  let c2_i32_19 : BitVec 32 := 2#32
  let v53 : BitVec 32 := Scalar.subi v52 c2_i32_19
  let c0_i32_21 : BitVec 32 := 0#32
  let v55 : BitVec 1 := Scalar.cmpi .sgt v53 c0_i32_21
  let v56 : BitVec 32 := Scalar.extui v55
  let c0_i32_22 : BitVec 32 := 0#32
  let v57 : BitVec 1 := Scalar.cmpi .slt v53 c0_i32_22
  let v58 : BitVec 32 := Scalar.extui v57
  let v59 : BitVec 32 := Scalar.subi v56 v58
  let c8_i32_20 : BitVec 32 := 8#32
  let c0_i32_23 : BitVec 32 := 0#32
  let v60 : BitVec 1 := Scalar.cmpi .sgt c8_i32_20 c0_i32_23
  let v61 : BitVec 32 := Scalar.extui v60
  let c0_i32_24 : BitVec 32 := 0#32
  let v62 : BitVec 1 := Scalar.cmpi .slt c8_i32_20 c0_i32_24
  let v63 : BitVec 32 := Scalar.extui v62
  let v64 : BitVec 32 := Scalar.subi v61 v63
  let v65 : BitVec 1 := Scalar.cmpi .ne v59 v64
  let v66 : BitVec 32 := Scalar.remsi v53 c8_i32_20
  let c0_i32_25 : BitVec 32 := 0#32
  let v67 : BitVec 1 := Scalar.cmpi .ne v66 c0_i32_25
  let v68 : BitVec 1 := Scalar.andi v65 v67
  let v54 : BitVec 32 := Scalar.divsi v53 c8_i32_20
  let c1_i32_26 : BitVec 32 := 1#32
  let v69 : BitVec 32 := Scalar.subi v54 c1_i32_26
  let v70 : BitVec 32 := Scalar.select v68 v69 v54
  let c8_i32_27 : BitVec 32 := 8#32
  let v71 : BitVec 32 := Scalar.muli v70 c8_i32_27
  let v72 : BitVec 32 := Scalar.maxsi c0_i32_28 v71
  let v73 : BitVec 32 := Scalar.minsi c48_i32_29 v72
  let c256_i32 : BitVec 32 := 256#32
  let v363 : BitVec 32 := Scalar.muli v73 c256_i32
  v363

def k0_off2 (v27 : BitVec 32) (v52 : BitVec 32) : Fin 4 → Nat :=
  let c0_83 : Index := 0#32
  let c0_84 : Index := 0#32
  let c48_i32 : BitVec 32 := 48#32
  let c0_i32_18 : BitVec 32 := 0#32
  let c2_i32 : BitVec 32 := 2#32
  let v28 : BitVec 32 := Scalar.subi v27 c2_i32
  let c0_i32 : BitVec 32 := 0#32
  let v30 : BitVec 1 := Scalar.cmpi .sgt v28 c0_i32
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c8_i32 : BitVec 32 := 8#32
  let c0_i32_14 : BitVec 32 := 0#32
  let v35 : BitVec 1 := Scalar.cmpi .sgt c8_i32 c0_i32_14
  let v36 : BitVec 32 := Scalar.extui v35
  let c0_i32_15 : BitVec 32 := 0#32
  let v37 : BitVec 1 := Scalar.cmpi .slt c8_i32 c0_i32_15
  let v38 : BitVec 32 := Scalar.extui v37
  let v39 : BitVec 32 := Scalar.subi v36 v38
  let v40 : BitVec 1 := Scalar.cmpi .ne v34 v39
  let v41 : BitVec 32 := Scalar.remsi v28 c8_i32
  let c0_i32_16 : BitVec 32 := 0#32
  let v42 : BitVec 1 := Scalar.cmpi .ne v41 c0_i32_16
  let v43 : BitVec 1 := Scalar.andi v40 v42
  let v29 : BitVec 32 := Scalar.divsi v28 c8_i32
  let c1_i32 : BitVec 32 := 1#32
  let v44 : BitVec 32 := Scalar.subi v29 c1_i32
  let v45 : BitVec 32 := Scalar.select v43 v44 v29
  let c8_i32_17 : BitVec 32 := 8#32
  let v46 : BitVec 32 := Scalar.muli v45 c8_i32_17
  let v47 : BitVec 32 := Scalar.maxsi c0_i32_18 v46
  let v48 : BitVec 32 := Scalar.minsi c48_i32 v47
  let v50 : BitVec 32 := v48
  let v365 : Index := Scalar.indexCast v50
  let c48_i32_29 : BitVec 32 := 48#32
  let c0_i32_28 : BitVec 32 := 0#32
  let c2_i32_19 : BitVec 32 := 2#32
  let v53 : BitVec 32 := Scalar.subi v52 c2_i32_19
  let c0_i32_21 : BitVec 32 := 0#32
  let v55 : BitVec 1 := Scalar.cmpi .sgt v53 c0_i32_21
  let v56 : BitVec 32 := Scalar.extui v55
  let c0_i32_22 : BitVec 32 := 0#32
  let v57 : BitVec 1 := Scalar.cmpi .slt v53 c0_i32_22
  let v58 : BitVec 32 := Scalar.extui v57
  let v59 : BitVec 32 := Scalar.subi v56 v58
  let c8_i32_20 : BitVec 32 := 8#32
  let c0_i32_23 : BitVec 32 := 0#32
  let v60 : BitVec 1 := Scalar.cmpi .sgt c8_i32_20 c0_i32_23
  let v61 : BitVec 32 := Scalar.extui v60
  let c0_i32_24 : BitVec 32 := 0#32
  let v62 : BitVec 1 := Scalar.cmpi .slt c8_i32_20 c0_i32_24
  let v63 : BitVec 32 := Scalar.extui v62
  let v64 : BitVec 32 := Scalar.subi v61 v63
  let v65 : BitVec 1 := Scalar.cmpi .ne v59 v64
  let v66 : BitVec 32 := Scalar.remsi v53 c8_i32_20
  let c0_i32_25 : BitVec 32 := 0#32
  let v67 : BitVec 1 := Scalar.cmpi .ne v66 c0_i32_25
  let v68 : BitVec 1 := Scalar.andi v65 v67
  let v54 : BitVec 32 := Scalar.divsi v53 c8_i32_20
  let c1_i32_26 : BitVec 32 := 1#32
  let v69 : BitVec 32 := Scalar.subi v54 c1_i32_26
  let v70 : BitVec 32 := Scalar.select v68 v69 v54
  let c8_i32_27 : BitVec 32 := 8#32
  let v71 : BitVec 32 := Scalar.muli v70 c8_i32_27
  let v72 : BitVec 32 := Scalar.maxsi c0_i32_28 v71
  let v73 : BitVec 32 := Scalar.minsi c48_i32_29 v72
  let c256_i32 : BitVec 32 := 256#32
  let v363 : BitVec 32 := Scalar.muli v73 c256_i32
  let v364 : BitVec 32 := v363
  let v366 : Index := Scalar.indexCast v364
  ![0, 0, v365.toNat, v366.toNat]
def k0_off3 (v27 : BitVec 32) (v52 : BitVec 32) : Fin 4 → Nat :=
  let c0_92 : Index := 0#32
  let c1 : Index := 1#32
  let c48_i32 : BitVec 32 := 48#32
  let c0_i32_18 : BitVec 32 := 0#32
  let c2_i32 : BitVec 32 := 2#32
  let v28 : BitVec 32 := Scalar.subi v27 c2_i32
  let c0_i32 : BitVec 32 := 0#32
  let v30 : BitVec 1 := Scalar.cmpi .sgt v28 c0_i32
  let v31 : BitVec 32 := Scalar.extui v30
  let c0_i32_13 : BitVec 32 := 0#32
  let v32 : BitVec 1 := Scalar.cmpi .slt v28 c0_i32_13
  let v33 : BitVec 32 := Scalar.extui v32
  let v34 : BitVec 32 := Scalar.subi v31 v33
  let c8_i32 : BitVec 32 := 8#32
  let c0_i32_14 : BitVec 32 := 0#32
  let v35 : BitVec 1 := Scalar.cmpi .sgt c8_i32 c0_i32_14
  let v36 : BitVec 32 := Scalar.extui v35
  let c0_i32_15 : BitVec 32 := 0#32
  let v37 : BitVec 1 := Scalar.cmpi .slt c8_i32 c0_i32_15
  let v38 : BitVec 32 := Scalar.extui v37
  let v39 : BitVec 32 := Scalar.subi v36 v38
  let v40 : BitVec 1 := Scalar.cmpi .ne v34 v39
  let v41 : BitVec 32 := Scalar.remsi v28 c8_i32
  let c0_i32_16 : BitVec 32 := 0#32
  let v42 : BitVec 1 := Scalar.cmpi .ne v41 c0_i32_16
  let v43 : BitVec 1 := Scalar.andi v40 v42
  let v29 : BitVec 32 := Scalar.divsi v28 c8_i32
  let c1_i32 : BitVec 32 := 1#32
  let v44 : BitVec 32 := Scalar.subi v29 c1_i32
  let v45 : BitVec 32 := Scalar.select v43 v44 v29
  let c8_i32_17 : BitVec 32 := 8#32
  let v46 : BitVec 32 := Scalar.muli v45 c8_i32_17
  let v47 : BitVec 32 := Scalar.maxsi c0_i32_18 v46
  let v48 : BitVec 32 := Scalar.minsi c48_i32 v47
  let v50 : BitVec 32 := v48
  let v438 : Index := Scalar.indexCast v50
  let c48_i32_29 : BitVec 32 := 48#32
  let c0_i32_28 : BitVec 32 := 0#32
  let c2_i32_19 : BitVec 32 := 2#32
  let v53 : BitVec 32 := Scalar.subi v52 c2_i32_19
  let c0_i32_21 : BitVec 32 := 0#32
  let v55 : BitVec 1 := Scalar.cmpi .sgt v53 c0_i32_21
  let v56 : BitVec 32 := Scalar.extui v55
  let c0_i32_22 : BitVec 32 := 0#32
  let v57 : BitVec 1 := Scalar.cmpi .slt v53 c0_i32_22
  let v58 : BitVec 32 := Scalar.extui v57
  let v59 : BitVec 32 := Scalar.subi v56 v58
  let c8_i32_20 : BitVec 32 := 8#32
  let c0_i32_23 : BitVec 32 := 0#32
  let v60 : BitVec 1 := Scalar.cmpi .sgt c8_i32_20 c0_i32_23
  let v61 : BitVec 32 := Scalar.extui v60
  let c0_i32_24 : BitVec 32 := 0#32
  let v62 : BitVec 1 := Scalar.cmpi .slt c8_i32_20 c0_i32_24
  let v63 : BitVec 32 := Scalar.extui v62
  let v64 : BitVec 32 := Scalar.subi v61 v63
  let v65 : BitVec 1 := Scalar.cmpi .ne v59 v64
  let v66 : BitVec 32 := Scalar.remsi v53 c8_i32_20
  let c0_i32_25 : BitVec 32 := 0#32
  let v67 : BitVec 1 := Scalar.cmpi .ne v66 c0_i32_25
  let v68 : BitVec 1 := Scalar.andi v65 v67
  let v54 : BitVec 32 := Scalar.divsi v53 c8_i32_20
  let c1_i32_26 : BitVec 32 := 1#32
  let v69 : BitVec 32 := Scalar.subi v54 c1_i32_26
  let v70 : BitVec 32 := Scalar.select v68 v69 v54
  let c8_i32_27 : BitVec 32 := 8#32
  let v71 : BitVec 32 := Scalar.muli v70 c8_i32_27
  let v72 : BitVec 32 := Scalar.maxsi c0_i32_28 v71
  let v73 : BitVec 32 := Scalar.minsi c48_i32_29 v72
  let c256_i32 : BitVec 32 := 256#32
  let v363 : BitVec 32 := Scalar.muli v73 c256_i32
  let v364 : BitVec 32 := v363
  let v439 : Index := Scalar.indexCast v364
  ![0, 1, v438.toNat, v439.toNat]

def k0_chk2 (v27 : BitVec 32) (v52 : BitVec 32) : Prop :=
  (2048 ∣ (k0_mult2 v52).toNat) ∧
  (∀ a, (k0_off2 v27 v52) a + S1x1x48x12288.size a ≤ S1x2x96x24576.size a) ∧
  (∀ a, (k0_off3 v27 v52) a + S1x1x48x12288.size a ≤ S1x2x96x24576.size a)
theorem k0_mult2_dvd : ∀ (v27 : BitVec 32) (v52 : BitVec 32) (k0_hw2 : k0_chk2 v27 v52), 2048 ∣ (k0_mult2 v52).toNat := fun v27 v52 k0_hw2 => k0_hw2.1
theorem k0_off2_inb : ∀ (v27 : BitVec 32) (v52 : BitVec 32) (k0_hw2 : k0_chk2 v27 v52), ∀ a, (k0_off2 v27 v52) a + S1x1x48x12288.size a ≤ S1x2x96x24576.size a := fun v27 v52 k0_hw2 => k0_hw2.2.1
theorem k0_off3_inb : ∀ (v27 : BitVec 32) (v52 : BitVec 32) (k0_hw2 : k0_chk2 v27 v52), ∀ a, (k0_off3 v27 v52) a + S1x1x48x12288.size a ≤ S1x2x96x24576.size a := fun v27 v52 k0_hw2 => k0_hw2.2.2

def cc0_transform_0 (k0_off1_inb : ∀ i : grid0.Coords, ∀ a, (k0_off1 i) a + S1.size a ≤ S512.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S512) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2x96x24576 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x5x5x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S4x512x96x96 : Shape := ⟨4, ![4, 512, 96, 96]⟩
abbrev S512x5 : Shape := ⟨2, ![512, 5]⟩
abbrev S512x1 : Shape := ⟨2, ![512, 1]⟩
abbrev S512 : Shape := ⟨1, ![512]⟩
abbrev S_ : Shape := ⟨0, ![]⟩
abbrev S11 : Shape := ⟨1, ![11]⟩
abbrev S1x11 : Shape := ⟨2, ![1, 11]⟩
abbrev S512x11 : Shape := ⟨2, ![512, 11]⟩
abbrev S512x11x1 : Shape := ⟨3, ![512, 11, 1]⟩
abbrev S512x1x11 : Shape := ⟨3, ![512, 1, 11]⟩
abbrev S512x11x11 : Shape := ⟨3, ![512, 11, 11]⟩
abbrev S4x96x96x512 : Shape := ⟨4, ![4, 96, 96, 512]⟩
abbrev S36864x512 : Shape := ⟨2, ![36864, 512]⟩
abbrev S512x1x1 : Shape := ⟨3, ![512, 1, 1]⟩
abbrev S512x11x11x512 : Shape := ⟨4, ![512, 11, 11, 512]⟩
abbrev S512x11x11x1 : Shape := ⟨4, ![512, 11, 11, 1]⟩
abbrev S512x512x11x11 : Shape := ⟨4, ![512, 512, 11, 11]⟩
abbrev S512x512x5x5 : Shape := ⟨4, ![512, 512, 5, 5]⟩

abbrev nBuf : Space → Nat
  | .hbm => 1628
  | .vmem => 0
  | .smem => 0
  | _ => 0

abbrev hbmTy0_0 (i : Nat) : BufTy := match i % 128 with
  | 0 => ⟨S4x512x96x96, .f32⟩
  | 1 => ⟨S512x5, .f32⟩
  | 2 => ⟨S512x1, .f32⟩
  | 3 => ⟨S512, .f32⟩
  | 4 => ⟨S512, .i32⟩
  | 5 => ⟨S512x1, .f32⟩
  | 6 => ⟨S512, .f32⟩
  | 7 => ⟨S_, .f32⟩
  | 8 => ⟨S512, .f32⟩
  | 9 => ⟨S512, .f32⟩
  | 10 => ⟨S512x1, .f32⟩
  | 11 => ⟨S512, .f32⟩
  | 12 => ⟨S_, .f32⟩
  | 13 => ⟨S512, .f32⟩
  | 14 => ⟨S512, .f32⟩
  | 15 => ⟨S512x1, .f32⟩
  | 16 => ⟨S512, .f32⟩
  | 17 => ⟨S_, .f32⟩
  | 18 => ⟨S512, .f32⟩
  | 19 => ⟨S512, .f32⟩
  | 20 => ⟨S512x1, .f32⟩
  | 21 => ⟨S512, .f32⟩
  | 22 => ⟨S_, .f32⟩
  | 23 => ⟨S512, .f32⟩
  | 24 => ⟨S512, .f32⟩
  | 25 => ⟨S512, .f32⟩
  | 26 => ⟨S_, .f32⟩
  | 27 => ⟨S512, .f32⟩
  | 28 => ⟨S512, .f32⟩
  | 29 => ⟨S512, .f32⟩
  | 30 => ⟨S_, .f32⟩
  | 31 => ⟨S512, .f32⟩
  | 32 => ⟨S512, .f32⟩
  | 33 => ⟨S_, .f32⟩
  | 34 => ⟨S512, .f32⟩
  | 35 => ⟨S512, .f32⟩
  | 36 => ⟨S_, .f32⟩
  | 37 => ⟨S512, .f32⟩
  | 38 => ⟨S512, .f32⟩
  | 39 => ⟨S11, .f32⟩
  | 40 => ⟨S11, .f32⟩
  | 41 => ⟨S512x1, .f32⟩
  | 42 => ⟨S1x11, .f32⟩
  | 43 => ⟨S512x1, .f32⟩
  | 44 => ⟨S512x11, .f32⟩
  | 45 => ⟨S512x11, .f32⟩
  | 46 => ⟨S512x11, .f32⟩
  | 47 => ⟨S512x11, .f32⟩
  | 48 => ⟨S512x11, .f32⟩
  | 49 => ⟨S512x1, .f32⟩
  | 50 => ⟨S1x11, .f32⟩
  | 51 => ⟨S512x1, .f32⟩
  | 52 => ⟨S512x11, .f32⟩
  | 53 => ⟨S512x11, .f32⟩
  | 54 => ⟨S512x11, .f32⟩
  | 55 => ⟨S512x11, .f32⟩
  | 56 => ⟨S512x11, .f32⟩
  | 57 => ⟨S_, .f32⟩
  | 58 => ⟨S512, .f32⟩
  | 59 => ⟨S512, .f32⟩
  | 60 => ⟨S512, .f32⟩
  | 61 => ⟨S_, .f32⟩
  | 62 => ⟨S512, .f32⟩
  | 63 => ⟨S512, .f32⟩
  | 64 => ⟨S_, .f32⟩
  | 65 => ⟨S512, .f32⟩
  | 66 => ⟨S512, .f32⟩
  | 67 => ⟨S512, .f32⟩
  | 68 => ⟨S_, .f32⟩
  | 69 => ⟨S512, .f32⟩
  | 70 => ⟨S512, .f32⟩
  | 71 => ⟨S_, .f32⟩
  | 72 => ⟨S512x11, .f32⟩
  | 73 => ⟨S512x11, .i1⟩
  | 74 => ⟨S_, .f32⟩
  | 75 => ⟨S512x11, .f32⟩
  | 76 => ⟨S512x11, .i1⟩
  | 77 => ⟨S512x11, .i1⟩
  | 78 => ⟨S512x11x1, .i1⟩
  | 79 => ⟨S_, .f32⟩
  | 80 => ⟨S512x11, .f32⟩
  | 81 => ⟨S512x11, .i1⟩
  | 82 => ⟨S_, .f32⟩
  | 83 => ⟨S512x11, .f32⟩
  | 84 => ⟨S512x11, .i1⟩
  | 85 => ⟨S512x11, .i1⟩
  | 86 => ⟨S512x1x11, .i1⟩
  | 87 => ⟨S512x11x11, .i1⟩
  | 88 => ⟨S512x11x11, .i1⟩
  | 89 => ⟨S512x11x11, .i1⟩
  | 90 => ⟨S4x96x96x512, .f32⟩
  | 91 => ⟨S36864x512, .f32⟩
  | 92 => ⟨S512x1x1, .i32⟩
  | 93 => ⟨S_, .i32⟩
  | 94 => ⟨S512x1x1, .i32⟩
  | 95 => ⟨S512x1x1, .i32⟩
  | 96 => ⟨S_, .f32⟩
  | 97 => ⟨S512x11x11x512, .f32⟩
  | 98 => ⟨S_, .f32⟩
  | 99 => ⟨S512x11x11, .f32⟩
  | 100 => ⟨S512x1, .f32⟩
  | 101 => ⟨S_, .f32⟩
  | 102 => ⟨S512x1, .f32⟩
  | 103 => ⟨S512x1, .f32⟩
  | 104 => ⟨S512x11, .f32⟩
  | 105 => ⟨S512x11, .f32⟩
  | 106 => ⟨S512x1, .f32⟩
  | 107 => ⟨S_, .f32⟩
  | 108 => ⟨S512x1, .f32⟩
  | 109 => ⟨S512x1, .f32⟩
  | 110 => ⟨S512x11, .f32⟩
  | 111 => ⟨S512x11, .f32⟩
  | 112 => ⟨S_, .f32⟩
  | 113 => ⟨S512x11, .f32⟩
  | 114 => ⟨S512x11, .i1⟩
  | 115 => ⟨S_, .f32⟩
  | 116 => ⟨S512x11, .f32⟩
  | 117 => ⟨S512x11, .i1⟩
  | 118 => ⟨S512x11, .i1⟩
  | 119 => ⟨S512x11x1, .i1⟩
  | 120 => ⟨S_, .f32⟩
  | 121 => ⟨S512x11, .f32⟩
  | 122 => ⟨S512x11, .i1⟩
  | 123 => ⟨S_, .f32⟩
  | 124 => ⟨S512x11, .f32⟩
  | 125 => ⟨S512x11, .i1⟩
  | 126 => ⟨S512x11, .i1⟩
  | 127 => ⟨S512x1x11, .i1⟩
  | _ => ⟨S4x512x96x96, .f32⟩

abbrev hbmTy0_1 (i : Nat) : BufTy := match i % 128 with
  | 0 => ⟨S512x11x11, .i1⟩
  | 1 => ⟨S512x11x11, .i1⟩
  | 2 => ⟨S512x11x11, .i1⟩
  | 3 => ⟨S512x11, .f32⟩
  | 4 => ⟨S_, .f32⟩
  | 5 => ⟨S_, .f32⟩
  | 6 => ⟨S_, .f32⟩
  | 7 => ⟨S512x11, .f32⟩
  | 8 => ⟨S512x11, .f32⟩
  | 9 => ⟨S_, .f32⟩
  | 10 => ⟨S512x11, .f32⟩
  | 11 => ⟨S512x11, .f32⟩
  | 12 => ⟨S512x11, .f32⟩
  | 13 => ⟨S_, .f32⟩
  | 14 => ⟨S_, .f32⟩
  | 15 => ⟨S_, .f32⟩
  | 16 => ⟨S512x11, .f32⟩
  | 17 => ⟨S512x11, .f32⟩
  | 18 => ⟨S_, .f32⟩
  | 19 => ⟨S512x11, .f32⟩
  | 20 => ⟨S512x11, .f32⟩
  | 21 => ⟨S512x11, .f32⟩
  | 22 => ⟨S512x11x1, .f32⟩
  | 23 => ⟨S512x11, .f32⟩
  | 24 => ⟨S512x1x11, .f32⟩
  | 25 => ⟨S_, .f32⟩
  | 26 => ⟨S512x11x11, .f32⟩
  | 27 => ⟨S512x1x1, .f32⟩
  | 28 => ⟨S512x1x11, .f32⟩
  | 29 => ⟨S512x1x11, .f32⟩
  | 30 => ⟨S512x11, .f32⟩
  | 31 => ⟨S512x1x11, .f32⟩
  | 32 => ⟨S512x11, .i32⟩
  | 33 => ⟨S512x11x1, .i32⟩
  | 34 => ⟨S512x11, .i32⟩
  | 35 => ⟨S512x1x11, .i32⟩
  | 36 => ⟨S_, .i32⟩
  | 37 => ⟨S512x11x1, .i32⟩
  | 38 => ⟨S512x11x1, .i32⟩
  | 39 => ⟨S512x11x1, .i32⟩
  | 40 => ⟨S512x11x1, .i32⟩
  | 41 => ⟨S512x11x11, .i32⟩
  | 42 => ⟨S512x11x11, .i32⟩
  | 43 => ⟨S512x11x11, .i32⟩
  | 44 => ⟨S_, .i32⟩
  | 45 => ⟨S512x11x11, .i32⟩
  | 46 => ⟨S512x11x11, .i1⟩
  | 47 => ⟨S_, .i32⟩
  | 48 => ⟨S512x11x11, .i32⟩
  | 49 => ⟨S512x11x11, .i32⟩
  | 50 => ⟨S512x11x11, .i32⟩
  | 51 => ⟨S512x11x11x1, .i32⟩
  | 52 => ⟨S512x11x11x512, .f32⟩
  | 53 => ⟨S_, .f32⟩
  | 54 => ⟨S512x11x1, .f32⟩
  | 55 => ⟨S512x11x1, .f32⟩
  | 56 => ⟨S_, .f32⟩
  | 57 => ⟨S512x1x11, .f32⟩
  | 58 => ⟨S512x1x11, .f32⟩
  | 59 => ⟨S512x11x11, .f32⟩
  | 60 => ⟨S512x11x11, .f32⟩
  | 61 => ⟨S512x11x11, .f32⟩
  | 62 => ⟨S512x11x11x1, .f32⟩
  | 63 => ⟨S512x11x11x512, .f32⟩
  | 64 => ⟨S512x11x11x512, .f32⟩
  | 65 => ⟨S_, .i32⟩
  | 66 => ⟨S512x11x11, .i32⟩
  | 67 => ⟨S512x11x11, .i32⟩
  | 68 => ⟨S_, .i32⟩
  | 69 => ⟨S512x11x11, .i32⟩
  | 70 => ⟨S512x11x11, .i1⟩
  | 71 => ⟨S_, .i32⟩
  | 72 => ⟨S512x11x11, .i32⟩
  | 73 => ⟨S512x11x11, .i32⟩
  | 74 => ⟨S512x11x11, .i32⟩
  | 75 => ⟨S512x11x11x1, .i32⟩
  | 76 => ⟨S512x11x11x512, .f32⟩
  | 77 => ⟨S_, .f32⟩
  | 78 => ⟨S512x11x1, .f32⟩
  | 79 => ⟨S512x11x1, .f32⟩
  | 80 => ⟨S512x11x11, .f32⟩
  | 81 => ⟨S512x11x11, .f32⟩
  | 82 => ⟨S512x11x11, .f32⟩
  | 83 => ⟨S512x11x11x1, .f32⟩
  | 84 => ⟨S512x11x11x512, .f32⟩
  | 85 => ⟨S512x11x11x512, .f32⟩
  | 86 => ⟨S512x11x11x512, .f32⟩
  | 87 => ⟨S_, .i32⟩
  | 88 => ⟨S512x11x11, .i32⟩
  | 89 => ⟨S512x11x11, .i32⟩
  | 90 => ⟨S_, .i32⟩
  | 91 => ⟨S512x11x11, .i32⟩
  | 92 => ⟨S512x11x11, .i1⟩
  | 93 => ⟨S_, .i32⟩
  | 94 => ⟨S512x11x11, .i32⟩
  | 95 => ⟨S512x11x11, .i32⟩
  | 96 => ⟨S512x11x11, .i32⟩
  | 97 => ⟨S512x11x11x1, .i32⟩
  | 98 => ⟨S512x11x11x512, .f32⟩
  | 99 => ⟨S_, .f32⟩
  | 100 => ⟨S512x1x11, .f32⟩
  | 101 => ⟨S512x1x11, .f32⟩
  | 102 => ⟨S512x11x11, .f32⟩
  | 103 => ⟨S512x11x11, .f32⟩
  | 104 => ⟨S512x11x11, .f32⟩
  | 105 => ⟨S512x11x11x1, .f32⟩
  | 106 => ⟨S512x11x11x512, .f32⟩
  | 107 => ⟨S512x11x11x512, .f32⟩
  | 108 => ⟨S512x11x11x512, .f32⟩
  | 109 => ⟨S_, .i32⟩
  | 110 => ⟨S512x11x11, .i32⟩
  | 111 => ⟨S512x11x11, .i32⟩
  | 112 => ⟨S_, .i32⟩
  | 113 => ⟨S512x11x11, .i32⟩
  | 114 => ⟨S512x11x11, .i32⟩
  | 115 => ⟨S_, .i32⟩
  | 116 => ⟨S512x11x11, .i32⟩
  | 117 => ⟨S512x11x11, .i1⟩
  | 118 => ⟨S_, .i32⟩
  | 119 => ⟨S512x11x11, .i32⟩
  | 120 => ⟨S512x11x11, .i32⟩
  | 121 => ⟨S512x11x11, .i32⟩
  | 122 => ⟨S512x11x11x1, .i32⟩
  | 123 => ⟨S512x11x11x512, .f32⟩
  | 124 => ⟨S512x11x11, .f32⟩
  | 125 => ⟨S512x11x11, .f32⟩
  | 126 => ⟨S512x11x11, .f32⟩
  | 127 => ⟨S512x11x11x1, .f32⟩
  | _ => ⟨S4x512x96x96, .f32⟩

abbrev hbmTy0_2 (i : Nat) : BufTy := match i % 128 with
  | 0 => ⟨S512x11x11x512, .f32⟩
  | 1 => ⟨S512x11x11x512, .f32⟩
  | 2 => ⟨S512x11x11x512, .f32⟩
  | 3 => ⟨S512x11x11x1, .i1⟩
  | 4 => ⟨S_, .f32⟩
  | 5 => ⟨S_, .f32⟩
  | 6 => ⟨S512x11x11x512, .i1⟩
  | 7 => ⟨S512x11x11x512, .f32⟩
  | 8 => ⟨S512x11x11x512, .f32⟩
  | 9 => ⟨S512x11x11x512, .f32⟩
  | 10 => ⟨S512x11x11, .f32⟩
  | 11 => ⟨S512x11x11, .f32⟩
  | 12 => ⟨S512x1, .f32⟩
  | 13 => ⟨S_, .f32⟩
  | 14 => ⟨S512x1, .f32⟩
  | 15 => ⟨S512x1, .f32⟩
  | 16 => ⟨S512x11, .f32⟩
  | 17 => ⟨S512x11, .f32⟩
  | 18 => ⟨S512x1, .f32⟩
  | 19 => ⟨S_, .f32⟩
  | 20 => ⟨S512x1, .f32⟩
  | 21 => ⟨S512x1, .f32⟩
  | 22 => ⟨S512x11, .f32⟩
  | 23 => ⟨S512x11, .f32⟩
  | 24 => ⟨S_, .f32⟩
  | 25 => ⟨S512x11, .f32⟩
  | 26 => ⟨S512x11, .i1⟩
  | 27 => ⟨S_, .f32⟩
  | 28 => ⟨S512x11, .f32⟩
  | 29 => ⟨S512x11, .i1⟩
  | 30 => ⟨S512x11, .i1⟩
  | 31 => ⟨S512x11x1, .i1⟩
  | 32 => ⟨S_, .f32⟩
  | 33 => ⟨S512x11, .f32⟩
  | 34 => ⟨S512x11, .i1⟩
  | 35 => ⟨S_, .f32⟩
  | 36 => ⟨S512x11, .f32⟩
  | 37 => ⟨S512x11, .i1⟩
  | 38 => ⟨S512x11, .i1⟩
  | 39 => ⟨S512x1x11, .i1⟩
  | 40 => ⟨S512x11x11, .i1⟩
  | 41 => ⟨S512x11x11, .i1⟩
  | 42 => ⟨S512x11x11, .i1⟩
  | 43 => ⟨S512x11, .f32⟩
  | 44 => ⟨S_, .f32⟩
  | 45 => ⟨S_, .f32⟩
  | 46 => ⟨S_, .f32⟩
  | 47 => ⟨S512x11, .f32⟩
  | 48 => ⟨S512x11, .f32⟩
  | 49 => ⟨S_, .f32⟩
  | 50 => ⟨S512x11, .f32⟩
  | 51 => ⟨S512x11, .f32⟩
  | 52 => ⟨S512x11, .f32⟩
  | 53 => ⟨S_, .f32⟩
  | 54 => ⟨S_, .f32⟩
  | 55 => ⟨S_, .f32⟩
  | 56 => ⟨S512x11, .f32⟩
  | 57 => ⟨S512x11, .f32⟩
  | 58 => ⟨S_, .f32⟩
  | 59 => ⟨S512x11, .f32⟩
  | 60 => ⟨S512x11, .f32⟩
  | 61 => ⟨S512x11, .f32⟩
  | 62 => ⟨S512x11x1, .f32⟩
  | 63 => ⟨S512x11, .f32⟩
  | 64 => ⟨S512x1x11, .f32⟩
  | 65 => ⟨S_, .f32⟩
  | 66 => ⟨S512x11x11, .f32⟩
  | 67 => ⟨S512x1x1, .f32⟩
  | 68 => ⟨S512x1x11, .f32⟩
  | 69 => ⟨S512x1x11, .f32⟩
  | 70 => ⟨S512x11, .f32⟩
  | 71 => ⟨S512x1x11, .f32⟩
  | 72 => ⟨S512x11, .i32⟩
  | 73 => ⟨S512x11x1, .i32⟩
  | 74 => ⟨S512x11, .i32⟩
  | 75 => ⟨S512x1x11, .i32⟩
  | 76 => ⟨S_, .i32⟩
  | 77 => ⟨S512x11x1, .i32⟩
  | 78 => ⟨S512x11x1, .i32⟩
  | 79 => ⟨S512x11x1, .i32⟩
  | 80 => ⟨S512x11x1, .i32⟩
  | 81 => ⟨S512x11x11, .i32⟩
  | 82 => ⟨S512x11x11, .i32⟩
  | 83 => ⟨S512x11x11, .i32⟩
  | 84 => ⟨S_, .i32⟩
  | 85 => ⟨S512x11x11, .i32⟩
  | 86 => ⟨S512x11x11, .i1⟩
  | 87 => ⟨S_, .i32⟩
  | 88 => ⟨S512x11x11, .i32⟩
  | 89 => ⟨S512x11x11, .i32⟩
  | 90 => ⟨S512x11x11, .i32⟩
  | 91 => ⟨S512x11x11x1, .i32⟩
  | 92 => ⟨S512x11x11x512, .f32⟩
  | 93 => ⟨S_, .f32⟩
  | 94 => ⟨S512x11x1, .f32⟩
  | 95 => ⟨S512x11x1, .f32⟩
  | 96 => ⟨S_, .f32⟩
  | 97 => ⟨S512x1x11, .f32⟩
  | 98 => ⟨S512x1x11, .f32⟩
  | 99 => ⟨S512x11x11, .f32⟩
  | 100 => ⟨S512x11x11, .f32⟩
  | 101 => ⟨S512x11x11, .f32⟩
  | 102 => ⟨S512x11x11x1, .f32⟩
  | 103 => ⟨S512x11x11x512, .f32⟩
  | 104 => ⟨S512x11x11x512, .f32⟩
  | 105 => ⟨S_, .i32⟩
  | 106 => ⟨S512x11x11, .i32⟩
  | 107 => ⟨S512x11x11, .i32⟩
  | 108 => ⟨S_, .i32⟩
  | 109 => ⟨S512x11x11, .i32⟩
  | 110 => ⟨S512x11x11, .i1⟩
  | 111 => ⟨S_, .i32⟩
  | 112 => ⟨S512x11x11, .i32⟩
  | 113 => ⟨S512x11x11, .i32⟩
  | 114 => ⟨S512x11x11, .i32⟩
  | 115 => ⟨S512x11x11x1, .i32⟩
  | 116 => ⟨S512x11x11x512, .f32⟩
  | 117 => ⟨S_, .f32⟩
  | 118 => ⟨S512x11x1, .f32⟩
  | 119 => ⟨S512x11x1, .f32⟩
  | 120 => ⟨S512x11x11, .f32⟩
  | 121 => ⟨S512x11x11, .f32⟩
  | 122 => ⟨S512x11x11, .f32⟩
  | 123 => ⟨S512x11x11x1, .f32⟩
  | 124 => ⟨S512x11x11x512, .f32⟩
  | 125 => ⟨S512x11x11x512, .f32⟩
  | 126 => ⟨S512x11x11x512, .f32⟩
  | 127 => ⟨S_, .i32⟩
  | _ => ⟨S4x512x96x96, .f32⟩

abbrev hbmTy0_3 (i : Nat) : BufTy := match i % 128 with
  | 0 => ⟨S512x11x11, .i32⟩
  | 1 => ⟨S512x11x11, .i32⟩
  | 2 => ⟨S_, .i32⟩
  | 3 => ⟨S512x11x11, .i32⟩
  | 4 => ⟨S512x11x11, .i1⟩
  | 5 => ⟨S_, .i32⟩
  | 6 => ⟨S512x11x11, .i32⟩
  | 7 => ⟨S512x11x11, .i32⟩
  | 8 => ⟨S512x11x11, .i32⟩
  | 9 => ⟨S512x11x11x1, .i32⟩
  | 10 => ⟨S512x11x11x512, .f32⟩
  | 11 => ⟨S_, .f32⟩
  | 12 => ⟨S512x1x11, .f32⟩
  | 13 => ⟨S512x1x11, .f32⟩
  | 14 => ⟨S512x11x11, .f32⟩
  | 15 => ⟨S512x11x11, .f32⟩
  | 16 => ⟨S512x11x11, .f32⟩
  | 17 => ⟨S512x11x11x1, .f32⟩
  | 18 => ⟨S512x11x11x512, .f32⟩
  | 19 => ⟨S512x11x11x512, .f32⟩
  | 20 => ⟨S512x11x11x512, .f32⟩
  | 21 => ⟨S_, .i32⟩
  | 22 => ⟨S512x11x11, .i32⟩
  | 23 => ⟨S512x11x11, .i32⟩
  | 24 => ⟨S_, .i32⟩
  | 25 => ⟨S512x11x11, .i32⟩
  | 26 => ⟨S512x11x11, .i32⟩
  | 27 => ⟨S_, .i32⟩
  | 28 => ⟨S512x11x11, .i32⟩
  | 29 => ⟨S512x11x11, .i1⟩
  | 30 => ⟨S_, .i32⟩
  | 31 => ⟨S512x11x11, .i32⟩
  | 32 => ⟨S512x11x11, .i32⟩
  | 33 => ⟨S512x11x11, .i32⟩
  | 34 => ⟨S512x11x11x1, .i32⟩
  | 35 => ⟨S512x11x11x512, .f32⟩
  | 36 => ⟨S512x11x11, .f32⟩
  | 37 => ⟨S512x11x11, .f32⟩
  | 38 => ⟨S512x11x11, .f32⟩
  | 39 => ⟨S512x11x11x1, .f32⟩
  | 40 => ⟨S512x11x11x512, .f32⟩
  | 41 => ⟨S512x11x11x512, .f32⟩
  | 42 => ⟨S512x11x11x512, .f32⟩
  | 43 => ⟨S512x11x11x1, .i1⟩
  | 44 => ⟨S_, .f32⟩
  | 45 => ⟨S_, .f32⟩
  | 46 => ⟨S512x11x11x512, .i1⟩
  | 47 => ⟨S512x11x11x512, .f32⟩
  | 48 => ⟨S512x11x11x512, .f32⟩
  | 49 => ⟨S512x11x11x512, .f32⟩
  | 50 => ⟨S512x11x11, .f32⟩
  | 51 => ⟨S512x11x11, .f32⟩
  | 52 => ⟨S512x1, .f32⟩
  | 53 => ⟨S_, .f32⟩
  | 54 => ⟨S512x1, .f32⟩
  | 55 => ⟨S512x1, .f32⟩
  | 56 => ⟨S512x11, .f32⟩
  | 57 => ⟨S512x11, .f32⟩
  | 58 => ⟨S512x1, .f32⟩
  | 59 => ⟨S_, .f32⟩
  | 60 => ⟨S512x1, .f32⟩
  | 61 => ⟨S512x1, .f32⟩
  | 62 => ⟨S512x11, .f32⟩
  | 63 => ⟨S512x11, .f32⟩
  | 64 => ⟨S_, .f32⟩
  | 65 => ⟨S512x11, .f32⟩
  | 66 => ⟨S512x11, .i1⟩
  | 67 => ⟨S_, .f32⟩
  | 68 => ⟨S512x11, .f32⟩
  | 69 => ⟨S512x11, .i1⟩
  | 70 => ⟨S512x11, .i1⟩
  | 71 => ⟨S512x11x1, .i1⟩
  | 72 => ⟨S_, .f32⟩
  | 73 => ⟨S512x11, .f32⟩
  | 74 => ⟨S512x11, .i1⟩
  | 75 => ⟨S_, .f32⟩
  | 76 => ⟨S512x11, .f32⟩
  | 77 => ⟨S512x11, .i1⟩
  | 78 => ⟨S512x11, .i1⟩
  | 79 => ⟨S512x1x11, .i1⟩
  | 80 => ⟨S512x11x11, .i1⟩
  | 81 => ⟨S512x11x11, .i1⟩
  | 82 => ⟨S512x11x11, .i1⟩
  | 83 => ⟨S512x11, .f32⟩
  | 84 => ⟨S_, .f32⟩
  | 85 => ⟨S_, .f32⟩
  | 86 => ⟨S_, .f32⟩
  | 87 => ⟨S512x11, .f32⟩
  | 88 => ⟨S512x11, .f32⟩
  | 89 => ⟨S_, .f32⟩
  | 90 => ⟨S512x11, .f32⟩
  | 91 => ⟨S512x11, .f32⟩
  | 92 => ⟨S512x11, .f32⟩
  | 93 => ⟨S_, .f32⟩
  | 94 => ⟨S_, .f32⟩
  | 95 => ⟨S_, .f32⟩
  | 96 => ⟨S512x11, .f32⟩
  | 97 => ⟨S512x11, .f32⟩
  | 98 => ⟨S_, .f32⟩
  | 99 => ⟨S512x11, .f32⟩
  | 100 => ⟨S512x11, .f32⟩
  | 101 => ⟨S512x11, .f32⟩
  | 102 => ⟨S512x11x1, .f32⟩
  | 103 => ⟨S512x11, .f32⟩
  | 104 => ⟨S512x1x11, .f32⟩
  | 105 => ⟨S_, .f32⟩
  | 106 => ⟨S512x11x11, .f32⟩
  | 107 => ⟨S512x1x1, .f32⟩
  | 108 => ⟨S512x1x11, .f32⟩
  | 109 => ⟨S512x1x11, .f32⟩
  | 110 => ⟨S512x11, .f32⟩
  | 111 => ⟨S512x1x11, .f32⟩
  | 112 => ⟨S512x11, .i32⟩
  | 113 => ⟨S512x11x1, .i32⟩
  | 114 => ⟨S512x11, .i32⟩
  | 115 => ⟨S512x1x11, .i32⟩
  | 116 => ⟨S_, .i32⟩
  | 117 => ⟨S512x11x1, .i32⟩
  | 118 => ⟨S512x11x1, .i32⟩
  | 119 => ⟨S512x11x1, .i32⟩
  | 120 => ⟨S512x11x1, .i32⟩
  | 121 => ⟨S512x11x11, .i32⟩
  | 122 => ⟨S512x11x11, .i32⟩
  | 123 => ⟨S512x11x11, .i32⟩
  | 124 => ⟨S_, .i32⟩
  | 125 => ⟨S512x11x11, .i32⟩
  | 126 => ⟨S512x11x11, .i1⟩
  | 127 => ⟨S_, .i32⟩
  | _ => ⟨S4x512x96x96, .f32⟩

abbrev hbmTy0_4 (i : Nat) : BufTy := match i % 128 with
  | 0 => ⟨S512x11x11, .i32⟩
  | 1 => ⟨S512x11x11, .i32⟩
  | 2 => ⟨S512x11x11, .i32⟩
  | 3 => ⟨S512x11x11x1, .i32⟩
  | 4 => ⟨S512x11x11x512, .f32⟩
  | 5 => ⟨S_, .f32⟩
  | 6 => ⟨S512x11x1, .f32⟩
  | 7 => ⟨S512x11x1, .f32⟩
  | 8 => ⟨S_, .f32⟩
  | 9 => ⟨S512x1x11, .f32⟩
  | 10 => ⟨S512x1x11, .f32⟩
  | 11 => ⟨S512x11x11, .f32⟩
  | 12 => ⟨S512x11x11, .f32⟩
  | 13 => ⟨S512x11x11, .f32⟩
  | 14 => ⟨S512x11x11x1, .f32⟩
  | 15 => ⟨S512x11x11x512, .f32⟩
  | 16 => ⟨S512x11x11x512, .f32⟩
  | 17 => ⟨S_, .i32⟩
  | 18 => ⟨S512x11x11, .i32⟩
  | 19 => ⟨S512x11x11, .i32⟩
  | 20 => ⟨S_, .i32⟩
  | 21 => ⟨S512x11x11, .i32⟩
  | 22 => ⟨S512x11x11, .i1⟩
  | 23 => ⟨S_, .i32⟩
  | 24 => ⟨S512x11x11, .i32⟩
  | 25 => ⟨S512x11x11, .i32⟩
  | 26 => ⟨S512x11x11, .i32⟩
  | 27 => ⟨S512x11x11x1, .i32⟩
  | 28 => ⟨S512x11x11x512, .f32⟩
  | 29 => ⟨S_, .f32⟩
  | 30 => ⟨S512x11x1, .f32⟩
  | 31 => ⟨S512x11x1, .f32⟩
  | 32 => ⟨S512x11x11, .f32⟩
  | 33 => ⟨S512x11x11, .f32⟩
  | 34 => ⟨S512x11x11, .f32⟩
  | 35 => ⟨S512x11x11x1, .f32⟩
  | 36 => ⟨S512x11x11x512, .f32⟩
  | 37 => ⟨S512x11x11x512, .f32⟩
  | 38 => ⟨S512x11x11x512, .f32⟩
  | 39 => ⟨S_, .i32⟩
  | 40 => ⟨S512x11x11, .i32⟩
  | 41 => ⟨S512x11x11, .i32⟩
  | 42 => ⟨S_, .i32⟩
  | 43 => ⟨S512x11x11, .i32⟩
  | 44 => ⟨S512x11x11, .i1⟩
  | 45 => ⟨S_, .i32⟩
  | 46 => ⟨S512x11x11, .i32⟩
  | 47 => ⟨S512x11x11, .i32⟩
  | 48 => ⟨S512x11x11, .i32⟩
  | 49 => ⟨S512x11x11x1, .i32⟩
  | 50 => ⟨S512x11x11x512, .f32⟩
  | 51 => ⟨S_, .f32⟩
  | 52 => ⟨S512x1x11, .f32⟩
  | 53 => ⟨S512x1x11, .f32⟩
  | 54 => ⟨S512x11x11, .f32⟩
  | 55 => ⟨S512x11x11, .f32⟩
  | 56 => ⟨S512x11x11, .f32⟩
  | 57 => ⟨S512x11x11x1, .f32⟩
  | 58 => ⟨S512x11x11x512, .f32⟩
  | 59 => ⟨S512x11x11x512, .f32⟩
  | 60 => ⟨S512x11x11x512, .f32⟩
  | 61 => ⟨S_, .i32⟩
  | 62 => ⟨S512x11x11, .i32⟩
  | 63 => ⟨S512x11x11, .i32⟩
  | 64 => ⟨S_, .i32⟩
  | 65 => ⟨S512x11x11, .i32⟩
  | 66 => ⟨S512x11x11, .i32⟩
  | 67 => ⟨S_, .i32⟩
  | 68 => ⟨S512x11x11, .i32⟩
  | 69 => ⟨S512x11x11, .i1⟩
  | 70 => ⟨S_, .i32⟩
  | 71 => ⟨S512x11x11, .i32⟩
  | 72 => ⟨S512x11x11, .i32⟩
  | 73 => ⟨S512x11x11, .i32⟩
  | 74 => ⟨S512x11x11x1, .i32⟩
  | 75 => ⟨S512x11x11x512, .f32⟩
  | 76 => ⟨S512x11x11, .f32⟩
  | 77 => ⟨S512x11x11, .f32⟩
  | 78 => ⟨S512x11x11, .f32⟩
  | 79 => ⟨S512x11x11x1, .f32⟩
  | 80 => ⟨S512x11x11x512, .f32⟩
  | 81 => ⟨S512x11x11x512, .f32⟩
  | 82 => ⟨S512x11x11x512, .f32⟩
  | 83 => ⟨S512x11x11x1, .i1⟩
  | 84 => ⟨S_, .f32⟩
  | 85 => ⟨S_, .f32⟩
  | 86 => ⟨S512x11x11x512, .i1⟩
  | 87 => ⟨S512x11x11x512, .f32⟩
  | 88 => ⟨S512x11x11x512, .f32⟩
  | 89 => ⟨S512x11x11x512, .f32⟩
  | 90 => ⟨S512x11x11, .f32⟩
  | 91 => ⟨S512x11x11, .f32⟩
  | 92 => ⟨S512x1, .f32⟩
  | 93 => ⟨S_, .f32⟩
  | 94 => ⟨S512x1, .f32⟩
  | 95 => ⟨S512x1, .f32⟩
  | 96 => ⟨S512x11, .f32⟩
  | 97 => ⟨S512x11, .f32⟩
  | 98 => ⟨S512x1, .f32⟩
  | 99 => ⟨S_, .f32⟩
  | 100 => ⟨S512x1, .f32⟩
  | 101 => ⟨S512x1, .f32⟩
  | 102 => ⟨S512x11, .f32⟩
  | 103 => ⟨S512x11, .f32⟩
  | 104 => ⟨S_, .f32⟩
  | 105 => ⟨S512x11, .f32⟩
  | 106 => ⟨S512x11, .i1⟩
  | 107 => ⟨S_, .f32⟩
  | 108 => ⟨S512x11, .f32⟩
  | 109 => ⟨S512x11, .i1⟩
  | 110 => ⟨S512x11, .i1⟩
  | 111 => ⟨S512x11x1, .i1⟩
  | 112 => ⟨S_, .f32⟩
  | 113 => ⟨S512x11, .f32⟩
  | 114 => ⟨S512x11, .i1⟩
  | 115 => ⟨S_, .f32⟩
  | 116 => ⟨S512x11, .f32⟩
  | 117 => ⟨S512x11, .i1⟩
  | 118 => ⟨S512x11, .i1⟩
  | 119 => ⟨S512x1x11, .i1⟩
  | 120 => ⟨S512x11x11, .i1⟩
  | 121 => ⟨S512x11x11, .i1⟩
  | 122 => ⟨S512x11x11, .i1⟩
  | 123 => ⟨S512x11, .f32⟩
  | 124 => ⟨S_, .f32⟩
  | 125 => ⟨S_, .f32⟩
  | 126 => ⟨S_, .f32⟩
  | 127 => ⟨S512x11, .f32⟩
  | _ => ⟨S4x512x96x96, .f32⟩

abbrev hbmTy0_5 (i : Nat) : BufTy := match i % 128 with
  | 0 => ⟨S512x11, .f32⟩
  | 1 => ⟨S_, .f32⟩
  | 2 => ⟨S512x11, .f32⟩
  | 3 => ⟨S512x11, .f32⟩
  | 4 => ⟨S512x11, .f32⟩
  | 5 => ⟨S_, .f32⟩
  | 6 => ⟨S_, .f32⟩
  | 7 => ⟨S_, .f32⟩
  | 8 => ⟨S512x11, .f32⟩
  | 9 => ⟨S512x11, .f32⟩
  | 10 => ⟨S_, .f32⟩
  | 11 => ⟨S512x11, .f32⟩
  | 12 => ⟨S512x11, .f32⟩
  | 13 => ⟨S512x11, .f32⟩
  | 14 => ⟨S512x11x1, .f32⟩
  | 15 => ⟨S512x11, .f32⟩
  | 16 => ⟨S512x1x11, .f32⟩
  | 17 => ⟨S_, .f32⟩
  | 18 => ⟨S512x11x11, .f32⟩
  | 19 => ⟨S512x1x1, .f32⟩
  | 20 => ⟨S512x1x11, .f32⟩
  | 21 => ⟨S512x1x11, .f32⟩
  | 22 => ⟨S512x11, .f32⟩
  | 23 => ⟨S512x1x11, .f32⟩
  | 24 => ⟨S512x11, .i32⟩
  | 25 => ⟨S512x11x1, .i32⟩
  | 26 => ⟨S512x11, .i32⟩
  | 27 => ⟨S512x1x11, .i32⟩
  | 28 => ⟨S_, .i32⟩
  | 29 => ⟨S512x11x1, .i32⟩
  | 30 => ⟨S512x11x1, .i32⟩
  | 31 => ⟨S512x11x1, .i32⟩
  | 32 => ⟨S512x11x1, .i32⟩
  | 33 => ⟨S512x11x11, .i32⟩
  | 34 => ⟨S512x11x11, .i32⟩
  | 35 => ⟨S512x11x11, .i32⟩
  | 36 => ⟨S_, .i32⟩
  | 37 => ⟨S512x11x11, .i32⟩
  | 38 => ⟨S512x11x11, .i1⟩
  | 39 => ⟨S_, .i32⟩
  | 40 => ⟨S512x11x11, .i32⟩
  | 41 => ⟨S512x11x11, .i32⟩
  | 42 => ⟨S512x11x11, .i32⟩
  | 43 => ⟨S512x11x11x1, .i32⟩
  | 44 => ⟨S512x11x11x512, .f32⟩
  | 45 => ⟨S_, .f32⟩
  | 46 => ⟨S512x11x1, .f32⟩
  | 47 => ⟨S512x11x1, .f32⟩
  | 48 => ⟨S_, .f32⟩
  | 49 => ⟨S512x1x11, .f32⟩
  | 50 => ⟨S512x1x11, .f32⟩
  | 51 => ⟨S512x11x11, .f32⟩
  | 52 => ⟨S512x11x11, .f32⟩
  | 53 => ⟨S512x11x11, .f32⟩
  | 54 => ⟨S512x11x11x1, .f32⟩
  | 55 => ⟨S512x11x11x512, .f32⟩
  | 56 => ⟨S512x11x11x512, .f32⟩
  | 57 => ⟨S_, .i32⟩
  | 58 => ⟨S512x11x11, .i32⟩
  | 59 => ⟨S512x11x11, .i32⟩
  | 60 => ⟨S_, .i32⟩
  | 61 => ⟨S512x11x11, .i32⟩
  | 62 => ⟨S512x11x11, .i1⟩
  | 63 => ⟨S_, .i32⟩
  | 64 => ⟨S512x11x11, .i32⟩
  | 65 => ⟨S512x11x11, .i32⟩
  | 66 => ⟨S512x11x11, .i32⟩
  | 67 => ⟨S512x11x11x1, .i32⟩
  | 68 => ⟨S512x11x11x512, .f32⟩
  | 69 => ⟨S_, .f32⟩
  | 70 => ⟨S512x11x1, .f32⟩
  | 71 => ⟨S512x11x1, .f32⟩
  | 72 => ⟨S512x11x11, .f32⟩
  | 73 => ⟨S512x11x11, .f32⟩
  | 74 => ⟨S512x11x11, .f32⟩
  | 75 => ⟨S512x11x11x1, .f32⟩
  | 76 => ⟨S512x11x11x512, .f32⟩
  | 77 => ⟨S512x11x11x512, .f32⟩
  | 78 => ⟨S512x11x11x512, .f32⟩
  | 79 => ⟨S_, .i32⟩
  | 80 => ⟨S512x11x11, .i32⟩
  | 81 => ⟨S512x11x11, .i32⟩
  | 82 => ⟨S_, .i32⟩
  | 83 => ⟨S512x11x11, .i32⟩
  | 84 => ⟨S512x11x11, .i1⟩
  | 85 => ⟨S_, .i32⟩
  | 86 => ⟨S512x11x11, .i32⟩
  | 87 => ⟨S512x11x11, .i32⟩
  | 88 => ⟨S512x11x11, .i32⟩
  | 89 => ⟨S512x11x11x1, .i32⟩
  | 90 => ⟨S512x11x11x512, .f32⟩
  | 91 => ⟨S_, .f32⟩
  | 92 => ⟨S512x1x11, .f32⟩
  | 93 => ⟨S512x1x11, .f32⟩
  | 94 => ⟨S512x11x11, .f32⟩
  | 95 => ⟨S512x11x11, .f32⟩
  | 96 => ⟨S512x11x11, .f32⟩
  | 97 => ⟨S512x11x11x1, .f32⟩
  | 98 => ⟨S512x11x11x512, .f32⟩
  | 99 => ⟨S512x11x11x512, .f32⟩
  | 100 => ⟨S512x11x11x512, .f32⟩
  | 101 => ⟨S_, .i32⟩
  | 102 => ⟨S512x11x11, .i32⟩
  | 103 => ⟨S512x11x11, .i32⟩
  | 104 => ⟨S_, .i32⟩
  | 105 => ⟨S512x11x11, .i32⟩
  | 106 => ⟨S512x11x11, .i32⟩
  | 107 => ⟨S_, .i32⟩
  | 108 => ⟨S512x11x11, .i32⟩
  | 109 => ⟨S512x11x11, .i1⟩
  | 110 => ⟨S_, .i32⟩
  | 111 => ⟨S512x11x11, .i32⟩
  | 112 => ⟨S512x11x11, .i32⟩
  | 113 => ⟨S512x11x11, .i32⟩
  | 114 => ⟨S512x11x11x1, .i32⟩
  | 115 => ⟨S512x11x11x512, .f32⟩
  | 116 => ⟨S512x11x11, .f32⟩
  | 117 => ⟨S512x11x11, .f32⟩
  | 118 => ⟨S512x11x11, .f32⟩
  | 119 => ⟨S512x11x11x1, .f32⟩
  | 120 => ⟨S512x11x11x512, .f32⟩
  | 121 => ⟨S512x11x11x512, .f32⟩
  | 122 => ⟨S512x11x11x512, .f32⟩
  | 123 => ⟨S512x11x11x1, .i1⟩
  | 124 => ⟨S_, .f32⟩
  | 125 => ⟨S_, .f32⟩
  | 126 => ⟨S512x11x11x512, .i1⟩
  | 127 => ⟨S512x11x11x512, .f32⟩
  | _ => ⟨S4x512x96x96, .f32⟩

abbrev hbmTy0_6 (i : Nat) : BufTy := match i % 128 with
  | 0 => ⟨S512x11x11x512, .f32⟩
  | 1 => ⟨S512x11x11x512, .f32⟩
  | 2 => ⟨S512x11x11, .f32⟩
  | 3 => ⟨S512x11x11, .f32⟩
  | 4 => ⟨S512x1, .f32⟩
  | 5 => ⟨S_, .f32⟩
  | 6 => ⟨S512x1, .f32⟩
  | 7 => ⟨S512x1, .f32⟩
  | 8 => ⟨S512x11, .f32⟩
  | 9 => ⟨S512x11, .f32⟩
  | 10 => ⟨S512x1, .f32⟩
  | 11 => ⟨S_, .f32⟩
  | 12 => ⟨S512x1, .f32⟩
  | 13 => ⟨S512x1, .f32⟩
  | 14 => ⟨S512x11, .f32⟩
  | 15 => ⟨S512x11, .f32⟩
  | 16 => ⟨S_, .f32⟩
  | 17 => ⟨S512x11, .f32⟩
  | 18 => ⟨S512x11, .i1⟩
  | 19 => ⟨S_, .f32⟩
  | 20 => ⟨S512x11, .f32⟩
  | 21 => ⟨S512x11, .i1⟩
  | 22 => ⟨S512x11, .i1⟩
  | 23 => ⟨S512x11x1, .i1⟩
  | 24 => ⟨S_, .f32⟩
  | 25 => ⟨S512x11, .f32⟩
  | 26 => ⟨S512x11, .i1⟩
  | 27 => ⟨S_, .f32⟩
  | 28 => ⟨S512x11, .f32⟩
  | 29 => ⟨S512x11, .i1⟩
  | 30 => ⟨S512x11, .i1⟩
  | 31 => ⟨S512x1x11, .i1⟩
  | 32 => ⟨S512x11x11, .i1⟩
  | 33 => ⟨S512x11x11, .i1⟩
  | 34 => ⟨S512x11x11, .i1⟩
  | 35 => ⟨S512x11, .f32⟩
  | 36 => ⟨S_, .f32⟩
  | 37 => ⟨S_, .f32⟩
  | 38 => ⟨S_, .f32⟩
  | 39 => ⟨S512x11, .f32⟩
  | 40 => ⟨S512x11, .f32⟩
  | 41 => ⟨S_, .f32⟩
  | 42 => ⟨S512x11, .f32⟩
  | 43 => ⟨S512x11, .f32⟩
  | 44 => ⟨S512x11, .f32⟩
  | 45 => ⟨S_, .f32⟩
  | 46 => ⟨S_, .f32⟩
  | 47 => ⟨S_, .f32⟩
  | 48 => ⟨S512x11, .f32⟩
  | 49 => ⟨S512x11, .f32⟩
  | 50 => ⟨S_, .f32⟩
  | 51 => ⟨S512x11, .f32⟩
  | 52 => ⟨S512x11, .f32⟩
  | 53 => ⟨S512x11, .f32⟩
  | 54 => ⟨S512x11x1, .f32⟩
  | 55 => ⟨S512x11, .f32⟩
  | 56 => ⟨S512x1x11, .f32⟩
  | 57 => ⟨S_, .f32⟩
  | 58 => ⟨S512x11x11, .f32⟩
  | 59 => ⟨S512x1x1, .f32⟩
  | 60 => ⟨S512x1x11, .f32⟩
  | 61 => ⟨S512x1x11, .f32⟩
  | 62 => ⟨S512x11, .f32⟩
  | 63 => ⟨S512x1x11, .f32⟩
  | 64 => ⟨S512x11, .i32⟩
  | 65 => ⟨S512x11x1, .i32⟩
  | 66 => ⟨S512x11, .i32⟩
  | 67 => ⟨S512x1x11, .i32⟩
  | 68 => ⟨S_, .i32⟩
  | 69 => ⟨S512x11x1, .i32⟩
  | 70 => ⟨S512x11x1, .i32⟩
  | 71 => ⟨S512x11x1, .i32⟩
  | 72 => ⟨S512x11x1, .i32⟩
  | 73 => ⟨S512x11x11, .i32⟩
  | 74 => ⟨S512x11x11, .i32⟩
  | 75 => ⟨S512x11x11, .i32⟩
  | 76 => ⟨S_, .i32⟩
  | 77 => ⟨S512x11x11, .i32⟩
  | 78 => ⟨S512x11x11, .i1⟩
  | 79 => ⟨S_, .i32⟩
  | 80 => ⟨S512x11x11, .i32⟩
  | 81 => ⟨S512x11x11, .i32⟩
  | 82 => ⟨S512x11x11, .i32⟩
  | 83 => ⟨S512x11x11x1, .i32⟩
  | 84 => ⟨S512x11x11x512, .f32⟩
  | 85 => ⟨S_, .f32⟩
  | 86 => ⟨S512x11x1, .f32⟩
  | 87 => ⟨S512x11x1, .f32⟩
  | 88 => ⟨S_, .f32⟩
  | 89 => ⟨S512x1x11, .f32⟩
  | 90 => ⟨S512x1x11, .f32⟩
  | 91 => ⟨S512x11x11, .f32⟩
  | 92 => ⟨S512x11x11, .f32⟩
  | 93 => ⟨S512x11x11, .f32⟩
  | 94 => ⟨S512x11x11x1, .f32⟩
  | 95 => ⟨S512x11x11x512, .f32⟩
  | 96 => ⟨S512x11x11x512, .f32⟩
  | 97 => ⟨S_, .i32⟩
  | 98 => ⟨S512x11x11, .i32⟩
  | 99 => ⟨S512x11x11, .i32⟩
  | 100 => ⟨S_, .i32⟩
  | 101 => ⟨S512x11x11, .i32⟩
  | 102 => ⟨S512x11x11, .i1⟩
  | 103 => ⟨S_, .i32⟩
  | 104 => ⟨S512x11x11, .i32⟩
  | 105 => ⟨S512x11x11, .i32⟩
  | 106 => ⟨S512x11x11, .i32⟩
  | 107 => ⟨S512x11x11x1, .i32⟩
  | 108 => ⟨S512x11x11x512, .f32⟩
  | 109 => ⟨S_, .f32⟩
  | 110 => ⟨S512x11x1, .f32⟩
  | 111 => ⟨S512x11x1, .f32⟩
  | 112 => ⟨S512x11x11, .f32⟩
  | 113 => ⟨S512x11x11, .f32⟩
  | 114 => ⟨S512x11x11, .f32⟩
  | 115 => ⟨S512x11x11x1, .f32⟩
  | 116 => ⟨S512x11x11x512, .f32⟩
  | 117 => ⟨S512x11x11x512, .f32⟩
  | 118 => ⟨S512x11x11x512, .f32⟩
  | 119 => ⟨S_, .i32⟩
  | 120 => ⟨S512x11x11, .i32⟩
  | 121 => ⟨S512x11x11, .i32⟩
  | 122 => ⟨S_, .i32⟩
  | 123 => ⟨S512x11x11, .i32⟩
  | 124 => ⟨S512x11x11, .i1⟩
  | 125 => ⟨S_, .i32⟩
  | 126 => ⟨S512x11x11, .i32⟩
  | 127 => ⟨S512x11x11, .i32⟩
  | _ => ⟨S4x512x96x96, .f32⟩

abbrev hbmTy0_7 (i : Nat) : BufTy := match i % 128 with
  | 0 => ⟨S512x11x11, .i32⟩
  | 1 => ⟨S512x11x11x1, .i32⟩
  | 2 => ⟨S512x11x11x512, .f32⟩
  | 3 => ⟨S_, .f32⟩
  | 4 => ⟨S512x1x11, .f32⟩
  | 5 => ⟨S512x1x11, .f32⟩
  | 6 => ⟨S512x11x11, .f32⟩
  | 7 => ⟨S512x11x11, .f32⟩
  | 8 => ⟨S512x11x11, .f32⟩
  | 9 => ⟨S512x11x11x1, .f32⟩
  | 10 => ⟨S512x11x11x512, .f32⟩
  | 11 => ⟨S512x11x11x512, .f32⟩
  | 12 => ⟨S512x11x11x512, .f32⟩
  | 13 => ⟨S_, .i32⟩
  | 14 => ⟨S512x11x11, .i32⟩
  | 15 => ⟨S512x11x11, .i32⟩
  | 16 => ⟨S_, .i32⟩
  | 17 => ⟨S512x11x11, .i32⟩
  | 18 => ⟨S512x11x11, .i32⟩
  | 19 => ⟨S_, .i32⟩
  | 20 => ⟨S512x11x11, .i32⟩
  | 21 => ⟨S512x11x11, .i1⟩
  | 22 => ⟨S_, .i32⟩
  | 23 => ⟨S512x11x11, .i32⟩
  | 24 => ⟨S512x11x11, .i32⟩
  | 25 => ⟨S512x11x11, .i32⟩
  | 26 => ⟨S512x11x11x1, .i32⟩
  | 27 => ⟨S512x11x11x512, .f32⟩
  | 28 => ⟨S512x11x11, .f32⟩
  | 29 => ⟨S512x11x11, .f32⟩
  | 30 => ⟨S512x11x11, .f32⟩
  | 31 => ⟨S512x11x11x1, .f32⟩
  | 32 => ⟨S512x11x11x512, .f32⟩
  | 33 => ⟨S512x11x11x512, .f32⟩
  | 34 => ⟨S512x11x11x512, .f32⟩
  | 35 => ⟨S512x11x11x1, .i1⟩
  | 36 => ⟨S_, .f32⟩
  | 37 => ⟨S_, .f32⟩
  | 38 => ⟨S512x11x11x512, .i1⟩
  | 39 => ⟨S512x11x11x512, .f32⟩
  | 40 => ⟨S512x11x11x512, .f32⟩
  | 41 => ⟨S512x11x11x512, .f32⟩
  | 42 => ⟨S512x11x11, .f32⟩
  | 43 => ⟨S512x11x11, .f32⟩
  | 44 => ⟨S512x1, .f32⟩
  | 45 => ⟨S_, .f32⟩
  | 46 => ⟨S512x1, .f32⟩
  | 47 => ⟨S512x1, .f32⟩
  | 48 => ⟨S512x11, .f32⟩
  | 49 => ⟨S512x11, .f32⟩
  | 50 => ⟨S512x1, .f32⟩
  | 51 => ⟨S_, .f32⟩
  | 52 => ⟨S512x1, .f32⟩
  | 53 => ⟨S512x1, .f32⟩
  | 54 => ⟨S512x11, .f32⟩
  | 55 => ⟨S512x11, .f32⟩
  | 56 => ⟨S_, .f32⟩
  | 57 => ⟨S512x11, .f32⟩
  | 58 => ⟨S512x11, .i1⟩
  | 59 => ⟨S_, .f32⟩
  | 60 => ⟨S512x11, .f32⟩
  | 61 => ⟨S512x11, .i1⟩
  | 62 => ⟨S512x11, .i1⟩
  | 63 => ⟨S512x11x1, .i1⟩
  | 64 => ⟨S_, .f32⟩
  | 65 => ⟨S512x11, .f32⟩
  | 66 => ⟨S512x11, .i1⟩
  | 67 => ⟨S_, .f32⟩
  | 68 => ⟨S512x11, .f32⟩
  | 69 => ⟨S512x11, .i1⟩
  | 70 => ⟨S512x11, .i1⟩
  | 71 => ⟨S512x1x11, .i1⟩
  | 72 => ⟨S512x11x11, .i1⟩
  | 73 => ⟨S512x11x11, .i1⟩
  | 74 => ⟨S512x11x11, .i1⟩
  | 75 => ⟨S512x11, .f32⟩
  | 76 => ⟨S_, .f32⟩
  | 77 => ⟨S_, .f32⟩
  | 78 => ⟨S_, .f32⟩
  | 79 => ⟨S512x11, .f32⟩
  | 80 => ⟨S512x11, .f32⟩
  | 81 => ⟨S_, .f32⟩
  | 82 => ⟨S512x11, .f32⟩
  | 83 => ⟨S512x11, .f32⟩
  | 84 => ⟨S512x11, .f32⟩
  | 85 => ⟨S_, .f32⟩
  | 86 => ⟨S_, .f32⟩
  | 87 => ⟨S_, .f32⟩
  | 88 => ⟨S512x11, .f32⟩
  | 89 => ⟨S512x11, .f32⟩
  | 90 => ⟨S_, .f32⟩
  | 91 => ⟨S512x11, .f32⟩
  | 92 => ⟨S512x11, .f32⟩
  | 93 => ⟨S512x11, .f32⟩
  | 94 => ⟨S512x11x1, .f32⟩
  | 95 => ⟨S512x11, .f32⟩
  | 96 => ⟨S512x1x11, .f32⟩
  | 97 => ⟨S_, .f32⟩
  | 98 => ⟨S512x11x11, .f32⟩
  | 99 => ⟨S512x1x1, .f32⟩
  | 100 => ⟨S512x1x11, .f32⟩
  | 101 => ⟨S512x1x11, .f32⟩
  | 102 => ⟨S512x11, .f32⟩
  | 103 => ⟨S512x1x11, .f32⟩
  | 104 => ⟨S512x11, .i32⟩
  | 105 => ⟨S512x11x1, .i32⟩
  | 106 => ⟨S512x11, .i32⟩
  | 107 => ⟨S512x1x11, .i32⟩
  | 108 => ⟨S_, .i32⟩
  | 109 => ⟨S512x11x1, .i32⟩
  | 110 => ⟨S512x11x1, .i32⟩
  | 111 => ⟨S512x11x1, .i32⟩
  | 112 => ⟨S512x11x1, .i32⟩
  | 113 => ⟨S512x11x11, .i32⟩
  | 114 => ⟨S512x11x11, .i32⟩
  | 115 => ⟨S512x11x11, .i32⟩
  | 116 => ⟨S_, .i32⟩
  | 117 => ⟨S512x11x11, .i32⟩
  | 118 => ⟨S512x11x11, .i1⟩
  | 119 => ⟨S_, .i32⟩
  | 120 => ⟨S512x11x11, .i32⟩
  | 121 => ⟨S512x11x11, .i32⟩
  | 122 => ⟨S512x11x11, .i32⟩
  | 123 => ⟨S512x11x11x1, .i32⟩
  | 124 => ⟨S512x11x11x512, .f32⟩
  | 125 => ⟨S_, .f32⟩
  | 126 => ⟨S512x11x1, .f32⟩
  | 127 => ⟨S512x11x1, .f32⟩
  | _ => ⟨S4x512x96x96, .f32⟩

abbrev hbmTy0_8 (i : Nat) : BufTy := match i % 128 with
  | 0 => ⟨S_, .f32⟩
  | 1 => ⟨S512x1x11, .f32⟩
  | 2 => ⟨S512x1x11, .f32⟩
  | 3 => ⟨S512x11x11, .f32⟩
  | 4 => ⟨S512x11x11, .f32⟩
  | 5 => ⟨S512x11x11, .f32⟩
  | 6 => ⟨S512x11x11x1, .f32⟩
  | 7 => ⟨S512x11x11x512, .f32⟩
  | 8 => ⟨S512x11x11x512, .f32⟩
  | 9 => ⟨S_, .i32⟩
  | 10 => ⟨S512x11x11, .i32⟩
  | 11 => ⟨S512x11x11, .i32⟩
  | 12 => ⟨S_, .i32⟩
  | 13 => ⟨S512x11x11, .i32⟩
  | 14 => ⟨S512x11x11, .i1⟩
  | 15 => ⟨S_, .i32⟩
  | 16 => ⟨S512x11x11, .i32⟩
  | 17 => ⟨S512x11x11, .i32⟩
  | 18 => ⟨S512x11x11, .i32⟩
  | 19 => ⟨S512x11x11x1, .i32⟩
  | 20 => ⟨S512x11x11x512, .f32⟩
  | 21 => ⟨S_, .f32⟩
  | 22 => ⟨S512x11x1, .f32⟩
  | 23 => ⟨S512x11x1, .f32⟩
  | 24 => ⟨S512x11x11, .f32⟩
  | 25 => ⟨S512x11x11, .f32⟩
  | 26 => ⟨S512x11x11, .f32⟩
  | 27 => ⟨S512x11x11x1, .f32⟩
  | 28 => ⟨S512x11x11x512, .f32⟩
  | 29 => ⟨S512x11x11x512, .f32⟩
  | 30 => ⟨S512x11x11x512, .f32⟩
  | 31 => ⟨S_, .i32⟩
  | 32 => ⟨S512x11x11, .i32⟩
  | 33 => ⟨S512x11x11, .i32⟩
  | 34 => ⟨S_, .i32⟩
  | 35 => ⟨S512x11x11, .i32⟩
  | 36 => ⟨S512x11x11, .i1⟩
  | 37 => ⟨S_, .i32⟩
  | 38 => ⟨S512x11x11, .i32⟩
  | 39 => ⟨S512x11x11, .i32⟩
  | 40 => ⟨S512x11x11, .i32⟩
  | 41 => ⟨S512x11x11x1, .i32⟩
  | 42 => ⟨S512x11x11x512, .f32⟩
  | 43 => ⟨S_, .f32⟩
  | 44 => ⟨S512x1x11, .f32⟩
  | 45 => ⟨S512x1x11, .f32⟩
  | 46 => ⟨S512x11x11, .f32⟩
  | 47 => ⟨S512x11x11, .f32⟩
  | 48 => ⟨S512x11x11, .f32⟩
  | 49 => ⟨S512x11x11x1, .f32⟩
  | 50 => ⟨S512x11x11x512, .f32⟩
  | 51 => ⟨S512x11x11x512, .f32⟩
  | 52 => ⟨S512x11x11x512, .f32⟩
  | 53 => ⟨S_, .i32⟩
  | 54 => ⟨S512x11x11, .i32⟩
  | 55 => ⟨S512x11x11, .i32⟩
  | 56 => ⟨S_, .i32⟩
  | 57 => ⟨S512x11x11, .i32⟩
  | 58 => ⟨S512x11x11, .i32⟩
  | 59 => ⟨S_, .i32⟩
  | 60 => ⟨S512x11x11, .i32⟩
  | 61 => ⟨S512x11x11, .i1⟩
  | 62 => ⟨S_, .i32⟩
  | 63 => ⟨S512x11x11, .i32⟩
  | 64 => ⟨S512x11x11, .i32⟩
  | 65 => ⟨S512x11x11, .i32⟩
  | 66 => ⟨S512x11x11x1, .i32⟩
  | 67 => ⟨S512x11x11x512, .f32⟩
  | 68 => ⟨S512x11x11, .f32⟩
  | 69 => ⟨S512x11x11, .f32⟩
  | 70 => ⟨S512x11x11, .f32⟩
  | 71 => ⟨S512x11x11x1, .f32⟩
  | 72 => ⟨S512x11x11x512, .f32⟩
  | 73 => ⟨S512x11x11x512, .f32⟩
  | 74 => ⟨S512x11x11x512, .f32⟩
  | 75 => ⟨S512x11x11x1, .i1⟩
  | 76 => ⟨S_, .f32⟩
  | 77 => ⟨S_, .f32⟩
  | 78 => ⟨S512x11x11x512, .i1⟩
  | 79 => ⟨S512x11x11x512, .f32⟩
  | 80 => ⟨S512x11x11x512, .f32⟩
  | 81 => ⟨S512x11x11x512, .f32⟩
  | 82 => ⟨S512x11x11, .f32⟩
  | 83 => ⟨S512x11x11, .f32⟩
  | 84 => ⟨S512x1, .f32⟩
  | 85 => ⟨S_, .f32⟩
  | 86 => ⟨S512x1, .f32⟩
  | 87 => ⟨S512x1, .f32⟩
  | 88 => ⟨S512x11, .f32⟩
  | 89 => ⟨S512x11, .f32⟩
  | 90 => ⟨S512x1, .f32⟩
  | 91 => ⟨S_, .f32⟩
  | 92 => ⟨S512x1, .f32⟩
  | 93 => ⟨S512x1, .f32⟩
  | 94 => ⟨S512x11, .f32⟩
  | 95 => ⟨S512x11, .f32⟩
  | 96 => ⟨S_, .f32⟩
  | 97 => ⟨S512x11, .f32⟩
  | 98 => ⟨S512x11, .i1⟩
  | 99 => ⟨S_, .f32⟩
  | 100 => ⟨S512x11, .f32⟩
  | 101 => ⟨S512x11, .i1⟩
  | 102 => ⟨S512x11, .i1⟩
  | 103 => ⟨S512x11x1, .i1⟩
  | 104 => ⟨S_, .f32⟩
  | 105 => ⟨S512x11, .f32⟩
  | 106 => ⟨S512x11, .i1⟩
  | 107 => ⟨S_, .f32⟩
  | 108 => ⟨S512x11, .f32⟩
  | 109 => ⟨S512x11, .i1⟩
  | 110 => ⟨S512x11, .i1⟩
  | 111 => ⟨S512x1x11, .i1⟩
  | 112 => ⟨S512x11x11, .i1⟩
  | 113 => ⟨S512x11x11, .i1⟩
  | 114 => ⟨S512x11x11, .i1⟩
  | 115 => ⟨S512x11, .f32⟩
  | 116 => ⟨S_, .f32⟩
  | 117 => ⟨S_, .f32⟩
  | 118 => ⟨S_, .f32⟩
  | 119 => ⟨S512x11, .f32⟩
  | 120 => ⟨S512x11, .f32⟩
  | 121 => ⟨S_, .f32⟩
  | 122 => ⟨S512x11, .f32⟩
  | 123 => ⟨S512x11, .f32⟩
  | 124 => ⟨S512x11, .f32⟩
  | 125 => ⟨S_, .f32⟩
  | 126 => ⟨S_, .f32⟩
  | 127 => ⟨S_, .f32⟩
  | _ => ⟨S4x512x96x96, .f32⟩

abbrev hbmTy0_9 (i : Nat) : BufTy := match i % 128 with
  | 0 => ⟨S512x11, .f32⟩
  | 1 => ⟨S512x11, .f32⟩
  | 2 => ⟨S_, .f32⟩
  | 3 => ⟨S512x11, .f32⟩
  | 4 => ⟨S512x11, .f32⟩
  | 5 => ⟨S512x11, .f32⟩
  | 6 => ⟨S512x11x1, .f32⟩
  | 7 => ⟨S512x11, .f32⟩
  | 8 => ⟨S512x1x11, .f32⟩
  | 9 => ⟨S_, .f32⟩
  | 10 => ⟨S512x11x11, .f32⟩
  | 11 => ⟨S512x1x1, .f32⟩
  | 12 => ⟨S512x1x11, .f32⟩
  | 13 => ⟨S512x1x11, .f32⟩
  | 14 => ⟨S512x11, .f32⟩
  | 15 => ⟨S512x1x11, .f32⟩
  | 16 => ⟨S512x11, .i32⟩
  | 17 => ⟨S512x11x1, .i32⟩
  | 18 => ⟨S512x11, .i32⟩
  | 19 => ⟨S512x1x11, .i32⟩
  | 20 => ⟨S_, .i32⟩
  | 21 => ⟨S512x11x1, .i32⟩
  | 22 => ⟨S512x11x1, .i32⟩
  | 23 => ⟨S512x11x1, .i32⟩
  | 24 => ⟨S512x11x1, .i32⟩
  | 25 => ⟨S512x11x11, .i32⟩
  | 26 => ⟨S512x11x11, .i32⟩
  | 27 => ⟨S512x11x11, .i32⟩
  | 28 => ⟨S_, .i32⟩
  | 29 => ⟨S512x11x11, .i32⟩
  | 30 => ⟨S512x11x11, .i1⟩
  | 31 => ⟨S_, .i32⟩
  | 32 => ⟨S512x11x11, .i32⟩
  | 33 => ⟨S512x11x11, .i32⟩
  | 34 => ⟨S512x11x11, .i32⟩
  | 35 => ⟨S512x11x11x1, .i32⟩
  | 36 => ⟨S512x11x11x512, .f32⟩
  | 37 => ⟨S_, .f32⟩
  | 38 => ⟨S512x11x1, .f32⟩
  | 39 => ⟨S512x11x1, .f32⟩
  | 40 => ⟨S_, .f32⟩
  | 41 => ⟨S512x1x11, .f32⟩
  | 42 => ⟨S512x1x11, .f32⟩
  | 43 => ⟨S512x11x11, .f32⟩
  | 44 => ⟨S512x11x11, .f32⟩
  | 45 => ⟨S512x11x11, .f32⟩
  | 46 => ⟨S512x11x11x1, .f32⟩
  | 47 => ⟨S512x11x11x512, .f32⟩
  | 48 => ⟨S512x11x11x512, .f32⟩
  | 49 => ⟨S_, .i32⟩
  | 50 => ⟨S512x11x11, .i32⟩
  | 51 => ⟨S512x11x11, .i32⟩
  | 52 => ⟨S_, .i32⟩
  | 53 => ⟨S512x11x11, .i32⟩
  | 54 => ⟨S512x11x11, .i1⟩
  | 55 => ⟨S_, .i32⟩
  | 56 => ⟨S512x11x11, .i32⟩
  | 57 => ⟨S512x11x11, .i32⟩
  | 58 => ⟨S512x11x11, .i32⟩
  | 59 => ⟨S512x11x11x1, .i32⟩
  | 60 => ⟨S512x11x11x512, .f32⟩
  | 61 => ⟨S_, .f32⟩
  | 62 => ⟨S512x11x1, .f32⟩
  | 63 => ⟨S512x11x1, .f32⟩
  | 64 => ⟨S512x11x11, .f32⟩
  | 65 => ⟨S512x11x11, .f32⟩
  | 66 => ⟨S512x11x11, .f32⟩
  | 67 => ⟨S512x11x11x1, .f32⟩
  | 68 => ⟨S512x11x11x512, .f32⟩
  | 69 => ⟨S512x11x11x512, .f32⟩
  | 70 => ⟨S512x11x11x512, .f32⟩
  | 71 => ⟨S_, .i32⟩
  | 72 => ⟨S512x11x11, .i32⟩
  | 73 => ⟨S512x11x11, .i32⟩
  | 74 => ⟨S_, .i32⟩
  | 75 => ⟨S512x11x11, .i32⟩
  | 76 => ⟨S512x11x11, .i1⟩
  | 77 => ⟨S_, .i32⟩
  | 78 => ⟨S512x11x11, .i32⟩
  | 79 => ⟨S512x11x11, .i32⟩
  | 80 => ⟨S512x11x11, .i32⟩
  | 81 => ⟨S512x11x11x1, .i32⟩
  | 82 => ⟨S512x11x11x512, .f32⟩
  | 83 => ⟨S_, .f32⟩
  | 84 => ⟨S512x1x11, .f32⟩
  | 85 => ⟨S512x1x11, .f32⟩
  | 86 => ⟨S512x11x11, .f32⟩
  | 87 => ⟨S512x11x11, .f32⟩
  | 88 => ⟨S512x11x11, .f32⟩
  | 89 => ⟨S512x11x11x1, .f32⟩
  | 90 => ⟨S512x11x11x512, .f32⟩
  | 91 => ⟨S512x11x11x512, .f32⟩
  | 92 => ⟨S512x11x11x512, .f32⟩
  | 93 => ⟨S_, .i32⟩
  | 94 => ⟨S512x11x11, .i32⟩
  | 95 => ⟨S512x11x11, .i32⟩
  | 96 => ⟨S_, .i32⟩
  | 97 => ⟨S512x11x11, .i32⟩
  | 98 => ⟨S512x11x11, .i32⟩
  | 99 => ⟨S_, .i32⟩
  | 100 => ⟨S512x11x11, .i32⟩
  | 101 => ⟨S512x11x11, .i1⟩
  | 102 => ⟨S_, .i32⟩
  | 103 => ⟨S512x11x11, .i32⟩
  | 104 => ⟨S512x11x11, .i32⟩
  | 105 => ⟨S512x11x11, .i32⟩
  | 106 => ⟨S512x11x11x1, .i32⟩
  | 107 => ⟨S512x11x11x512, .f32⟩
  | 108 => ⟨S512x11x11, .f32⟩
  | 109 => ⟨S512x11x11, .f32⟩
  | 110 => ⟨S512x11x11, .f32⟩
  | 111 => ⟨S512x11x11x1, .f32⟩
  | 112 => ⟨S512x11x11x512, .f32⟩
  | 113 => ⟨S512x11x11x512, .f32⟩
  | 114 => ⟨S512x11x11x512, .f32⟩
  | 115 => ⟨S512x11x11x1, .i1⟩
  | 116 => ⟨S_, .f32⟩
  | 117 => ⟨S_, .f32⟩
  | 118 => ⟨S512x11x11x512, .i1⟩
  | 119 => ⟨S512x11x11x512, .f32⟩
  | 120 => ⟨S512x11x11x512, .f32⟩
  | 121 => ⟨S512x11x11x512, .f32⟩
  | 122 => ⟨S512x11x11, .f32⟩
  | 123 => ⟨S512x11x11, .f32⟩
  | 124 => ⟨S512x1, .f32⟩
  | 125 => ⟨S_, .f32⟩
  | 126 => ⟨S512x1, .f32⟩
  | 127 => ⟨S512x1, .f32⟩
  | _ => ⟨S4x512x96x96, .f32⟩

abbrev hbmTy0_10 (i : Nat) : BufTy := match i % 128 with
  | 0 => ⟨S512x11, .f32⟩
  | 1 => ⟨S512x11, .f32⟩
  | 2 => ⟨S512x1, .f32⟩
  | 3 => ⟨S_, .f32⟩
  | 4 => ⟨S512x1, .f32⟩
  | 5 => ⟨S512x1, .f32⟩
  | 6 => ⟨S512x11, .f32⟩
  | 7 => ⟨S512x11, .f32⟩
  | 8 => ⟨S_, .f32⟩
  | 9 => ⟨S512x11, .f32⟩
  | 10 => ⟨S512x11, .i1⟩
  | 11 => ⟨S_, .f32⟩
  | 12 => ⟨S512x11, .f32⟩
  | 13 => ⟨S512x11, .i1⟩
  | 14 => ⟨S512x11, .i1⟩
  | 15 => ⟨S512x11x1, .i1⟩
  | 16 => ⟨S_, .f32⟩
  | 17 => ⟨S512x11, .f32⟩
  | 18 => ⟨S512x11, .i1⟩
  | 19 => ⟨S_, .f32⟩
  | 20 => ⟨S512x11, .f32⟩
  | 21 => ⟨S512x11, .i1⟩
  | 22 => ⟨S512x11, .i1⟩
  | 23 => ⟨S512x1x11, .i1⟩
  | 24 => ⟨S512x11x11, .i1⟩
  | 25 => ⟨S512x11x11, .i1⟩
  | 26 => ⟨S512x11x11, .i1⟩
  | 27 => ⟨S512x11, .f32⟩
  | 28 => ⟨S_, .f32⟩
  | 29 => ⟨S_, .f32⟩
  | 30 => ⟨S_, .f32⟩
  | 31 => ⟨S512x11, .f32⟩
  | 32 => ⟨S512x11, .f32⟩
  | 33 => ⟨S_, .f32⟩
  | 34 => ⟨S512x11, .f32⟩
  | 35 => ⟨S512x11, .f32⟩
  | 36 => ⟨S512x11, .f32⟩
  | 37 => ⟨S_, .f32⟩
  | 38 => ⟨S_, .f32⟩
  | 39 => ⟨S_, .f32⟩
  | 40 => ⟨S512x11, .f32⟩
  | 41 => ⟨S512x11, .f32⟩
  | 42 => ⟨S_, .f32⟩
  | 43 => ⟨S512x11, .f32⟩
  | 44 => ⟨S512x11, .f32⟩
  | 45 => ⟨S512x11, .f32⟩
  | 46 => ⟨S512x11x1, .f32⟩
  | 47 => ⟨S512x11, .f32⟩
  | 48 => ⟨S512x1x11, .f32⟩
  | 49 => ⟨S_, .f32⟩
  | 50 => ⟨S512x11x11, .f32⟩
  | 51 => ⟨S512x1x1, .f32⟩
  | 52 => ⟨S512x1x11, .f32⟩
  | 53 => ⟨S512x1x11, .f32⟩
  | 54 => ⟨S512x11, .f32⟩
  | 55 => ⟨S512x1x11, .f32⟩
  | 56 => ⟨S512x11, .i32⟩
  | 57 => ⟨S512x11x1, .i32⟩
  | 58 => ⟨S512x11, .i32⟩
  | 59 => ⟨S512x1x11, .i32⟩
  | 60 => ⟨S_, .i32⟩
  | 61 => ⟨S512x11x1, .i32⟩
  | 62 => ⟨S512x11x1, .i32⟩
  | 63 => ⟨S512x11x1, .i32⟩
  | 64 => ⟨S512x11x1, .i32⟩
  | 65 => ⟨S512x11x11, .i32⟩
  | 66 => ⟨S512x11x11, .i32⟩
  | 67 => ⟨S512x11x11, .i32⟩
  | 68 => ⟨S_, .i32⟩
  | 69 => ⟨S512x11x11, .i32⟩
  | 70 => ⟨S512x11x11, .i1⟩
  | 71 => ⟨S_, .i32⟩
  | 72 => ⟨S512x11x11, .i32⟩
  | 73 => ⟨S512x11x11, .i32⟩
  | 74 => ⟨S512x11x11, .i32⟩
  | 75 => ⟨S512x11x11x1, .i32⟩
  | 76 => ⟨S512x11x11x512, .f32⟩
  | 77 => ⟨S_, .f32⟩
  | 78 => ⟨S512x11x1, .f32⟩
  | 79 => ⟨S512x11x1, .f32⟩
  | 80 => ⟨S_, .f32⟩
  | 81 => ⟨S512x1x11, .f32⟩
  | 82 => ⟨S512x1x11, .f32⟩
  | 83 => ⟨S512x11x11, .f32⟩
  | 84 => ⟨S512x11x11, .f32⟩
  | 85 => ⟨S512x11x11, .f32⟩
  | 86 => ⟨S512x11x11x1, .f32⟩
  | 87 => ⟨S512x11x11x512, .f32⟩
  | 88 => ⟨S512x11x11x512, .f32⟩
  | 89 => ⟨S_, .i32⟩
  | 90 => ⟨S512x11x11, .i32⟩
  | 91 => ⟨S512x11x11, .i32⟩
  | 92 => ⟨S_, .i32⟩
  | 93 => ⟨S512x11x11, .i32⟩
  | 94 => ⟨S512x11x11, .i1⟩
  | 95 => ⟨S_, .i32⟩
  | 96 => ⟨S512x11x11, .i32⟩
  | 97 => ⟨S512x11x11, .i32⟩
  | 98 => ⟨S512x11x11, .i32⟩
  | 99 => ⟨S512x11x11x1, .i32⟩
  | 100 => ⟨S512x11x11x512, .f32⟩
  | 101 => ⟨S_, .f32⟩
  | 102 => ⟨S512x11x1, .f32⟩
  | 103 => ⟨S512x11x1, .f32⟩
  | 104 => ⟨S512x11x11, .f32⟩
  | 105 => ⟨S512x11x11, .f32⟩
  | 106 => ⟨S512x11x11, .f32⟩
  | 107 => ⟨S512x11x11x1, .f32⟩
  | 108 => ⟨S512x11x11x512, .f32⟩
  | 109 => ⟨S512x11x11x512, .f32⟩
  | 110 => ⟨S512x11x11x512, .f32⟩
  | 111 => ⟨S_, .i32⟩
  | 112 => ⟨S512x11x11, .i32⟩
  | 113 => ⟨S512x11x11, .i32⟩
  | 114 => ⟨S_, .i32⟩
  | 115 => ⟨S512x11x11, .i32⟩
  | 116 => ⟨S512x11x11, .i1⟩
  | 117 => ⟨S_, .i32⟩
  | 118 => ⟨S512x11x11, .i32⟩
  | 119 => ⟨S512x11x11, .i32⟩
  | 120 => ⟨S512x11x11, .i32⟩
  | 121 => ⟨S512x11x11x1, .i32⟩
  | 122 => ⟨S512x11x11x512, .f32⟩
  | 123 => ⟨S_, .f32⟩
  | 124 => ⟨S512x1x11, .f32⟩
  | 125 => ⟨S512x1x11, .f32⟩
  | 126 => ⟨S512x11x11, .f32⟩
  | 127 => ⟨S512x11x11, .f32⟩
  | _ => ⟨S4x512x96x96, .f32⟩

abbrev hbmTy0_11 (i : Nat) : BufTy := match i % 128 with
  | 0 => ⟨S512x11x11, .f32⟩
  | 1 => ⟨S512x11x11x1, .f32⟩
  | 2 => ⟨S512x11x11x512, .f32⟩
  | 3 => ⟨S512x11x11x512, .f32⟩
  | 4 => ⟨S512x11x11x512, .f32⟩
  | 5 => ⟨S_, .i32⟩
  | 6 => ⟨S512x11x11, .i32⟩
  | 7 => ⟨S512x11x11, .i32⟩
  | 8 => ⟨S_, .i32⟩
  | 9 => ⟨S512x11x11, .i32⟩
  | 10 => ⟨S512x11x11, .i32⟩
  | 11 => ⟨S_, .i32⟩
  | 12 => ⟨S512x11x11, .i32⟩
  | 13 => ⟨S512x11x11, .i1⟩
  | 14 => ⟨S_, .i32⟩
  | 15 => ⟨S512x11x11, .i32⟩
  | 16 => ⟨S512x11x11, .i32⟩
  | 17 => ⟨S512x11x11, .i32⟩
  | 18 => ⟨S512x11x11x1, .i32⟩
  | 19 => ⟨S512x11x11x512, .f32⟩
  | 20 => ⟨S512x11x11, .f32⟩
  | 21 => ⟨S512x11x11, .f32⟩
  | 22 => ⟨S512x11x11, .f32⟩
  | 23 => ⟨S512x11x11x1, .f32⟩
  | 24 => ⟨S512x11x11x512, .f32⟩
  | 25 => ⟨S512x11x11x512, .f32⟩
  | 26 => ⟨S512x11x11x512, .f32⟩
  | 27 => ⟨S512x11x11x1, .i1⟩
  | 28 => ⟨S_, .f32⟩
  | 29 => ⟨S_, .f32⟩
  | 30 => ⟨S512x11x11x512, .i1⟩
  | 31 => ⟨S512x11x11x512, .f32⟩
  | 32 => ⟨S512x11x11x512, .f32⟩
  | 33 => ⟨S512x11x11x512, .f32⟩
  | 34 => ⟨S512x11x11, .f32⟩
  | 35 => ⟨S512x11x11, .f32⟩
  | 36 => ⟨S512x1, .f32⟩
  | 37 => ⟨S_, .f32⟩
  | 38 => ⟨S512x1, .f32⟩
  | 39 => ⟨S512x1, .f32⟩
  | 40 => ⟨S512x11, .f32⟩
  | 41 => ⟨S512x11, .f32⟩
  | 42 => ⟨S512x1, .f32⟩
  | 43 => ⟨S_, .f32⟩
  | 44 => ⟨S512x1, .f32⟩
  | 45 => ⟨S512x1, .f32⟩
  | 46 => ⟨S512x11, .f32⟩
  | 47 => ⟨S512x11, .f32⟩
  | 48 => ⟨S_, .f32⟩
  | 49 => ⟨S512x11, .f32⟩
  | 50 => ⟨S512x11, .i1⟩
  | 51 => ⟨S_, .f32⟩
  | 52 => ⟨S512x11, .f32⟩
  | 53 => ⟨S512x11, .i1⟩
  | 54 => ⟨S512x11, .i1⟩
  | 55 => ⟨S512x11x1, .i1⟩
  | 56 => ⟨S_, .f32⟩
  | 57 => ⟨S512x11, .f32⟩
  | 58 => ⟨S512x11, .i1⟩
  | 59 => ⟨S_, .f32⟩
  | 60 => ⟨S512x11, .f32⟩
  | 61 => ⟨S512x11, .i1⟩
  | 62 => ⟨S512x11, .i1⟩
  | 63 => ⟨S512x1x11, .i1⟩
  | 64 => ⟨S512x11x11, .i1⟩
  | 65 => ⟨S512x11x11, .i1⟩
  | 66 => ⟨S512x11x11, .i1⟩
  | 67 => ⟨S512x11, .f32⟩
  | 68 => ⟨S_, .f32⟩
  | 69 => ⟨S_, .f32⟩
  | 70 => ⟨S_, .f32⟩
  | 71 => ⟨S512x11, .f32⟩
  | 72 => ⟨S512x11, .f32⟩
  | 73 => ⟨S_, .f32⟩
  | 74 => ⟨S512x11, .f32⟩
  | 75 => ⟨S512x11, .f32⟩
  | 76 => ⟨S512x11, .f32⟩
  | 77 => ⟨S_, .f32⟩
  | 78 => ⟨S_, .f32⟩
  | 79 => ⟨S_, .f32⟩
  | 80 => ⟨S512x11, .f32⟩
  | 81 => ⟨S512x11, .f32⟩
  | 82 => ⟨S_, .f32⟩
  | 83 => ⟨S512x11, .f32⟩
  | 84 => ⟨S512x11, .f32⟩
  | 85 => ⟨S512x11, .f32⟩
  | 86 => ⟨S512x11x1, .f32⟩
  | 87 => ⟨S512x11, .f32⟩
  | 88 => ⟨S512x1x11, .f32⟩
  | 89 => ⟨S_, .f32⟩
  | 90 => ⟨S512x11x11, .f32⟩
  | 91 => ⟨S512x1x1, .f32⟩
  | 92 => ⟨S512x1x11, .f32⟩
  | 93 => ⟨S512x1x11, .f32⟩
  | 94 => ⟨S512x11, .f32⟩
  | 95 => ⟨S512x1x11, .f32⟩
  | 96 => ⟨S512x11, .i32⟩
  | 97 => ⟨S512x11x1, .i32⟩
  | 98 => ⟨S512x11, .i32⟩
  | 99 => ⟨S512x1x11, .i32⟩
  | 100 => ⟨S_, .i32⟩
  | 101 => ⟨S512x11x1, .i32⟩
  | 102 => ⟨S512x11x1, .i32⟩
  | 103 => ⟨S512x11x1, .i32⟩
  | 104 => ⟨S512x11x1, .i32⟩
  | 105 => ⟨S512x11x11, .i32⟩
  | 106 => ⟨S512x11x11, .i32⟩
  | 107 => ⟨S512x11x11, .i32⟩
  | 108 => ⟨S_, .i32⟩
  | 109 => ⟨S512x11x11, .i32⟩
  | 110 => ⟨S512x11x11, .i1⟩
  | 111 => ⟨S_, .i32⟩
  | 112 => ⟨S512x11x11, .i32⟩
  | 113 => ⟨S512x11x11, .i32⟩
  | 114 => ⟨S512x11x11, .i32⟩
  | 115 => ⟨S512x11x11x1, .i32⟩
  | 116 => ⟨S512x11x11x512, .f32⟩
  | 117 => ⟨S_, .f32⟩
  | 118 => ⟨S512x11x1, .f32⟩
  | 119 => ⟨S512x11x1, .f32⟩
  | 120 => ⟨S_, .f32⟩
  | 121 => ⟨S512x1x11, .f32⟩
  | 122 => ⟨S512x1x11, .f32⟩
  | 123 => ⟨S512x11x11, .f32⟩
  | 124 => ⟨S512x11x11, .f32⟩
  | 125 => ⟨S512x11x11, .f32⟩
  | 126 => ⟨S512x11x11x1, .f32⟩
  | 127 => ⟨S512x11x11x512, .f32⟩
  | _ => ⟨S4x512x96x96, .f32⟩

abbrev hbmTy0_12 (i : Nat) : BufTy := match i % 128 with
  | 0 => ⟨S512x11x11x512, .f32⟩
  | 1 => ⟨S_, .i32⟩
  | 2 => ⟨S512x11x11, .i32⟩
  | 3 => ⟨S512x11x11, .i32⟩
  | 4 => ⟨S_, .i32⟩
  | 5 => ⟨S512x11x11, .i32⟩
  | 6 => ⟨S512x11x11, .i1⟩
  | 7 => ⟨S_, .i32⟩
  | 8 => ⟨S512x11x11, .i32⟩
  | 9 => ⟨S512x11x11, .i32⟩
  | 10 => ⟨S512x11x11, .i32⟩
  | 11 => ⟨S512x11x11x1, .i32⟩
  | 12 => ⟨S512x11x11x512, .f32⟩
  | 13 => ⟨S_, .f32⟩
  | 14 => ⟨S512x11x1, .f32⟩
  | 15 => ⟨S512x11x1, .f32⟩
  | 16 => ⟨S512x11x11, .f32⟩
  | 17 => ⟨S512x11x11, .f32⟩
  | 18 => ⟨S512x11x11, .f32⟩
  | 19 => ⟨S512x11x11x1, .f32⟩
  | 20 => ⟨S512x11x11x512, .f32⟩
  | 21 => ⟨S512x11x11x512, .f32⟩
  | 22 => ⟨S512x11x11x512, .f32⟩
  | 23 => ⟨S_, .i32⟩
  | 24 => ⟨S512x11x11, .i32⟩
  | 25 => ⟨S512x11x11, .i32⟩
  | 26 => ⟨S_, .i32⟩
  | 27 => ⟨S512x11x11, .i32⟩
  | 28 => ⟨S512x11x11, .i1⟩
  | 29 => ⟨S_, .i32⟩
  | 30 => ⟨S512x11x11, .i32⟩
  | 31 => ⟨S512x11x11, .i32⟩
  | 32 => ⟨S512x11x11, .i32⟩
  | 33 => ⟨S512x11x11x1, .i32⟩
  | 34 => ⟨S512x11x11x512, .f32⟩
  | 35 => ⟨S_, .f32⟩
  | 36 => ⟨S512x1x11, .f32⟩
  | 37 => ⟨S512x1x11, .f32⟩
  | 38 => ⟨S512x11x11, .f32⟩
  | 39 => ⟨S512x11x11, .f32⟩
  | 40 => ⟨S512x11x11, .f32⟩
  | 41 => ⟨S512x11x11x1, .f32⟩
  | 42 => ⟨S512x11x11x512, .f32⟩
  | 43 => ⟨S512x11x11x512, .f32⟩
  | 44 => ⟨S512x11x11x512, .f32⟩
  | 45 => ⟨S_, .i32⟩
  | 46 => ⟨S512x11x11, .i32⟩
  | 47 => ⟨S512x11x11, .i32⟩
  | 48 => ⟨S_, .i32⟩
  | 49 => ⟨S512x11x11, .i32⟩
  | 50 => ⟨S512x11x11, .i32⟩
  | 51 => ⟨S_, .i32⟩
  | 52 => ⟨S512x11x11, .i32⟩
  | 53 => ⟨S512x11x11, .i1⟩
  | 54 => ⟨S_, .i32⟩
  | 55 => ⟨S512x11x11, .i32⟩
  | 56 => ⟨S512x11x11, .i32⟩
  | 57 => ⟨S512x11x11, .i32⟩
  | 58 => ⟨S512x11x11x1, .i32⟩
  | 59 => ⟨S512x11x11x512, .f32⟩
  | 60 => ⟨S512x11x11, .f32⟩
  | 61 => ⟨S512x11x11, .f32⟩
  | 62 => ⟨S512x11x11, .f32⟩
  | 63 => ⟨S512x11x11x1, .f32⟩
  | 64 => ⟨S512x11x11x512, .f32⟩
  | 65 => ⟨S512x11x11x512, .f32⟩
  | 66 => ⟨S512x11x11x512, .f32⟩
  | 67 => ⟨S512x11x11x1, .i1⟩
  | 68 => ⟨S_, .f32⟩
  | 69 => ⟨S_, .f32⟩
  | 70 => ⟨S512x11x11x512, .i1⟩
  | 71 => ⟨S512x11x11x512, .f32⟩
  | 72 => ⟨S512x11x11x512, .f32⟩
  | 73 => ⟨S512x11x11x512, .f32⟩
  | 74 => ⟨S512x11x11, .f32⟩
  | 75 => ⟨S512x11x11, .f32⟩
  | 76 => ⟨S512x11x11x1, .i1⟩
  | 77 => ⟨S_, .f32⟩
  | 78 => ⟨S512x11x11, .f32⟩
  | 79 => ⟨S512x11x11, .f32⟩
  | 80 => ⟨S512x11x11x1, .f32⟩
  | 81 => ⟨S512x11x11x512, .f32⟩
  | 82 => ⟨S512x11x11x512, .f32⟩
  | 83 => ⟨S_, .f32⟩
  | 84 => ⟨S_, .f32⟩
  | 85 => ⟨S512x11x11x512, .i1⟩
  | 86 => ⟨S512x11x11x512, .f32⟩
  | 87 => ⟨S512x11x11x512, .f32⟩
  | 88 => ⟨S512x512x11x11, .f32⟩
  | 89 => ⟨S_, .f32⟩
  | 90 => ⟨S_, .f32⟩
  | 91 => ⟨S512x512x5x5, .f32⟩
  | _ => ⟨S4x512x96x96, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | _ => ⟨S4x512x96x96, .f32⟩

abbrev bufTy : (tb : Table) → Fin (tcTables nBuf tb) → BufTy
  | .hbm, ⟨i, _⟩ => hbmTy i
  | _, _ => ⟨S4x512x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_7 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_8 : Ref sig .tc := ⟨.hbm, 61, rfl⟩
abbrev main_v50 : Ref sig .tc := ⟨.hbm, 62, rfl⟩
abbrev main_v51 : Ref sig .tc := ⟨.hbm, 63, rfl⟩
abbrev main_cst_9 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_10 : Ref sig .tc := ⟨.hbm, 68, rfl⟩
abbrev main_v55 : Ref sig .tc := ⟨.hbm, 69, rfl⟩
abbrev main_v56 : Ref sig .tc := ⟨.hbm, 70, rfl⟩
abbrev main_cst_11 : Ref sig .tc := ⟨.hbm, 71, rfl⟩
abbrev main_v57 : Ref sig .tc := ⟨.hbm, 72, rfl⟩
abbrev main_v58 : Ref sig .tc := ⟨.hbm, 73, rfl⟩
abbrev main_cst_12 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_13 : Ref sig .tc := ⟨.hbm, 79, rfl⟩
abbrev main_v63 : Ref sig .tc := ⟨.hbm, 80, rfl⟩
abbrev main_v64 : Ref sig .tc := ⟨.hbm, 81, rfl⟩
abbrev main_cst_14 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_c : Ref sig .tc := ⟨.hbm, 93, rfl⟩
abbrev main_v75 : Ref sig .tc := ⟨.hbm, 94, rfl⟩
abbrev main_v76 : Ref sig .tc := ⟨.hbm, 95, rfl⟩
abbrev main_cst_15 : Ref sig .tc := ⟨.hbm, 96, rfl⟩
abbrev main_v77 : Ref sig .tc := ⟨.hbm, 97, rfl⟩
abbrev main_cst_16 : Ref sig .tc := ⟨.hbm, 98, rfl⟩
abbrev main_v78 : Ref sig .tc := ⟨.hbm, 99, rfl⟩
abbrev main_v79 : Ref sig .tc := ⟨.hbm, 100, rfl⟩
abbrev main_cst_17 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_18 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_19 : Ref sig .tc := ⟨.hbm, 112, rfl⟩
abbrev main_v89 : Ref sig .tc := ⟨.hbm, 113, rfl⟩
abbrev main_v90 : Ref sig .tc := ⟨.hbm, 114, rfl⟩
abbrev main_cst_20 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_cst_21 : Ref sig .tc := ⟨.hbm, 120, rfl⟩
abbrev main_v95 : Ref sig .tc := ⟨.hbm, 121, rfl⟩
abbrev main_v96 : Ref sig .tc := ⟨.hbm, 122, rfl⟩
abbrev main_cst_22 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_cst_23 : Ref sig .tc := ⟨.hbm, 132, rfl⟩
abbrev main_cst_24 : Ref sig .tc := ⟨.hbm, 133, rfl⟩
abbrev main_call2_v0 : Ref sig .tc := ⟨.hbm, 134, rfl⟩
abbrev main_call2_v1 : Ref sig .tc := ⟨.hbm, 135, rfl⟩
abbrev main_call2_v2 : Ref sig .tc := ⟨.hbm, 136, rfl⟩
abbrev main_call2_v3 : Ref sig .tc := ⟨.hbm, 137, rfl⟩
abbrev main_call2_v4 : Ref sig .tc := ⟨.hbm, 138, rfl⟩
abbrev main_v105 : Ref sig .tc := ⟨.hbm, 139, rfl⟩
abbrev main_v106 : Ref sig .tc := ⟨.hbm, 140, rfl⟩
abbrev main_cst_25 : Ref sig .tc := ⟨.hbm, 141, rfl⟩
abbrev main_cst_26 : Ref sig .tc := ⟨.hbm, 142, rfl⟩
abbrev main_call3_v0 : Ref sig .tc := ⟨.hbm, 143, rfl⟩
abbrev main_call3_v1 : Ref sig .tc := ⟨.hbm, 144, rfl⟩
abbrev main_call3_v2 : Ref sig .tc := ⟨.hbm, 145, rfl⟩
abbrev main_call3_v3 : Ref sig .tc := ⟨.hbm, 146, rfl⟩
abbrev main_call3_v4 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_cst_27 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_c_28 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_c_29 : Ref sig .tc := ⟨.hbm, 172, rfl⟩
abbrev main_v129 : Ref sig .tc := ⟨.hbm, 173, rfl⟩
abbrev main_v130 : Ref sig .tc := ⟨.hbm, 174, rfl⟩
abbrev main_c_30 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_cst_31 : Ref sig .tc := ⟨.hbm, 181, rfl⟩
abbrev main_v136 : Ref sig .tc := ⟨.hbm, 182, rfl⟩
abbrev main_v137 : Ref sig .tc := ⟨.hbm, 183, rfl⟩
abbrev main_cst_32 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_c_33 : Ref sig .tc := ⟨.hbm, 193, rfl⟩
abbrev main_v146 : Ref sig .tc := ⟨.hbm, 194, rfl⟩
abbrev main_v147 : Ref sig .tc := ⟨.hbm, 195, rfl⟩
abbrev main_c_34 : Ref sig .tc := ⟨.hbm, 196, rfl⟩
abbrev main_v148 : Ref sig .tc := ⟨.hbm, 197, rfl⟩
abbrev main_v149 : Ref sig .tc := ⟨.hbm, 198, rfl⟩
abbrev main_c_35 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_cst_36 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_c_37 : Ref sig .tc := ⟨.hbm, 215, rfl⟩
abbrev main_v164 : Ref sig .tc := ⟨.hbm, 216, rfl⟩
abbrev main_v165 : Ref sig .tc := ⟨.hbm, 217, rfl⟩
abbrev main_c_38 : Ref sig .tc := ⟨.hbm, 218, rfl⟩
abbrev main_v166 : Ref sig .tc := ⟨.hbm, 219, rfl⟩
abbrev main_v167 : Ref sig .tc := ⟨.hbm, 220, rfl⟩
abbrev main_c_39 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_cst_40 : Ref sig .tc := ⟨.hbm, 227, rfl⟩
abbrev main_v173 : Ref sig .tc := ⟨.hbm, 228, rfl⟩
abbrev main_v174 : Ref sig .tc := ⟨.hbm, 229, rfl⟩
abbrev main_v175 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_c_41 : Ref sig .tc := ⟨.hbm, 237, rfl⟩
abbrev main_v182 : Ref sig .tc := ⟨.hbm, 238, rfl⟩
abbrev main_v183 : Ref sig .tc := ⟨.hbm, 239, rfl⟩
abbrev main_c_42 : Ref sig .tc := ⟨.hbm, 240, rfl⟩
abbrev main_v184 : Ref sig .tc := ⟨.hbm, 241, rfl⟩
abbrev main_v185 : Ref sig .tc := ⟨.hbm, 242, rfl⟩
abbrev main_c_43 : Ref sig .tc := ⟨.hbm, 243, rfl⟩
abbrev main_v186 : Ref sig .tc := ⟨.hbm, 244, rfl⟩
abbrev main_v187 : Ref sig .tc := ⟨.hbm, 245, rfl⟩
abbrev main_c_44 : Ref sig .tc := ⟨.hbm, 246, rfl⟩
abbrev main_v188 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_cst_45 : Ref sig .tc := ⟨.hbm, 260, rfl⟩
abbrev main_call4_v0 : Ref sig .tc := ⟨.hbm, 261, rfl⟩
abbrev main_call4_v1 : Ref sig .tc := ⟨.hbm, 262, rfl⟩
abbrev main_call4_v2 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_cst_46 : Ref sig .tc := ⟨.hbm, 269, rfl⟩
abbrev main_v206 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_cst_47 : Ref sig .tc := ⟨.hbm, 275, rfl⟩
abbrev main_v211 : Ref sig .tc := ⟨.hbm, 276, rfl⟩
abbrev main_v212 : Ref sig .tc := ⟨.hbm, 277, rfl⟩
abbrev main_v213 : Ref sig .tc := ⟨.hbm, 278, rfl⟩
abbrev main_v214 : Ref sig .tc := ⟨.hbm, 279, rfl⟩
abbrev main_cst_48 : Ref sig .tc := ⟨.hbm, 280, rfl⟩
abbrev main_v215 : Ref sig .tc := ⟨.hbm, 281, rfl⟩
abbrev main_v216 : Ref sig .tc := ⟨.hbm, 282, rfl⟩
abbrev main_cst_49 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_cst_50 : Ref sig .tc := ⟨.hbm, 288, rfl⟩
abbrev main_v221 : Ref sig .tc := ⟨.hbm, 289, rfl⟩
abbrev main_v222 : Ref sig .tc := ⟨.hbm, 290, rfl⟩
abbrev main_cst_51 : Ref sig .tc := ⟨.hbm, 291, rfl⟩
abbrev main_v223 : Ref sig .tc := ⟨.hbm, 292, rfl⟩
abbrev main_v224 : Ref sig .tc := ⟨.hbm, 293, rfl⟩
abbrev main_v225 : Ref sig .tc := ⟨.hbm, 294, rfl⟩
abbrev main_v226 : Ref sig .tc := ⟨.hbm, 295, rfl⟩
abbrev main_v227 : Ref sig .tc := ⟨.hbm, 296, rfl⟩
abbrev main_v228 : Ref sig .tc := ⟨.hbm, 297, rfl⟩
abbrev main_v229 : Ref sig .tc := ⟨.hbm, 298, rfl⟩
abbrev main_v230 : Ref sig .tc := ⟨.hbm, 299, rfl⟩
abbrev main_cst_52 : Ref sig .tc := ⟨.hbm, 300, rfl⟩
abbrev main_cst_53 : Ref sig .tc := ⟨.hbm, 301, rfl⟩
abbrev main_call5_v0 : Ref sig .tc := ⟨.hbm, 302, rfl⟩
abbrev main_call5_v1 : Ref sig .tc := ⟨.hbm, 303, rfl⟩
abbrev main_call5_v2 : Ref sig .tc := ⟨.hbm, 304, rfl⟩
abbrev main_call5_v3 : Ref sig .tc := ⟨.hbm, 305, rfl⟩
abbrev main_call5_v4 : Ref sig .tc := ⟨.hbm, 306, rfl⟩
abbrev main_v231 : Ref sig .tc := ⟨.hbm, 307, rfl⟩
abbrev main_v232 : Ref sig .tc := ⟨.hbm, 308, rfl⟩
abbrev main_cst_54 : Ref sig .tc := ⟨.hbm, 309, rfl⟩
abbrev main_cst_55 : Ref sig .tc := ⟨.hbm, 310, rfl⟩
abbrev main_call6_v0 : Ref sig .tc := ⟨.hbm, 311, rfl⟩
abbrev main_call6_v1 : Ref sig .tc := ⟨.hbm, 312, rfl⟩
abbrev main_call6_v2 : Ref sig .tc := ⟨.hbm, 313, rfl⟩
abbrev main_call6_v3 : Ref sig .tc := ⟨.hbm, 314, rfl⟩
abbrev main_call6_v4 : Ref sig .tc := ⟨.hbm, 315, rfl⟩
abbrev main_v233 : Ref sig .tc := ⟨.hbm, 316, rfl⟩
abbrev main_v234 : Ref sig .tc := ⟨.hbm, 317, rfl⟩
abbrev main_v235 : Ref sig .tc := ⟨.hbm, 318, rfl⟩
abbrev main_v236 : Ref sig .tc := ⟨.hbm, 319, rfl⟩
abbrev main_v237 : Ref sig .tc := ⟨.hbm, 320, rfl⟩
abbrev main_cst_56 : Ref sig .tc := ⟨.hbm, 321, rfl⟩
abbrev main_v238 : Ref sig .tc := ⟨.hbm, 322, rfl⟩
abbrev main_v239 : Ref sig .tc := ⟨.hbm, 323, rfl⟩
abbrev main_v240 : Ref sig .tc := ⟨.hbm, 324, rfl⟩
abbrev main_v241 : Ref sig .tc := ⟨.hbm, 325, rfl⟩
abbrev main_v242 : Ref sig .tc := ⟨.hbm, 326, rfl⟩
abbrev main_v243 : Ref sig .tc := ⟨.hbm, 327, rfl⟩
abbrev main_v244 : Ref sig .tc := ⟨.hbm, 328, rfl⟩
abbrev main_v245 : Ref sig .tc := ⟨.hbm, 329, rfl⟩
abbrev main_v246 : Ref sig .tc := ⟨.hbm, 330, rfl⟩
abbrev main_v247 : Ref sig .tc := ⟨.hbm, 331, rfl⟩
abbrev main_c_57 : Ref sig .tc := ⟨.hbm, 332, rfl⟩
abbrev main_v248 : Ref sig .tc := ⟨.hbm, 333, rfl⟩
abbrev main_v249 : Ref sig .tc := ⟨.hbm, 334, rfl⟩
abbrev main_v250 : Ref sig .tc := ⟨.hbm, 335, rfl⟩
abbrev main_v251 : Ref sig .tc := ⟨.hbm, 336, rfl⟩
abbrev main_v252 : Ref sig .tc := ⟨.hbm, 337, rfl⟩
abbrev main_v253 : Ref sig .tc := ⟨.hbm, 338, rfl⟩
abbrev main_v254 : Ref sig .tc := ⟨.hbm, 339, rfl⟩
abbrev main_c_58 : Ref sig .tc := ⟨.hbm, 340, rfl⟩
abbrev main_v255 : Ref sig .tc := ⟨.hbm, 341, rfl⟩
abbrev main_v256 : Ref sig .tc := ⟨.hbm, 342, rfl⟩
abbrev main_c_59 : Ref sig .tc := ⟨.hbm, 343, rfl⟩
abbrev main_v257 : Ref sig .tc := ⟨.hbm, 344, rfl⟩
abbrev main_v258 : Ref sig .tc := ⟨.hbm, 345, rfl⟩
abbrev main_v259 : Ref sig .tc := ⟨.hbm, 346, rfl⟩
abbrev main_v260 : Ref sig .tc := ⟨.hbm, 347, rfl⟩
abbrev main_v261 : Ref sig .tc := ⟨.hbm, 348, rfl⟩
abbrev main_cst_60 : Ref sig .tc := ⟨.hbm, 349, rfl⟩
abbrev main_v262 : Ref sig .tc := ⟨.hbm, 350, rfl⟩
abbrev main_v263 : Ref sig .tc := ⟨.hbm, 351, rfl⟩
abbrev main_cst_61 : Ref sig .tc := ⟨.hbm, 352, rfl⟩
abbrev main_v264 : Ref sig .tc := ⟨.hbm, 353, rfl⟩
abbrev main_v265 : Ref sig .tc := ⟨.hbm, 354, rfl⟩
abbrev main_v266 : Ref sig .tc := ⟨.hbm, 355, rfl⟩
abbrev main_v267 : Ref sig .tc := ⟨.hbm, 356, rfl⟩
abbrev main_v268 : Ref sig .tc := ⟨.hbm, 357, rfl⟩
abbrev main_v269 : Ref sig .tc := ⟨.hbm, 358, rfl⟩
abbrev main_v270 : Ref sig .tc := ⟨.hbm, 359, rfl⟩
abbrev main_v271 : Ref sig .tc := ⟨.hbm, 360, rfl⟩
abbrev main_c_62 : Ref sig .tc := ⟨.hbm, 361, rfl⟩
abbrev main_v272 : Ref sig .tc := ⟨.hbm, 362, rfl⟩
abbrev main_v273 : Ref sig .tc := ⟨.hbm, 363, rfl⟩
abbrev main_c_63 : Ref sig .tc := ⟨.hbm, 364, rfl⟩
abbrev main_v274 : Ref sig .tc := ⟨.hbm, 365, rfl⟩
abbrev main_v275 : Ref sig .tc := ⟨.hbm, 366, rfl⟩
abbrev main_c_64 : Ref sig .tc := ⟨.hbm, 367, rfl⟩
abbrev main_v276 : Ref sig .tc := ⟨.hbm, 368, rfl⟩
abbrev main_v277 : Ref sig .tc := ⟨.hbm, 369, rfl⟩
abbrev main_v278 : Ref sig .tc := ⟨.hbm, 370, rfl⟩
abbrev main_v279 : Ref sig .tc := ⟨.hbm, 371, rfl⟩
abbrev main_v280 : Ref sig .tc := ⟨.hbm, 372, rfl⟩
abbrev main_cst_65 : Ref sig .tc := ⟨.hbm, 373, rfl⟩
abbrev main_v281 : Ref sig .tc := ⟨.hbm, 374, rfl⟩
abbrev main_v282 : Ref sig .tc := ⟨.hbm, 375, rfl⟩
abbrev main_v283 : Ref sig .tc := ⟨.hbm, 376, rfl⟩
abbrev main_v284 : Ref sig .tc := ⟨.hbm, 377, rfl⟩
abbrev main_v285 : Ref sig .tc := ⟨.hbm, 378, rfl⟩
abbrev main_v286 : Ref sig .tc := ⟨.hbm, 379, rfl⟩
abbrev main_v287 : Ref sig .tc := ⟨.hbm, 380, rfl⟩
abbrev main_v288 : Ref sig .tc := ⟨.hbm, 381, rfl⟩
abbrev main_v289 : Ref sig .tc := ⟨.hbm, 382, rfl⟩
abbrev main_c_66 : Ref sig .tc := ⟨.hbm, 383, rfl⟩
abbrev main_v290 : Ref sig .tc := ⟨.hbm, 384, rfl⟩
abbrev main_v291 : Ref sig .tc := ⟨.hbm, 385, rfl⟩
abbrev main_c_67 : Ref sig .tc := ⟨.hbm, 386, rfl⟩
abbrev main_v292 : Ref sig .tc := ⟨.hbm, 387, rfl⟩
abbrev main_v293 : Ref sig .tc := ⟨.hbm, 388, rfl⟩
abbrev main_c_68 : Ref sig .tc := ⟨.hbm, 389, rfl⟩
abbrev main_v294 : Ref sig .tc := ⟨.hbm, 390, rfl⟩
abbrev main_v295 : Ref sig .tc := ⟨.hbm, 391, rfl⟩
abbrev main_v296 : Ref sig .tc := ⟨.hbm, 392, rfl⟩
abbrev main_v297 : Ref sig .tc := ⟨.hbm, 393, rfl⟩
abbrev main_v298 : Ref sig .tc := ⟨.hbm, 394, rfl⟩
abbrev main_cst_69 : Ref sig .tc := ⟨.hbm, 395, rfl⟩
abbrev main_v299 : Ref sig .tc := ⟨.hbm, 396, rfl⟩
abbrev main_v300 : Ref sig .tc := ⟨.hbm, 397, rfl⟩
abbrev main_v301 : Ref sig .tc := ⟨.hbm, 398, rfl⟩
abbrev main_v302 : Ref sig .tc := ⟨.hbm, 399, rfl⟩
abbrev main_v303 : Ref sig .tc := ⟨.hbm, 400, rfl⟩
abbrev main_v304 : Ref sig .tc := ⟨.hbm, 401, rfl⟩
abbrev main_v305 : Ref sig .tc := ⟨.hbm, 402, rfl⟩
abbrev main_v306 : Ref sig .tc := ⟨.hbm, 403, rfl⟩
abbrev main_v307 : Ref sig .tc := ⟨.hbm, 404, rfl⟩
abbrev main_c_70 : Ref sig .tc := ⟨.hbm, 405, rfl⟩
abbrev main_v308 : Ref sig .tc := ⟨.hbm, 406, rfl⟩
abbrev main_v309 : Ref sig .tc := ⟨.hbm, 407, rfl⟩
abbrev main_c_71 : Ref sig .tc := ⟨.hbm, 408, rfl⟩
abbrev main_v310 : Ref sig .tc := ⟨.hbm, 409, rfl⟩
abbrev main_v311 : Ref sig .tc := ⟨.hbm, 410, rfl⟩
abbrev main_c_72 : Ref sig .tc := ⟨.hbm, 411, rfl⟩
abbrev main_v312 : Ref sig .tc := ⟨.hbm, 412, rfl⟩
abbrev main_v313 : Ref sig .tc := ⟨.hbm, 413, rfl⟩
abbrev main_c_73 : Ref sig .tc := ⟨.hbm, 414, rfl⟩
abbrev main_v314 : Ref sig .tc := ⟨.hbm, 415, rfl⟩
abbrev main_v315 : Ref sig .tc := ⟨.hbm, 416, rfl⟩
abbrev main_v316 : Ref sig .tc := ⟨.hbm, 417, rfl⟩
abbrev main_v317 : Ref sig .tc := ⟨.hbm, 418, rfl⟩
abbrev main_v318 : Ref sig .tc := ⟨.hbm, 419, rfl⟩
abbrev main_v319 : Ref sig .tc := ⟨.hbm, 420, rfl⟩
abbrev main_v320 : Ref sig .tc := ⟨.hbm, 421, rfl⟩
abbrev main_v321 : Ref sig .tc := ⟨.hbm, 422, rfl⟩
abbrev main_v322 : Ref sig .tc := ⟨.hbm, 423, rfl⟩
abbrev main_v323 : Ref sig .tc := ⟨.hbm, 424, rfl⟩
abbrev main_v324 : Ref sig .tc := ⟨.hbm, 425, rfl⟩
abbrev main_v325 : Ref sig .tc := ⟨.hbm, 426, rfl⟩
abbrev main_v326 : Ref sig .tc := ⟨.hbm, 427, rfl⟩
abbrev main_cst_74 : Ref sig .tc := ⟨.hbm, 428, rfl⟩
abbrev main_call7_v0 : Ref sig .tc := ⟨.hbm, 429, rfl⟩
abbrev main_call7_v1 : Ref sig .tc := ⟨.hbm, 430, rfl⟩
abbrev main_call7_v2 : Ref sig .tc := ⟨.hbm, 431, rfl⟩
abbrev main_v327 : Ref sig .tc := ⟨.hbm, 432, rfl⟩
abbrev main_v328 : Ref sig .tc := ⟨.hbm, 433, rfl⟩
abbrev main_v329 : Ref sig .tc := ⟨.hbm, 434, rfl⟩
abbrev main_v330 : Ref sig .tc := ⟨.hbm, 435, rfl⟩
abbrev main_v331 : Ref sig .tc := ⟨.hbm, 436, rfl⟩
abbrev main_cst_75 : Ref sig .tc := ⟨.hbm, 437, rfl⟩
abbrev main_v332 : Ref sig .tc := ⟨.hbm, 438, rfl⟩
abbrev main_v333 : Ref sig .tc := ⟨.hbm, 439, rfl⟩
abbrev main_v334 : Ref sig .tc := ⟨.hbm, 440, rfl⟩
abbrev main_v335 : Ref sig .tc := ⟨.hbm, 441, rfl⟩
abbrev main_v336 : Ref sig .tc := ⟨.hbm, 442, rfl⟩
abbrev main_cst_76 : Ref sig .tc := ⟨.hbm, 443, rfl⟩
abbrev main_v337 : Ref sig .tc := ⟨.hbm, 444, rfl⟩
abbrev main_v338 : Ref sig .tc := ⟨.hbm, 445, rfl⟩
abbrev main_v339 : Ref sig .tc := ⟨.hbm, 446, rfl⟩
abbrev main_v340 : Ref sig .tc := ⟨.hbm, 447, rfl⟩
abbrev main_cst_77 : Ref sig .tc := ⟨.hbm, 448, rfl⟩
abbrev main_v341 : Ref sig .tc := ⟨.hbm, 449, rfl⟩
abbrev main_v342 : Ref sig .tc := ⟨.hbm, 450, rfl⟩
abbrev main_cst_78 : Ref sig .tc := ⟨.hbm, 451, rfl⟩
abbrev main_v343 : Ref sig .tc := ⟨.hbm, 452, rfl⟩
abbrev main_v344 : Ref sig .tc := ⟨.hbm, 453, rfl⟩
abbrev main_v345 : Ref sig .tc := ⟨.hbm, 454, rfl⟩
abbrev main_v346 : Ref sig .tc := ⟨.hbm, 455, rfl⟩
abbrev main_cst_79 : Ref sig .tc := ⟨.hbm, 456, rfl⟩
abbrev main_v347 : Ref sig .tc := ⟨.hbm, 457, rfl⟩
abbrev main_v348 : Ref sig .tc := ⟨.hbm, 458, rfl⟩
abbrev main_cst_80 : Ref sig .tc := ⟨.hbm, 459, rfl⟩
abbrev main_v349 : Ref sig .tc := ⟨.hbm, 460, rfl⟩
abbrev main_v350 : Ref sig .tc := ⟨.hbm, 461, rfl⟩
abbrev main_v351 : Ref sig .tc := ⟨.hbm, 462, rfl⟩
abbrev main_v352 : Ref sig .tc := ⟨.hbm, 463, rfl⟩
abbrev main_v353 : Ref sig .tc := ⟨.hbm, 464, rfl⟩
abbrev main_v354 : Ref sig .tc := ⟨.hbm, 465, rfl⟩
abbrev main_v355 : Ref sig .tc := ⟨.hbm, 466, rfl⟩
abbrev main_v356 : Ref sig .tc := ⟨.hbm, 467, rfl⟩
abbrev main_cst_81 : Ref sig .tc := ⟨.hbm, 468, rfl⟩
abbrev main_cst_82 : Ref sig .tc := ⟨.hbm, 469, rfl⟩
abbrev main_call8_v0 : Ref sig .tc := ⟨.hbm, 470, rfl⟩
abbrev main_call8_v1 : Ref sig .tc := ⟨.hbm, 471, rfl⟩
abbrev main_call8_v2 : Ref sig .tc := ⟨.hbm, 472, rfl⟩
abbrev main_call8_v3 : Ref sig .tc := ⟨.hbm, 473, rfl⟩
abbrev main_call8_v4 : Ref sig .tc := ⟨.hbm, 474, rfl⟩
abbrev main_v357 : Ref sig .tc := ⟨.hbm, 475, rfl⟩
abbrev main_v358 : Ref sig .tc := ⟨.hbm, 476, rfl⟩
abbrev main_cst_83 : Ref sig .tc := ⟨.hbm, 477, rfl⟩
abbrev main_cst_84 : Ref sig .tc := ⟨.hbm, 478, rfl⟩
abbrev main_call9_v0 : Ref sig .tc := ⟨.hbm, 479, rfl⟩
abbrev main_call9_v1 : Ref sig .tc := ⟨.hbm, 480, rfl⟩
abbrev main_call9_v2 : Ref sig .tc := ⟨.hbm, 481, rfl⟩
abbrev main_call9_v3 : Ref sig .tc := ⟨.hbm, 482, rfl⟩
abbrev main_call9_v4 : Ref sig .tc := ⟨.hbm, 483, rfl⟩
abbrev main_v359 : Ref sig .tc := ⟨.hbm, 484, rfl⟩
abbrev main_v360 : Ref sig .tc := ⟨.hbm, 485, rfl⟩
abbrev main_v361 : Ref sig .tc := ⟨.hbm, 486, rfl⟩
abbrev main_v362 : Ref sig .tc := ⟨.hbm, 487, rfl⟩
abbrev main_v363 : Ref sig .tc := ⟨.hbm, 488, rfl⟩
abbrev main_cst_85 : Ref sig .tc := ⟨.hbm, 489, rfl⟩
abbrev main_v364 : Ref sig .tc := ⟨.hbm, 490, rfl⟩
abbrev main_v365 : Ref sig .tc := ⟨.hbm, 491, rfl⟩
abbrev main_v366 : Ref sig .tc := ⟨.hbm, 492, rfl⟩
abbrev main_v367 : Ref sig .tc := ⟨.hbm, 493, rfl⟩
abbrev main_v368 : Ref sig .tc := ⟨.hbm, 494, rfl⟩
abbrev main_v369 : Ref sig .tc := ⟨.hbm, 495, rfl⟩
abbrev main_v370 : Ref sig .tc := ⟨.hbm, 496, rfl⟩
abbrev main_v371 : Ref sig .tc := ⟨.hbm, 497, rfl⟩
abbrev main_v372 : Ref sig .tc := ⟨.hbm, 498, rfl⟩
abbrev main_v373 : Ref sig .tc := ⟨.hbm, 499, rfl⟩
abbrev main_c_86 : Ref sig .tc := ⟨.hbm, 500, rfl⟩
abbrev main_v374 : Ref sig .tc := ⟨.hbm, 501, rfl⟩
abbrev main_v375 : Ref sig .tc := ⟨.hbm, 502, rfl⟩
abbrev main_v376 : Ref sig .tc := ⟨.hbm, 503, rfl⟩
abbrev main_v377 : Ref sig .tc := ⟨.hbm, 504, rfl⟩
abbrev main_v378 : Ref sig .tc := ⟨.hbm, 505, rfl⟩
abbrev main_v379 : Ref sig .tc := ⟨.hbm, 506, rfl⟩
abbrev main_v380 : Ref sig .tc := ⟨.hbm, 507, rfl⟩
abbrev main_c_87 : Ref sig .tc := ⟨.hbm, 508, rfl⟩
abbrev main_v381 : Ref sig .tc := ⟨.hbm, 509, rfl⟩
abbrev main_v382 : Ref sig .tc := ⟨.hbm, 510, rfl⟩
abbrev main_c_88 : Ref sig .tc := ⟨.hbm, 511, rfl⟩
abbrev main_v383 : Ref sig .tc := ⟨.hbm, 512, rfl⟩
abbrev main_v384 : Ref sig .tc := ⟨.hbm, 513, rfl⟩
abbrev main_v385 : Ref sig .tc := ⟨.hbm, 514, rfl⟩
abbrev main_v386 : Ref sig .tc := ⟨.hbm, 515, rfl⟩
abbrev main_v387 : Ref sig .tc := ⟨.hbm, 516, rfl⟩
abbrev main_cst_89 : Ref sig .tc := ⟨.hbm, 517, rfl⟩
abbrev main_v388 : Ref sig .tc := ⟨.hbm, 518, rfl⟩
abbrev main_v389 : Ref sig .tc := ⟨.hbm, 519, rfl⟩
abbrev main_cst_90 : Ref sig .tc := ⟨.hbm, 520, rfl⟩
abbrev main_v390 : Ref sig .tc := ⟨.hbm, 521, rfl⟩
abbrev main_v391 : Ref sig .tc := ⟨.hbm, 522, rfl⟩
abbrev main_v392 : Ref sig .tc := ⟨.hbm, 523, rfl⟩
abbrev main_v393 : Ref sig .tc := ⟨.hbm, 524, rfl⟩
abbrev main_v394 : Ref sig .tc := ⟨.hbm, 525, rfl⟩
abbrev main_v395 : Ref sig .tc := ⟨.hbm, 526, rfl⟩
abbrev main_v396 : Ref sig .tc := ⟨.hbm, 527, rfl⟩
abbrev main_v397 : Ref sig .tc := ⟨.hbm, 528, rfl⟩
abbrev main_c_91 : Ref sig .tc := ⟨.hbm, 529, rfl⟩
abbrev main_v398 : Ref sig .tc := ⟨.hbm, 530, rfl⟩
abbrev main_v399 : Ref sig .tc := ⟨.hbm, 531, rfl⟩
abbrev main_c_92 : Ref sig .tc := ⟨.hbm, 532, rfl⟩
abbrev main_v400 : Ref sig .tc := ⟨.hbm, 533, rfl⟩
abbrev main_v401 : Ref sig .tc := ⟨.hbm, 534, rfl⟩
abbrev main_c_93 : Ref sig .tc := ⟨.hbm, 535, rfl⟩
abbrev main_v402 : Ref sig .tc := ⟨.hbm, 536, rfl⟩
abbrev main_v403 : Ref sig .tc := ⟨.hbm, 537, rfl⟩
abbrev main_v404 : Ref sig .tc := ⟨.hbm, 538, rfl⟩
abbrev main_v405 : Ref sig .tc := ⟨.hbm, 539, rfl⟩
abbrev main_v406 : Ref sig .tc := ⟨.hbm, 540, rfl⟩
abbrev main_cst_94 : Ref sig .tc := ⟨.hbm, 541, rfl⟩
abbrev main_v407 : Ref sig .tc := ⟨.hbm, 542, rfl⟩
abbrev main_v408 : Ref sig .tc := ⟨.hbm, 543, rfl⟩
abbrev main_v409 : Ref sig .tc := ⟨.hbm, 544, rfl⟩
abbrev main_v410 : Ref sig .tc := ⟨.hbm, 545, rfl⟩
abbrev main_v411 : Ref sig .tc := ⟨.hbm, 546, rfl⟩
abbrev main_v412 : Ref sig .tc := ⟨.hbm, 547, rfl⟩
abbrev main_v413 : Ref sig .tc := ⟨.hbm, 548, rfl⟩
abbrev main_v414 : Ref sig .tc := ⟨.hbm, 549, rfl⟩
abbrev main_v415 : Ref sig .tc := ⟨.hbm, 550, rfl⟩
abbrev main_c_95 : Ref sig .tc := ⟨.hbm, 551, rfl⟩
abbrev main_v416 : Ref sig .tc := ⟨.hbm, 552, rfl⟩
abbrev main_v417 : Ref sig .tc := ⟨.hbm, 553, rfl⟩
abbrev main_c_96 : Ref sig .tc := ⟨.hbm, 554, rfl⟩
abbrev main_v418 : Ref sig .tc := ⟨.hbm, 555, rfl⟩
abbrev main_v419 : Ref sig .tc := ⟨.hbm, 556, rfl⟩
abbrev main_c_97 : Ref sig .tc := ⟨.hbm, 557, rfl⟩
abbrev main_v420 : Ref sig .tc := ⟨.hbm, 558, rfl⟩
abbrev main_v421 : Ref sig .tc := ⟨.hbm, 559, rfl⟩
abbrev main_v422 : Ref sig .tc := ⟨.hbm, 560, rfl⟩
abbrev main_v423 : Ref sig .tc := ⟨.hbm, 561, rfl⟩
abbrev main_v424 : Ref sig .tc := ⟨.hbm, 562, rfl⟩
abbrev main_cst_98 : Ref sig .tc := ⟨.hbm, 563, rfl⟩
abbrev main_v425 : Ref sig .tc := ⟨.hbm, 564, rfl⟩
abbrev main_v426 : Ref sig .tc := ⟨.hbm, 565, rfl⟩
abbrev main_v427 : Ref sig .tc := ⟨.hbm, 566, rfl⟩
abbrev main_v428 : Ref sig .tc := ⟨.hbm, 567, rfl⟩
abbrev main_v429 : Ref sig .tc := ⟨.hbm, 568, rfl⟩
abbrev main_v430 : Ref sig .tc := ⟨.hbm, 569, rfl⟩
abbrev main_v431 : Ref sig .tc := ⟨.hbm, 570, rfl⟩
abbrev main_v432 : Ref sig .tc := ⟨.hbm, 571, rfl⟩
abbrev main_v433 : Ref sig .tc := ⟨.hbm, 572, rfl⟩
abbrev main_c_99 : Ref sig .tc := ⟨.hbm, 573, rfl⟩
abbrev main_v434 : Ref sig .tc := ⟨.hbm, 574, rfl⟩
abbrev main_v435 : Ref sig .tc := ⟨.hbm, 575, rfl⟩
abbrev main_c_100 : Ref sig .tc := ⟨.hbm, 576, rfl⟩
abbrev main_v436 : Ref sig .tc := ⟨.hbm, 577, rfl⟩
abbrev main_v437 : Ref sig .tc := ⟨.hbm, 578, rfl⟩
abbrev main_c_101 : Ref sig .tc := ⟨.hbm, 579, rfl⟩
abbrev main_v438 : Ref sig .tc := ⟨.hbm, 580, rfl⟩
abbrev main_v439 : Ref sig .tc := ⟨.hbm, 581, rfl⟩
abbrev main_c_102 : Ref sig .tc := ⟨.hbm, 582, rfl⟩
abbrev main_v440 : Ref sig .tc := ⟨.hbm, 583, rfl⟩
abbrev main_v441 : Ref sig .tc := ⟨.hbm, 584, rfl⟩
abbrev main_v442 : Ref sig .tc := ⟨.hbm, 585, rfl⟩
abbrev main_v443 : Ref sig .tc := ⟨.hbm, 586, rfl⟩
abbrev main_v444 : Ref sig .tc := ⟨.hbm, 587, rfl⟩
abbrev main_v445 : Ref sig .tc := ⟨.hbm, 588, rfl⟩
abbrev main_v446 : Ref sig .tc := ⟨.hbm, 589, rfl⟩
abbrev main_v447 : Ref sig .tc := ⟨.hbm, 590, rfl⟩
abbrev main_v448 : Ref sig .tc := ⟨.hbm, 591, rfl⟩
abbrev main_v449 : Ref sig .tc := ⟨.hbm, 592, rfl⟩
abbrev main_v450 : Ref sig .tc := ⟨.hbm, 593, rfl⟩
abbrev main_v451 : Ref sig .tc := ⟨.hbm, 594, rfl⟩
abbrev main_v452 : Ref sig .tc := ⟨.hbm, 595, rfl⟩
abbrev main_cst_103 : Ref sig .tc := ⟨.hbm, 596, rfl⟩
abbrev main_call10_v0 : Ref sig .tc := ⟨.hbm, 597, rfl⟩
abbrev main_call10_v1 : Ref sig .tc := ⟨.hbm, 598, rfl⟩
abbrev main_call10_v2 : Ref sig .tc := ⟨.hbm, 599, rfl⟩
abbrev main_v453 : Ref sig .tc := ⟨.hbm, 600, rfl⟩
abbrev main_v454 : Ref sig .tc := ⟨.hbm, 601, rfl⟩
abbrev main_v455 : Ref sig .tc := ⟨.hbm, 602, rfl⟩
abbrev main_v456 : Ref sig .tc := ⟨.hbm, 603, rfl⟩
abbrev main_v457 : Ref sig .tc := ⟨.hbm, 604, rfl⟩
abbrev main_cst_104 : Ref sig .tc := ⟨.hbm, 605, rfl⟩
abbrev main_v458 : Ref sig .tc := ⟨.hbm, 606, rfl⟩
abbrev main_v459 : Ref sig .tc := ⟨.hbm, 607, rfl⟩
abbrev main_v460 : Ref sig .tc := ⟨.hbm, 608, rfl⟩
abbrev main_v461 : Ref sig .tc := ⟨.hbm, 609, rfl⟩
abbrev main_v462 : Ref sig .tc := ⟨.hbm, 610, rfl⟩
abbrev main_cst_105 : Ref sig .tc := ⟨.hbm, 611, rfl⟩
abbrev main_v463 : Ref sig .tc := ⟨.hbm, 612, rfl⟩
abbrev main_v464 : Ref sig .tc := ⟨.hbm, 613, rfl⟩
abbrev main_v465 : Ref sig .tc := ⟨.hbm, 614, rfl⟩
abbrev main_v466 : Ref sig .tc := ⟨.hbm, 615, rfl⟩
abbrev main_cst_106 : Ref sig .tc := ⟨.hbm, 616, rfl⟩
abbrev main_v467 : Ref sig .tc := ⟨.hbm, 617, rfl⟩
abbrev main_v468 : Ref sig .tc := ⟨.hbm, 618, rfl⟩
abbrev main_cst_107 : Ref sig .tc := ⟨.hbm, 619, rfl⟩
abbrev main_v469 : Ref sig .tc := ⟨.hbm, 620, rfl⟩
abbrev main_v470 : Ref sig .tc := ⟨.hbm, 621, rfl⟩
abbrev main_v471 : Ref sig .tc := ⟨.hbm, 622, rfl⟩
abbrev main_v472 : Ref sig .tc := ⟨.hbm, 623, rfl⟩
abbrev main_cst_108 : Ref sig .tc := ⟨.hbm, 624, rfl⟩
abbrev main_v473 : Ref sig .tc := ⟨.hbm, 625, rfl⟩
abbrev main_v474 : Ref sig .tc := ⟨.hbm, 626, rfl⟩
abbrev main_cst_109 : Ref sig .tc := ⟨.hbm, 627, rfl⟩
abbrev main_v475 : Ref sig .tc := ⟨.hbm, 628, rfl⟩
abbrev main_v476 : Ref sig .tc := ⟨.hbm, 629, rfl⟩
abbrev main_v477 : Ref sig .tc := ⟨.hbm, 630, rfl⟩
abbrev main_v478 : Ref sig .tc := ⟨.hbm, 631, rfl⟩
abbrev main_v479 : Ref sig .tc := ⟨.hbm, 632, rfl⟩
abbrev main_v480 : Ref sig .tc := ⟨.hbm, 633, rfl⟩
abbrev main_v481 : Ref sig .tc := ⟨.hbm, 634, rfl⟩
abbrev main_v482 : Ref sig .tc := ⟨.hbm, 635, rfl⟩
abbrev main_cst_110 : Ref sig .tc := ⟨.hbm, 636, rfl⟩
abbrev main_cst_111 : Ref sig .tc := ⟨.hbm, 637, rfl⟩
abbrev main_call11_v0 : Ref sig .tc := ⟨.hbm, 638, rfl⟩
abbrev main_call11_v1 : Ref sig .tc := ⟨.hbm, 639, rfl⟩
abbrev main_call11_v2 : Ref sig .tc := ⟨.hbm, 640, rfl⟩
abbrev main_call11_v3 : Ref sig .tc := ⟨.hbm, 641, rfl⟩
abbrev main_call11_v4 : Ref sig .tc := ⟨.hbm, 642, rfl⟩
abbrev main_v483 : Ref sig .tc := ⟨.hbm, 643, rfl⟩
abbrev main_v484 : Ref sig .tc := ⟨.hbm, 644, rfl⟩
abbrev main_cst_112 : Ref sig .tc := ⟨.hbm, 645, rfl⟩
abbrev main_cst_113 : Ref sig .tc := ⟨.hbm, 646, rfl⟩
abbrev main_call12_v0 : Ref sig .tc := ⟨.hbm, 647, rfl⟩
abbrev main_call12_v1 : Ref sig .tc := ⟨.hbm, 648, rfl⟩
abbrev main_call12_v2 : Ref sig .tc := ⟨.hbm, 649, rfl⟩
abbrev main_call12_v3 : Ref sig .tc := ⟨.hbm, 650, rfl⟩
abbrev main_call12_v4 : Ref sig .tc := ⟨.hbm, 651, rfl⟩
abbrev main_v485 : Ref sig .tc := ⟨.hbm, 652, rfl⟩
abbrev main_v486 : Ref sig .tc := ⟨.hbm, 653, rfl⟩
abbrev main_v487 : Ref sig .tc := ⟨.hbm, 654, rfl⟩
abbrev main_v488 : Ref sig .tc := ⟨.hbm, 655, rfl⟩
abbrev main_v489 : Ref sig .tc := ⟨.hbm, 656, rfl⟩
abbrev main_cst_114 : Ref sig .tc := ⟨.hbm, 657, rfl⟩
abbrev main_v490 : Ref sig .tc := ⟨.hbm, 658, rfl⟩
abbrev main_v491 : Ref sig .tc := ⟨.hbm, 659, rfl⟩
abbrev main_v492 : Ref sig .tc := ⟨.hbm, 660, rfl⟩
abbrev main_v493 : Ref sig .tc := ⟨.hbm, 661, rfl⟩
abbrev main_v494 : Ref sig .tc := ⟨.hbm, 662, rfl⟩
abbrev main_v495 : Ref sig .tc := ⟨.hbm, 663, rfl⟩
abbrev main_v496 : Ref sig .tc := ⟨.hbm, 664, rfl⟩
abbrev main_v497 : Ref sig .tc := ⟨.hbm, 665, rfl⟩
abbrev main_v498 : Ref sig .tc := ⟨.hbm, 666, rfl⟩
abbrev main_v499 : Ref sig .tc := ⟨.hbm, 667, rfl⟩
abbrev main_c_115 : Ref sig .tc := ⟨.hbm, 668, rfl⟩
abbrev main_v500 : Ref sig .tc := ⟨.hbm, 669, rfl⟩
abbrev main_v501 : Ref sig .tc := ⟨.hbm, 670, rfl⟩
abbrev main_v502 : Ref sig .tc := ⟨.hbm, 671, rfl⟩
abbrev main_v503 : Ref sig .tc := ⟨.hbm, 672, rfl⟩
abbrev main_v504 : Ref sig .tc := ⟨.hbm, 673, rfl⟩
abbrev main_v505 : Ref sig .tc := ⟨.hbm, 674, rfl⟩
abbrev main_v506 : Ref sig .tc := ⟨.hbm, 675, rfl⟩
abbrev main_c_116 : Ref sig .tc := ⟨.hbm, 676, rfl⟩
abbrev main_v507 : Ref sig .tc := ⟨.hbm, 677, rfl⟩
abbrev main_v508 : Ref sig .tc := ⟨.hbm, 678, rfl⟩
abbrev main_c_117 : Ref sig .tc := ⟨.hbm, 679, rfl⟩
abbrev main_v509 : Ref sig .tc := ⟨.hbm, 680, rfl⟩
abbrev main_v510 : Ref sig .tc := ⟨.hbm, 681, rfl⟩
abbrev main_v511 : Ref sig .tc := ⟨.hbm, 682, rfl⟩
abbrev main_v512 : Ref sig .tc := ⟨.hbm, 683, rfl⟩
abbrev main_v513 : Ref sig .tc := ⟨.hbm, 684, rfl⟩
abbrev main_cst_118 : Ref sig .tc := ⟨.hbm, 685, rfl⟩
abbrev main_v514 : Ref sig .tc := ⟨.hbm, 686, rfl⟩
abbrev main_v515 : Ref sig .tc := ⟨.hbm, 687, rfl⟩
abbrev main_cst_119 : Ref sig .tc := ⟨.hbm, 688, rfl⟩
abbrev main_v516 : Ref sig .tc := ⟨.hbm, 689, rfl⟩
abbrev main_v517 : Ref sig .tc := ⟨.hbm, 690, rfl⟩
abbrev main_v518 : Ref sig .tc := ⟨.hbm, 691, rfl⟩
abbrev main_v519 : Ref sig .tc := ⟨.hbm, 692, rfl⟩
abbrev main_v520 : Ref sig .tc := ⟨.hbm, 693, rfl⟩
abbrev main_v521 : Ref sig .tc := ⟨.hbm, 694, rfl⟩
abbrev main_v522 : Ref sig .tc := ⟨.hbm, 695, rfl⟩
abbrev main_v523 : Ref sig .tc := ⟨.hbm, 696, rfl⟩
abbrev main_c_120 : Ref sig .tc := ⟨.hbm, 697, rfl⟩
abbrev main_v524 : Ref sig .tc := ⟨.hbm, 698, rfl⟩
abbrev main_v525 : Ref sig .tc := ⟨.hbm, 699, rfl⟩
abbrev main_c_121 : Ref sig .tc := ⟨.hbm, 700, rfl⟩
abbrev main_v526 : Ref sig .tc := ⟨.hbm, 701, rfl⟩
abbrev main_v527 : Ref sig .tc := ⟨.hbm, 702, rfl⟩
abbrev main_c_122 : Ref sig .tc := ⟨.hbm, 703, rfl⟩
abbrev main_v528 : Ref sig .tc := ⟨.hbm, 704, rfl⟩
abbrev main_v529 : Ref sig .tc := ⟨.hbm, 705, rfl⟩
abbrev main_v530 : Ref sig .tc := ⟨.hbm, 706, rfl⟩
abbrev main_v531 : Ref sig .tc := ⟨.hbm, 707, rfl⟩
abbrev main_v532 : Ref sig .tc := ⟨.hbm, 708, rfl⟩
abbrev main_cst_123 : Ref sig .tc := ⟨.hbm, 709, rfl⟩
abbrev main_v533 : Ref sig .tc := ⟨.hbm, 710, rfl⟩
abbrev main_v534 : Ref sig .tc := ⟨.hbm, 711, rfl⟩
abbrev main_v535 : Ref sig .tc := ⟨.hbm, 712, rfl⟩
abbrev main_v536 : Ref sig .tc := ⟨.hbm, 713, rfl⟩
abbrev main_v537 : Ref sig .tc := ⟨.hbm, 714, rfl⟩
abbrev main_v538 : Ref sig .tc := ⟨.hbm, 715, rfl⟩
abbrev main_v539 : Ref sig .tc := ⟨.hbm, 716, rfl⟩
abbrev main_v540 : Ref sig .tc := ⟨.hbm, 717, rfl⟩
abbrev main_v541 : Ref sig .tc := ⟨.hbm, 718, rfl⟩
abbrev main_c_124 : Ref sig .tc := ⟨.hbm, 719, rfl⟩
abbrev main_v542 : Ref sig .tc := ⟨.hbm, 720, rfl⟩
abbrev main_v543 : Ref sig .tc := ⟨.hbm, 721, rfl⟩
abbrev main_c_125 : Ref sig .tc := ⟨.hbm, 722, rfl⟩
abbrev main_v544 : Ref sig .tc := ⟨.hbm, 723, rfl⟩
abbrev main_v545 : Ref sig .tc := ⟨.hbm, 724, rfl⟩
abbrev main_c_126 : Ref sig .tc := ⟨.hbm, 725, rfl⟩
abbrev main_v546 : Ref sig .tc := ⟨.hbm, 726, rfl⟩
abbrev main_v547 : Ref sig .tc := ⟨.hbm, 727, rfl⟩
abbrev main_v548 : Ref sig .tc := ⟨.hbm, 728, rfl⟩
abbrev main_v549 : Ref sig .tc := ⟨.hbm, 729, rfl⟩
abbrev main_v550 : Ref sig .tc := ⟨.hbm, 730, rfl⟩
abbrev main_cst_127 : Ref sig .tc := ⟨.hbm, 731, rfl⟩
abbrev main_v551 : Ref sig .tc := ⟨.hbm, 732, rfl⟩
abbrev main_v552 : Ref sig .tc := ⟨.hbm, 733, rfl⟩
abbrev main_v553 : Ref sig .tc := ⟨.hbm, 734, rfl⟩
abbrev main_v554 : Ref sig .tc := ⟨.hbm, 735, rfl⟩
abbrev main_v555 : Ref sig .tc := ⟨.hbm, 736, rfl⟩
abbrev main_v556 : Ref sig .tc := ⟨.hbm, 737, rfl⟩
abbrev main_v557 : Ref sig .tc := ⟨.hbm, 738, rfl⟩
abbrev main_v558 : Ref sig .tc := ⟨.hbm, 739, rfl⟩
abbrev main_v559 : Ref sig .tc := ⟨.hbm, 740, rfl⟩
abbrev main_c_128 : Ref sig .tc := ⟨.hbm, 741, rfl⟩
abbrev main_v560 : Ref sig .tc := ⟨.hbm, 742, rfl⟩
abbrev main_v561 : Ref sig .tc := ⟨.hbm, 743, rfl⟩
abbrev main_c_129 : Ref sig .tc := ⟨.hbm, 744, rfl⟩
abbrev main_v562 : Ref sig .tc := ⟨.hbm, 745, rfl⟩
abbrev main_v563 : Ref sig .tc := ⟨.hbm, 746, rfl⟩
abbrev main_c_130 : Ref sig .tc := ⟨.hbm, 747, rfl⟩
abbrev main_v564 : Ref sig .tc := ⟨.hbm, 748, rfl⟩
abbrev main_v565 : Ref sig .tc := ⟨.hbm, 749, rfl⟩
abbrev main_c_131 : Ref sig .tc := ⟨.hbm, 750, rfl⟩
abbrev main_v566 : Ref sig .tc := ⟨.hbm, 751, rfl⟩
abbrev main_v567 : Ref sig .tc := ⟨.hbm, 752, rfl⟩
abbrev main_v568 : Ref sig .tc := ⟨.hbm, 753, rfl⟩
abbrev main_v569 : Ref sig .tc := ⟨.hbm, 754, rfl⟩
abbrev main_v570 : Ref sig .tc := ⟨.hbm, 755, rfl⟩
abbrev main_v571 : Ref sig .tc := ⟨.hbm, 756, rfl⟩
abbrev main_v572 : Ref sig .tc := ⟨.hbm, 757, rfl⟩
abbrev main_v573 : Ref sig .tc := ⟨.hbm, 758, rfl⟩
abbrev main_v574 : Ref sig .tc := ⟨.hbm, 759, rfl⟩
abbrev main_v575 : Ref sig .tc := ⟨.hbm, 760, rfl⟩
abbrev main_v576 : Ref sig .tc := ⟨.hbm, 761, rfl⟩
abbrev main_v577 : Ref sig .tc := ⟨.hbm, 762, rfl⟩
abbrev main_v578 : Ref sig .tc := ⟨.hbm, 763, rfl⟩
abbrev main_cst_132 : Ref sig .tc := ⟨.hbm, 764, rfl⟩
abbrev main_call13_v0 : Ref sig .tc := ⟨.hbm, 765, rfl⟩
abbrev main_call13_v1 : Ref sig .tc := ⟨.hbm, 766, rfl⟩
abbrev main_call13_v2 : Ref sig .tc := ⟨.hbm, 767, rfl⟩
abbrev main_v579 : Ref sig .tc := ⟨.hbm, 768, rfl⟩
abbrev main_v580 : Ref sig .tc := ⟨.hbm, 769, rfl⟩
abbrev main_v581 : Ref sig .tc := ⟨.hbm, 770, rfl⟩
abbrev main_v582 : Ref sig .tc := ⟨.hbm, 771, rfl⟩
abbrev main_v583 : Ref sig .tc := ⟨.hbm, 772, rfl⟩
abbrev main_cst_133 : Ref sig .tc := ⟨.hbm, 773, rfl⟩
abbrev main_v584 : Ref sig .tc := ⟨.hbm, 774, rfl⟩
abbrev main_v585 : Ref sig .tc := ⟨.hbm, 775, rfl⟩
abbrev main_v586 : Ref sig .tc := ⟨.hbm, 776, rfl⟩
abbrev main_v587 : Ref sig .tc := ⟨.hbm, 777, rfl⟩
abbrev main_v588 : Ref sig .tc := ⟨.hbm, 778, rfl⟩
abbrev main_cst_134 : Ref sig .tc := ⟨.hbm, 779, rfl⟩
abbrev main_v589 : Ref sig .tc := ⟨.hbm, 780, rfl⟩
abbrev main_v590 : Ref sig .tc := ⟨.hbm, 781, rfl⟩
abbrev main_v591 : Ref sig .tc := ⟨.hbm, 782, rfl⟩
abbrev main_v592 : Ref sig .tc := ⟨.hbm, 783, rfl⟩
abbrev main_cst_135 : Ref sig .tc := ⟨.hbm, 784, rfl⟩
abbrev main_v593 : Ref sig .tc := ⟨.hbm, 785, rfl⟩
abbrev main_v594 : Ref sig .tc := ⟨.hbm, 786, rfl⟩
abbrev main_cst_136 : Ref sig .tc := ⟨.hbm, 787, rfl⟩
abbrev main_v595 : Ref sig .tc := ⟨.hbm, 788, rfl⟩
abbrev main_v596 : Ref sig .tc := ⟨.hbm, 789, rfl⟩
abbrev main_v597 : Ref sig .tc := ⟨.hbm, 790, rfl⟩
abbrev main_v598 : Ref sig .tc := ⟨.hbm, 791, rfl⟩
abbrev main_cst_137 : Ref sig .tc := ⟨.hbm, 792, rfl⟩
abbrev main_v599 : Ref sig .tc := ⟨.hbm, 793, rfl⟩
abbrev main_v600 : Ref sig .tc := ⟨.hbm, 794, rfl⟩
abbrev main_cst_138 : Ref sig .tc := ⟨.hbm, 795, rfl⟩
abbrev main_v601 : Ref sig .tc := ⟨.hbm, 796, rfl⟩
abbrev main_v602 : Ref sig .tc := ⟨.hbm, 797, rfl⟩
abbrev main_v603 : Ref sig .tc := ⟨.hbm, 798, rfl⟩
abbrev main_v604 : Ref sig .tc := ⟨.hbm, 799, rfl⟩
abbrev main_v605 : Ref sig .tc := ⟨.hbm, 800, rfl⟩
abbrev main_v606 : Ref sig .tc := ⟨.hbm, 801, rfl⟩
abbrev main_v607 : Ref sig .tc := ⟨.hbm, 802, rfl⟩
abbrev main_v608 : Ref sig .tc := ⟨.hbm, 803, rfl⟩
abbrev main_cst_139 : Ref sig .tc := ⟨.hbm, 804, rfl⟩
abbrev main_cst_140 : Ref sig .tc := ⟨.hbm, 805, rfl⟩
abbrev main_call14_v0 : Ref sig .tc := ⟨.hbm, 806, rfl⟩
abbrev main_call14_v1 : Ref sig .tc := ⟨.hbm, 807, rfl⟩
abbrev main_call14_v2 : Ref sig .tc := ⟨.hbm, 808, rfl⟩
abbrev main_call14_v3 : Ref sig .tc := ⟨.hbm, 809, rfl⟩
abbrev main_call14_v4 : Ref sig .tc := ⟨.hbm, 810, rfl⟩
abbrev main_v609 : Ref sig .tc := ⟨.hbm, 811, rfl⟩
abbrev main_v610 : Ref sig .tc := ⟨.hbm, 812, rfl⟩
abbrev main_cst_141 : Ref sig .tc := ⟨.hbm, 813, rfl⟩
abbrev main_cst_142 : Ref sig .tc := ⟨.hbm, 814, rfl⟩
abbrev main_call15_v0 : Ref sig .tc := ⟨.hbm, 815, rfl⟩
abbrev main_call15_v1 : Ref sig .tc := ⟨.hbm, 816, rfl⟩
abbrev main_call15_v2 : Ref sig .tc := ⟨.hbm, 817, rfl⟩
abbrev main_call15_v3 : Ref sig .tc := ⟨.hbm, 818, rfl⟩
abbrev main_call15_v4 : Ref sig .tc := ⟨.hbm, 819, rfl⟩
abbrev main_v611 : Ref sig .tc := ⟨.hbm, 820, rfl⟩
abbrev main_v612 : Ref sig .tc := ⟨.hbm, 821, rfl⟩
abbrev main_v613 : Ref sig .tc := ⟨.hbm, 822, rfl⟩
abbrev main_v614 : Ref sig .tc := ⟨.hbm, 823, rfl⟩
abbrev main_v615 : Ref sig .tc := ⟨.hbm, 824, rfl⟩
abbrev main_cst_143 : Ref sig .tc := ⟨.hbm, 825, rfl⟩
abbrev main_v616 : Ref sig .tc := ⟨.hbm, 826, rfl⟩
abbrev main_v617 : Ref sig .tc := ⟨.hbm, 827, rfl⟩
abbrev main_v618 : Ref sig .tc := ⟨.hbm, 828, rfl⟩
abbrev main_v619 : Ref sig .tc := ⟨.hbm, 829, rfl⟩
abbrev main_v620 : Ref sig .tc := ⟨.hbm, 830, rfl⟩
abbrev main_v621 : Ref sig .tc := ⟨.hbm, 831, rfl⟩
abbrev main_v622 : Ref sig .tc := ⟨.hbm, 832, rfl⟩
abbrev main_v623 : Ref sig .tc := ⟨.hbm, 833, rfl⟩
abbrev main_v624 : Ref sig .tc := ⟨.hbm, 834, rfl⟩
abbrev main_v625 : Ref sig .tc := ⟨.hbm, 835, rfl⟩
abbrev main_c_144 : Ref sig .tc := ⟨.hbm, 836, rfl⟩
abbrev main_v626 : Ref sig .tc := ⟨.hbm, 837, rfl⟩
abbrev main_v627 : Ref sig .tc := ⟨.hbm, 838, rfl⟩
abbrev main_v628 : Ref sig .tc := ⟨.hbm, 839, rfl⟩
abbrev main_v629 : Ref sig .tc := ⟨.hbm, 840, rfl⟩
abbrev main_v630 : Ref sig .tc := ⟨.hbm, 841, rfl⟩
abbrev main_v631 : Ref sig .tc := ⟨.hbm, 842, rfl⟩
abbrev main_v632 : Ref sig .tc := ⟨.hbm, 843, rfl⟩
abbrev main_c_145 : Ref sig .tc := ⟨.hbm, 844, rfl⟩
abbrev main_v633 : Ref sig .tc := ⟨.hbm, 845, rfl⟩
abbrev main_v634 : Ref sig .tc := ⟨.hbm, 846, rfl⟩
abbrev main_c_146 : Ref sig .tc := ⟨.hbm, 847, rfl⟩
abbrev main_v635 : Ref sig .tc := ⟨.hbm, 848, rfl⟩
abbrev main_v636 : Ref sig .tc := ⟨.hbm, 849, rfl⟩
abbrev main_v637 : Ref sig .tc := ⟨.hbm, 850, rfl⟩
abbrev main_v638 : Ref sig .tc := ⟨.hbm, 851, rfl⟩
abbrev main_v639 : Ref sig .tc := ⟨.hbm, 852, rfl⟩
abbrev main_cst_147 : Ref sig .tc := ⟨.hbm, 853, rfl⟩
abbrev main_v640 : Ref sig .tc := ⟨.hbm, 854, rfl⟩
abbrev main_v641 : Ref sig .tc := ⟨.hbm, 855, rfl⟩
abbrev main_cst_148 : Ref sig .tc := ⟨.hbm, 856, rfl⟩
abbrev main_v642 : Ref sig .tc := ⟨.hbm, 857, rfl⟩
abbrev main_v643 : Ref sig .tc := ⟨.hbm, 858, rfl⟩
abbrev main_v644 : Ref sig .tc := ⟨.hbm, 859, rfl⟩
abbrev main_v645 : Ref sig .tc := ⟨.hbm, 860, rfl⟩
abbrev main_v646 : Ref sig .tc := ⟨.hbm, 861, rfl⟩
abbrev main_v647 : Ref sig .tc := ⟨.hbm, 862, rfl⟩
abbrev main_v648 : Ref sig .tc := ⟨.hbm, 863, rfl⟩
abbrev main_v649 : Ref sig .tc := ⟨.hbm, 864, rfl⟩
abbrev main_c_149 : Ref sig .tc := ⟨.hbm, 865, rfl⟩
abbrev main_v650 : Ref sig .tc := ⟨.hbm, 866, rfl⟩
abbrev main_v651 : Ref sig .tc := ⟨.hbm, 867, rfl⟩
abbrev main_c_150 : Ref sig .tc := ⟨.hbm, 868, rfl⟩
abbrev main_v652 : Ref sig .tc := ⟨.hbm, 869, rfl⟩
abbrev main_v653 : Ref sig .tc := ⟨.hbm, 870, rfl⟩
abbrev main_c_151 : Ref sig .tc := ⟨.hbm, 871, rfl⟩
abbrev main_v654 : Ref sig .tc := ⟨.hbm, 872, rfl⟩
abbrev main_v655 : Ref sig .tc := ⟨.hbm, 873, rfl⟩
abbrev main_v656 : Ref sig .tc := ⟨.hbm, 874, rfl⟩
abbrev main_v657 : Ref sig .tc := ⟨.hbm, 875, rfl⟩
abbrev main_v658 : Ref sig .tc := ⟨.hbm, 876, rfl⟩
abbrev main_cst_152 : Ref sig .tc := ⟨.hbm, 877, rfl⟩
abbrev main_v659 : Ref sig .tc := ⟨.hbm, 878, rfl⟩
abbrev main_v660 : Ref sig .tc := ⟨.hbm, 879, rfl⟩
abbrev main_v661 : Ref sig .tc := ⟨.hbm, 880, rfl⟩
abbrev main_v662 : Ref sig .tc := ⟨.hbm, 881, rfl⟩
abbrev main_v663 : Ref sig .tc := ⟨.hbm, 882, rfl⟩
abbrev main_v664 : Ref sig .tc := ⟨.hbm, 883, rfl⟩
abbrev main_v665 : Ref sig .tc := ⟨.hbm, 884, rfl⟩
abbrev main_v666 : Ref sig .tc := ⟨.hbm, 885, rfl⟩
abbrev main_v667 : Ref sig .tc := ⟨.hbm, 886, rfl⟩
abbrev main_c_153 : Ref sig .tc := ⟨.hbm, 887, rfl⟩
abbrev main_v668 : Ref sig .tc := ⟨.hbm, 888, rfl⟩
abbrev main_v669 : Ref sig .tc := ⟨.hbm, 889, rfl⟩
abbrev main_c_154 : Ref sig .tc := ⟨.hbm, 890, rfl⟩
abbrev main_v670 : Ref sig .tc := ⟨.hbm, 891, rfl⟩
abbrev main_v671 : Ref sig .tc := ⟨.hbm, 892, rfl⟩
abbrev main_c_155 : Ref sig .tc := ⟨.hbm, 893, rfl⟩
abbrev main_v672 : Ref sig .tc := ⟨.hbm, 894, rfl⟩
abbrev main_v673 : Ref sig .tc := ⟨.hbm, 895, rfl⟩
abbrev main_v674 : Ref sig .tc := ⟨.hbm, 896, rfl⟩
abbrev main_v675 : Ref sig .tc := ⟨.hbm, 897, rfl⟩
abbrev main_v676 : Ref sig .tc := ⟨.hbm, 898, rfl⟩
abbrev main_cst_156 : Ref sig .tc := ⟨.hbm, 899, rfl⟩
abbrev main_v677 : Ref sig .tc := ⟨.hbm, 900, rfl⟩
abbrev main_v678 : Ref sig .tc := ⟨.hbm, 901, rfl⟩
abbrev main_v679 : Ref sig .tc := ⟨.hbm, 902, rfl⟩
abbrev main_v680 : Ref sig .tc := ⟨.hbm, 903, rfl⟩
abbrev main_v681 : Ref sig .tc := ⟨.hbm, 904, rfl⟩
abbrev main_v682 : Ref sig .tc := ⟨.hbm, 905, rfl⟩
abbrev main_v683 : Ref sig .tc := ⟨.hbm, 906, rfl⟩
abbrev main_v684 : Ref sig .tc := ⟨.hbm, 907, rfl⟩
abbrev main_v685 : Ref sig .tc := ⟨.hbm, 908, rfl⟩
abbrev main_c_157 : Ref sig .tc := ⟨.hbm, 909, rfl⟩
abbrev main_v686 : Ref sig .tc := ⟨.hbm, 910, rfl⟩
abbrev main_v687 : Ref sig .tc := ⟨.hbm, 911, rfl⟩
abbrev main_c_158 : Ref sig .tc := ⟨.hbm, 912, rfl⟩
abbrev main_v688 : Ref sig .tc := ⟨.hbm, 913, rfl⟩
abbrev main_v689 : Ref sig .tc := ⟨.hbm, 914, rfl⟩
abbrev main_c_159 : Ref sig .tc := ⟨.hbm, 915, rfl⟩
abbrev main_v690 : Ref sig .tc := ⟨.hbm, 916, rfl⟩
abbrev main_v691 : Ref sig .tc := ⟨.hbm, 917, rfl⟩
abbrev main_c_160 : Ref sig .tc := ⟨.hbm, 918, rfl⟩
abbrev main_v692 : Ref sig .tc := ⟨.hbm, 919, rfl⟩
abbrev main_v693 : Ref sig .tc := ⟨.hbm, 920, rfl⟩
abbrev main_v694 : Ref sig .tc := ⟨.hbm, 921, rfl⟩
abbrev main_v695 : Ref sig .tc := ⟨.hbm, 922, rfl⟩
abbrev main_v696 : Ref sig .tc := ⟨.hbm, 923, rfl⟩
abbrev main_v697 : Ref sig .tc := ⟨.hbm, 924, rfl⟩
abbrev main_v698 : Ref sig .tc := ⟨.hbm, 925, rfl⟩
abbrev main_v699 : Ref sig .tc := ⟨.hbm, 926, rfl⟩
abbrev main_v700 : Ref sig .tc := ⟨.hbm, 927, rfl⟩
abbrev main_v701 : Ref sig .tc := ⟨.hbm, 928, rfl⟩
abbrev main_v702 : Ref sig .tc := ⟨.hbm, 929, rfl⟩
abbrev main_v703 : Ref sig .tc := ⟨.hbm, 930, rfl⟩
abbrev main_v704 : Ref sig .tc := ⟨.hbm, 931, rfl⟩
abbrev main_cst_161 : Ref sig .tc := ⟨.hbm, 932, rfl⟩
abbrev main_call16_v0 : Ref sig .tc := ⟨.hbm, 933, rfl⟩
abbrev main_call16_v1 : Ref sig .tc := ⟨.hbm, 934, rfl⟩
abbrev main_call16_v2 : Ref sig .tc := ⟨.hbm, 935, rfl⟩
abbrev main_v705 : Ref sig .tc := ⟨.hbm, 936, rfl⟩
abbrev main_v706 : Ref sig .tc := ⟨.hbm, 937, rfl⟩
abbrev main_v707 : Ref sig .tc := ⟨.hbm, 938, rfl⟩
abbrev main_v708 : Ref sig .tc := ⟨.hbm, 939, rfl⟩
abbrev main_v709 : Ref sig .tc := ⟨.hbm, 940, rfl⟩
abbrev main_cst_162 : Ref sig .tc := ⟨.hbm, 941, rfl⟩
abbrev main_v710 : Ref sig .tc := ⟨.hbm, 942, rfl⟩
abbrev main_v711 : Ref sig .tc := ⟨.hbm, 943, rfl⟩
abbrev main_v712 : Ref sig .tc := ⟨.hbm, 944, rfl⟩
abbrev main_v713 : Ref sig .tc := ⟨.hbm, 945, rfl⟩
abbrev main_v714 : Ref sig .tc := ⟨.hbm, 946, rfl⟩
abbrev main_cst_163 : Ref sig .tc := ⟨.hbm, 947, rfl⟩
abbrev main_v715 : Ref sig .tc := ⟨.hbm, 948, rfl⟩
abbrev main_v716 : Ref sig .tc := ⟨.hbm, 949, rfl⟩
abbrev main_v717 : Ref sig .tc := ⟨.hbm, 950, rfl⟩
abbrev main_v718 : Ref sig .tc := ⟨.hbm, 951, rfl⟩
abbrev main_cst_164 : Ref sig .tc := ⟨.hbm, 952, rfl⟩
abbrev main_v719 : Ref sig .tc := ⟨.hbm, 953, rfl⟩
abbrev main_v720 : Ref sig .tc := ⟨.hbm, 954, rfl⟩
abbrev main_cst_165 : Ref sig .tc := ⟨.hbm, 955, rfl⟩
abbrev main_v721 : Ref sig .tc := ⟨.hbm, 956, rfl⟩
abbrev main_v722 : Ref sig .tc := ⟨.hbm, 957, rfl⟩
abbrev main_v723 : Ref sig .tc := ⟨.hbm, 958, rfl⟩
abbrev main_v724 : Ref sig .tc := ⟨.hbm, 959, rfl⟩
abbrev main_cst_166 : Ref sig .tc := ⟨.hbm, 960, rfl⟩
abbrev main_v725 : Ref sig .tc := ⟨.hbm, 961, rfl⟩
abbrev main_v726 : Ref sig .tc := ⟨.hbm, 962, rfl⟩
abbrev main_cst_167 : Ref sig .tc := ⟨.hbm, 963, rfl⟩
abbrev main_v727 : Ref sig .tc := ⟨.hbm, 964, rfl⟩
abbrev main_v728 : Ref sig .tc := ⟨.hbm, 965, rfl⟩
abbrev main_v729 : Ref sig .tc := ⟨.hbm, 966, rfl⟩
abbrev main_v730 : Ref sig .tc := ⟨.hbm, 967, rfl⟩
abbrev main_v731 : Ref sig .tc := ⟨.hbm, 968, rfl⟩
abbrev main_v732 : Ref sig .tc := ⟨.hbm, 969, rfl⟩
abbrev main_v733 : Ref sig .tc := ⟨.hbm, 970, rfl⟩
abbrev main_v734 : Ref sig .tc := ⟨.hbm, 971, rfl⟩
abbrev main_cst_168 : Ref sig .tc := ⟨.hbm, 972, rfl⟩
abbrev main_cst_169 : Ref sig .tc := ⟨.hbm, 973, rfl⟩
abbrev main_call17_v0 : Ref sig .tc := ⟨.hbm, 974, rfl⟩
abbrev main_call17_v1 : Ref sig .tc := ⟨.hbm, 975, rfl⟩
abbrev main_call17_v2 : Ref sig .tc := ⟨.hbm, 976, rfl⟩
abbrev main_call17_v3 : Ref sig .tc := ⟨.hbm, 977, rfl⟩
abbrev main_call17_v4 : Ref sig .tc := ⟨.hbm, 978, rfl⟩
abbrev main_v735 : Ref sig .tc := ⟨.hbm, 979, rfl⟩
abbrev main_v736 : Ref sig .tc := ⟨.hbm, 980, rfl⟩
abbrev main_cst_170 : Ref sig .tc := ⟨.hbm, 981, rfl⟩
abbrev main_cst_171 : Ref sig .tc := ⟨.hbm, 982, rfl⟩
abbrev main_call18_v0 : Ref sig .tc := ⟨.hbm, 983, rfl⟩
abbrev main_call18_v1 : Ref sig .tc := ⟨.hbm, 984, rfl⟩
abbrev main_call18_v2 : Ref sig .tc := ⟨.hbm, 985, rfl⟩
abbrev main_call18_v3 : Ref sig .tc := ⟨.hbm, 986, rfl⟩
abbrev main_call18_v4 : Ref sig .tc := ⟨.hbm, 987, rfl⟩
abbrev main_v737 : Ref sig .tc := ⟨.hbm, 988, rfl⟩
abbrev main_v738 : Ref sig .tc := ⟨.hbm, 989, rfl⟩
abbrev main_v739 : Ref sig .tc := ⟨.hbm, 990, rfl⟩
abbrev main_v740 : Ref sig .tc := ⟨.hbm, 991, rfl⟩
abbrev main_v741 : Ref sig .tc := ⟨.hbm, 992, rfl⟩
abbrev main_cst_172 : Ref sig .tc := ⟨.hbm, 993, rfl⟩
abbrev main_v742 : Ref sig .tc := ⟨.hbm, 994, rfl⟩
abbrev main_v743 : Ref sig .tc := ⟨.hbm, 995, rfl⟩
abbrev main_v744 : Ref sig .tc := ⟨.hbm, 996, rfl⟩
abbrev main_v745 : Ref sig .tc := ⟨.hbm, 997, rfl⟩
abbrev main_v746 : Ref sig .tc := ⟨.hbm, 998, rfl⟩
abbrev main_v747 : Ref sig .tc := ⟨.hbm, 999, rfl⟩
abbrev main_v748 : Ref sig .tc := ⟨.hbm, 1000, rfl⟩
abbrev main_v749 : Ref sig .tc := ⟨.hbm, 1001, rfl⟩
abbrev main_v750 : Ref sig .tc := ⟨.hbm, 1002, rfl⟩
abbrev main_v751 : Ref sig .tc := ⟨.hbm, 1003, rfl⟩
abbrev main_c_173 : Ref sig .tc := ⟨.hbm, 1004, rfl⟩
abbrev main_v752 : Ref sig .tc := ⟨.hbm, 1005, rfl⟩
abbrev main_v753 : Ref sig .tc := ⟨.hbm, 1006, rfl⟩
abbrev main_v754 : Ref sig .tc := ⟨.hbm, 1007, rfl⟩
abbrev main_v755 : Ref sig .tc := ⟨.hbm, 1008, rfl⟩
abbrev main_v756 : Ref sig .tc := ⟨.hbm, 1009, rfl⟩
abbrev main_v757 : Ref sig .tc := ⟨.hbm, 1010, rfl⟩
abbrev main_v758 : Ref sig .tc := ⟨.hbm, 1011, rfl⟩
abbrev main_c_174 : Ref sig .tc := ⟨.hbm, 1012, rfl⟩
abbrev main_v759 : Ref sig .tc := ⟨.hbm, 1013, rfl⟩
abbrev main_v760 : Ref sig .tc := ⟨.hbm, 1014, rfl⟩
abbrev main_c_175 : Ref sig .tc := ⟨.hbm, 1015, rfl⟩
abbrev main_v761 : Ref sig .tc := ⟨.hbm, 1016, rfl⟩
abbrev main_v762 : Ref sig .tc := ⟨.hbm, 1017, rfl⟩
abbrev main_v763 : Ref sig .tc := ⟨.hbm, 1018, rfl⟩
abbrev main_v764 : Ref sig .tc := ⟨.hbm, 1019, rfl⟩
abbrev main_v765 : Ref sig .tc := ⟨.hbm, 1020, rfl⟩
abbrev main_cst_176 : Ref sig .tc := ⟨.hbm, 1021, rfl⟩
abbrev main_v766 : Ref sig .tc := ⟨.hbm, 1022, rfl⟩
abbrev main_v767 : Ref sig .tc := ⟨.hbm, 1023, rfl⟩
abbrev main_cst_177 : Ref sig .tc := ⟨.hbm, 1024, rfl⟩
abbrev main_v768 : Ref sig .tc := ⟨.hbm, 1025, rfl⟩
abbrev main_v769 : Ref sig .tc := ⟨.hbm, 1026, rfl⟩
abbrev main_v770 : Ref sig .tc := ⟨.hbm, 1027, rfl⟩
abbrev main_v771 : Ref sig .tc := ⟨.hbm, 1028, rfl⟩
abbrev main_v772 : Ref sig .tc := ⟨.hbm, 1029, rfl⟩
abbrev main_v773 : Ref sig .tc := ⟨.hbm, 1030, rfl⟩
abbrev main_v774 : Ref sig .tc := ⟨.hbm, 1031, rfl⟩
abbrev main_v775 : Ref sig .tc := ⟨.hbm, 1032, rfl⟩
abbrev main_c_178 : Ref sig .tc := ⟨.hbm, 1033, rfl⟩
abbrev main_v776 : Ref sig .tc := ⟨.hbm, 1034, rfl⟩
abbrev main_v777 : Ref sig .tc := ⟨.hbm, 1035, rfl⟩
abbrev main_c_179 : Ref sig .tc := ⟨.hbm, 1036, rfl⟩
abbrev main_v778 : Ref sig .tc := ⟨.hbm, 1037, rfl⟩
abbrev main_v779 : Ref sig .tc := ⟨.hbm, 1038, rfl⟩
abbrev main_c_180 : Ref sig .tc := ⟨.hbm, 1039, rfl⟩
abbrev main_v780 : Ref sig .tc := ⟨.hbm, 1040, rfl⟩
abbrev main_v781 : Ref sig .tc := ⟨.hbm, 1041, rfl⟩
abbrev main_v782 : Ref sig .tc := ⟨.hbm, 1042, rfl⟩
abbrev main_v783 : Ref sig .tc := ⟨.hbm, 1043, rfl⟩
abbrev main_v784 : Ref sig .tc := ⟨.hbm, 1044, rfl⟩
abbrev main_cst_181 : Ref sig .tc := ⟨.hbm, 1045, rfl⟩
abbrev main_v785 : Ref sig .tc := ⟨.hbm, 1046, rfl⟩
abbrev main_v786 : Ref sig .tc := ⟨.hbm, 1047, rfl⟩
abbrev main_v787 : Ref sig .tc := ⟨.hbm, 1048, rfl⟩
abbrev main_v788 : Ref sig .tc := ⟨.hbm, 1049, rfl⟩
abbrev main_v789 : Ref sig .tc := ⟨.hbm, 1050, rfl⟩
abbrev main_v790 : Ref sig .tc := ⟨.hbm, 1051, rfl⟩
abbrev main_v791 : Ref sig .tc := ⟨.hbm, 1052, rfl⟩
abbrev main_v792 : Ref sig .tc := ⟨.hbm, 1053, rfl⟩
abbrev main_v793 : Ref sig .tc := ⟨.hbm, 1054, rfl⟩
abbrev main_c_182 : Ref sig .tc := ⟨.hbm, 1055, rfl⟩
abbrev main_v794 : Ref sig .tc := ⟨.hbm, 1056, rfl⟩
abbrev main_v795 : Ref sig .tc := ⟨.hbm, 1057, rfl⟩
abbrev main_c_183 : Ref sig .tc := ⟨.hbm, 1058, rfl⟩
abbrev main_v796 : Ref sig .tc := ⟨.hbm, 1059, rfl⟩
abbrev main_v797 : Ref sig .tc := ⟨.hbm, 1060, rfl⟩
abbrev main_c_184 : Ref sig .tc := ⟨.hbm, 1061, rfl⟩
abbrev main_v798 : Ref sig .tc := ⟨.hbm, 1062, rfl⟩
abbrev main_v799 : Ref sig .tc := ⟨.hbm, 1063, rfl⟩
abbrev main_v800 : Ref sig .tc := ⟨.hbm, 1064, rfl⟩
abbrev main_v801 : Ref sig .tc := ⟨.hbm, 1065, rfl⟩
abbrev main_v802 : Ref sig .tc := ⟨.hbm, 1066, rfl⟩
abbrev main_cst_185 : Ref sig .tc := ⟨.hbm, 1067, rfl⟩
abbrev main_v803 : Ref sig .tc := ⟨.hbm, 1068, rfl⟩
abbrev main_v804 : Ref sig .tc := ⟨.hbm, 1069, rfl⟩
abbrev main_v805 : Ref sig .tc := ⟨.hbm, 1070, rfl⟩
abbrev main_v806 : Ref sig .tc := ⟨.hbm, 1071, rfl⟩
abbrev main_v807 : Ref sig .tc := ⟨.hbm, 1072, rfl⟩
abbrev main_v808 : Ref sig .tc := ⟨.hbm, 1073, rfl⟩
abbrev main_v809 : Ref sig .tc := ⟨.hbm, 1074, rfl⟩
abbrev main_v810 : Ref sig .tc := ⟨.hbm, 1075, rfl⟩
abbrev main_v811 : Ref sig .tc := ⟨.hbm, 1076, rfl⟩
abbrev main_c_186 : Ref sig .tc := ⟨.hbm, 1077, rfl⟩
abbrev main_v812 : Ref sig .tc := ⟨.hbm, 1078, rfl⟩
abbrev main_v813 : Ref sig .tc := ⟨.hbm, 1079, rfl⟩
abbrev main_c_187 : Ref sig .tc := ⟨.hbm, 1080, rfl⟩
abbrev main_v814 : Ref sig .tc := ⟨.hbm, 1081, rfl⟩
abbrev main_v815 : Ref sig .tc := ⟨.hbm, 1082, rfl⟩
abbrev main_c_188 : Ref sig .tc := ⟨.hbm, 1083, rfl⟩
abbrev main_v816 : Ref sig .tc := ⟨.hbm, 1084, rfl⟩
abbrev main_v817 : Ref sig .tc := ⟨.hbm, 1085, rfl⟩
abbrev main_c_189 : Ref sig .tc := ⟨.hbm, 1086, rfl⟩
abbrev main_v818 : Ref sig .tc := ⟨.hbm, 1087, rfl⟩
abbrev main_v819 : Ref sig .tc := ⟨.hbm, 1088, rfl⟩
abbrev main_v820 : Ref sig .tc := ⟨.hbm, 1089, rfl⟩
abbrev main_v821 : Ref sig .tc := ⟨.hbm, 1090, rfl⟩
abbrev main_v822 : Ref sig .tc := ⟨.hbm, 1091, rfl⟩
abbrev main_v823 : Ref sig .tc := ⟨.hbm, 1092, rfl⟩
abbrev main_v824 : Ref sig .tc := ⟨.hbm, 1093, rfl⟩
abbrev main_v825 : Ref sig .tc := ⟨.hbm, 1094, rfl⟩
abbrev main_v826 : Ref sig .tc := ⟨.hbm, 1095, rfl⟩
abbrev main_v827 : Ref sig .tc := ⟨.hbm, 1096, rfl⟩
abbrev main_v828 : Ref sig .tc := ⟨.hbm, 1097, rfl⟩
abbrev main_v829 : Ref sig .tc := ⟨.hbm, 1098, rfl⟩
abbrev main_v830 : Ref sig .tc := ⟨.hbm, 1099, rfl⟩
abbrev main_cst_190 : Ref sig .tc := ⟨.hbm, 1100, rfl⟩
abbrev main_call19_v0 : Ref sig .tc := ⟨.hbm, 1101, rfl⟩
abbrev main_call19_v1 : Ref sig .tc := ⟨.hbm, 1102, rfl⟩
abbrev main_call19_v2 : Ref sig .tc := ⟨.hbm, 1103, rfl⟩
abbrev main_v831 : Ref sig .tc := ⟨.hbm, 1104, rfl⟩
abbrev main_v832 : Ref sig .tc := ⟨.hbm, 1105, rfl⟩
abbrev main_v833 : Ref sig .tc := ⟨.hbm, 1106, rfl⟩
abbrev main_v834 : Ref sig .tc := ⟨.hbm, 1107, rfl⟩
abbrev main_v835 : Ref sig .tc := ⟨.hbm, 1108, rfl⟩
abbrev main_cst_191 : Ref sig .tc := ⟨.hbm, 1109, rfl⟩
abbrev main_v836 : Ref sig .tc := ⟨.hbm, 1110, rfl⟩
abbrev main_v837 : Ref sig .tc := ⟨.hbm, 1111, rfl⟩
abbrev main_v838 : Ref sig .tc := ⟨.hbm, 1112, rfl⟩
abbrev main_v839 : Ref sig .tc := ⟨.hbm, 1113, rfl⟩
abbrev main_v840 : Ref sig .tc := ⟨.hbm, 1114, rfl⟩
abbrev main_cst_192 : Ref sig .tc := ⟨.hbm, 1115, rfl⟩
abbrev main_v841 : Ref sig .tc := ⟨.hbm, 1116, rfl⟩
abbrev main_v842 : Ref sig .tc := ⟨.hbm, 1117, rfl⟩
abbrev main_v843 : Ref sig .tc := ⟨.hbm, 1118, rfl⟩
abbrev main_v844 : Ref sig .tc := ⟨.hbm, 1119, rfl⟩
abbrev main_cst_193 : Ref sig .tc := ⟨.hbm, 1120, rfl⟩
abbrev main_v845 : Ref sig .tc := ⟨.hbm, 1121, rfl⟩
abbrev main_v846 : Ref sig .tc := ⟨.hbm, 1122, rfl⟩
abbrev main_cst_194 : Ref sig .tc := ⟨.hbm, 1123, rfl⟩
abbrev main_v847 : Ref sig .tc := ⟨.hbm, 1124, rfl⟩
abbrev main_v848 : Ref sig .tc := ⟨.hbm, 1125, rfl⟩
abbrev main_v849 : Ref sig .tc := ⟨.hbm, 1126, rfl⟩
abbrev main_v850 : Ref sig .tc := ⟨.hbm, 1127, rfl⟩
abbrev main_cst_195 : Ref sig .tc := ⟨.hbm, 1128, rfl⟩
abbrev main_v851 : Ref sig .tc := ⟨.hbm, 1129, rfl⟩
abbrev main_v852 : Ref sig .tc := ⟨.hbm, 1130, rfl⟩
abbrev main_cst_196 : Ref sig .tc := ⟨.hbm, 1131, rfl⟩
abbrev main_v853 : Ref sig .tc := ⟨.hbm, 1132, rfl⟩
abbrev main_v854 : Ref sig .tc := ⟨.hbm, 1133, rfl⟩
abbrev main_v855 : Ref sig .tc := ⟨.hbm, 1134, rfl⟩
abbrev main_v856 : Ref sig .tc := ⟨.hbm, 1135, rfl⟩
abbrev main_v857 : Ref sig .tc := ⟨.hbm, 1136, rfl⟩
abbrev main_v858 : Ref sig .tc := ⟨.hbm, 1137, rfl⟩
abbrev main_v859 : Ref sig .tc := ⟨.hbm, 1138, rfl⟩
abbrev main_v860 : Ref sig .tc := ⟨.hbm, 1139, rfl⟩
abbrev main_cst_197 : Ref sig .tc := ⟨.hbm, 1140, rfl⟩
abbrev main_cst_198 : Ref sig .tc := ⟨.hbm, 1141, rfl⟩
abbrev main_call20_v0 : Ref sig .tc := ⟨.hbm, 1142, rfl⟩
abbrev main_call20_v1 : Ref sig .tc := ⟨.hbm, 1143, rfl⟩
abbrev main_call20_v2 : Ref sig .tc := ⟨.hbm, 1144, rfl⟩
abbrev main_call20_v3 : Ref sig .tc := ⟨.hbm, 1145, rfl⟩
abbrev main_call20_v4 : Ref sig .tc := ⟨.hbm, 1146, rfl⟩
abbrev main_v861 : Ref sig .tc := ⟨.hbm, 1147, rfl⟩
abbrev main_v862 : Ref sig .tc := ⟨.hbm, 1148, rfl⟩
abbrev main_cst_199 : Ref sig .tc := ⟨.hbm, 1149, rfl⟩
abbrev main_cst_200 : Ref sig .tc := ⟨.hbm, 1150, rfl⟩
abbrev main_call21_v0 : Ref sig .tc := ⟨.hbm, 1151, rfl⟩
abbrev main_call21_v1 : Ref sig .tc := ⟨.hbm, 1152, rfl⟩
abbrev main_call21_v2 : Ref sig .tc := ⟨.hbm, 1153, rfl⟩
abbrev main_call21_v3 : Ref sig .tc := ⟨.hbm, 1154, rfl⟩
abbrev main_call21_v4 : Ref sig .tc := ⟨.hbm, 1155, rfl⟩
abbrev main_v863 : Ref sig .tc := ⟨.hbm, 1156, rfl⟩
abbrev main_v864 : Ref sig .tc := ⟨.hbm, 1157, rfl⟩
abbrev main_v865 : Ref sig .tc := ⟨.hbm, 1158, rfl⟩
abbrev main_v866 : Ref sig .tc := ⟨.hbm, 1159, rfl⟩
abbrev main_v867 : Ref sig .tc := ⟨.hbm, 1160, rfl⟩
abbrev main_cst_201 : Ref sig .tc := ⟨.hbm, 1161, rfl⟩
abbrev main_v868 : Ref sig .tc := ⟨.hbm, 1162, rfl⟩
abbrev main_v869 : Ref sig .tc := ⟨.hbm, 1163, rfl⟩
abbrev main_v870 : Ref sig .tc := ⟨.hbm, 1164, rfl⟩
abbrev main_v871 : Ref sig .tc := ⟨.hbm, 1165, rfl⟩
abbrev main_v872 : Ref sig .tc := ⟨.hbm, 1166, rfl⟩
abbrev main_v873 : Ref sig .tc := ⟨.hbm, 1167, rfl⟩
abbrev main_v874 : Ref sig .tc := ⟨.hbm, 1168, rfl⟩
abbrev main_v875 : Ref sig .tc := ⟨.hbm, 1169, rfl⟩
abbrev main_v876 : Ref sig .tc := ⟨.hbm, 1170, rfl⟩
abbrev main_v877 : Ref sig .tc := ⟨.hbm, 1171, rfl⟩
abbrev main_c_202 : Ref sig .tc := ⟨.hbm, 1172, rfl⟩
abbrev main_v878 : Ref sig .tc := ⟨.hbm, 1173, rfl⟩
abbrev main_v879 : Ref sig .tc := ⟨.hbm, 1174, rfl⟩
abbrev main_v880 : Ref sig .tc := ⟨.hbm, 1175, rfl⟩
abbrev main_v881 : Ref sig .tc := ⟨.hbm, 1176, rfl⟩
abbrev main_v882 : Ref sig .tc := ⟨.hbm, 1177, rfl⟩
abbrev main_v883 : Ref sig .tc := ⟨.hbm, 1178, rfl⟩
abbrev main_v884 : Ref sig .tc := ⟨.hbm, 1179, rfl⟩
abbrev main_c_203 : Ref sig .tc := ⟨.hbm, 1180, rfl⟩
abbrev main_v885 : Ref sig .tc := ⟨.hbm, 1181, rfl⟩
abbrev main_v886 : Ref sig .tc := ⟨.hbm, 1182, rfl⟩
abbrev main_c_204 : Ref sig .tc := ⟨.hbm, 1183, rfl⟩
abbrev main_v887 : Ref sig .tc := ⟨.hbm, 1184, rfl⟩
abbrev main_v888 : Ref sig .tc := ⟨.hbm, 1185, rfl⟩
abbrev main_v889 : Ref sig .tc := ⟨.hbm, 1186, rfl⟩
abbrev main_v890 : Ref sig .tc := ⟨.hbm, 1187, rfl⟩
abbrev main_v891 : Ref sig .tc := ⟨.hbm, 1188, rfl⟩
abbrev main_cst_205 : Ref sig .tc := ⟨.hbm, 1189, rfl⟩
abbrev main_v892 : Ref sig .tc := ⟨.hbm, 1190, rfl⟩
abbrev main_v893 : Ref sig .tc := ⟨.hbm, 1191, rfl⟩
abbrev main_cst_206 : Ref sig .tc := ⟨.hbm, 1192, rfl⟩
abbrev main_v894 : Ref sig .tc := ⟨.hbm, 1193, rfl⟩
abbrev main_v895 : Ref sig .tc := ⟨.hbm, 1194, rfl⟩
abbrev main_v896 : Ref sig .tc := ⟨.hbm, 1195, rfl⟩
abbrev main_v897 : Ref sig .tc := ⟨.hbm, 1196, rfl⟩
abbrev main_v898 : Ref sig .tc := ⟨.hbm, 1197, rfl⟩
abbrev main_v899 : Ref sig .tc := ⟨.hbm, 1198, rfl⟩
abbrev main_v900 : Ref sig .tc := ⟨.hbm, 1199, rfl⟩
abbrev main_v901 : Ref sig .tc := ⟨.hbm, 1200, rfl⟩
abbrev main_c_207 : Ref sig .tc := ⟨.hbm, 1201, rfl⟩
abbrev main_v902 : Ref sig .tc := ⟨.hbm, 1202, rfl⟩
abbrev main_v903 : Ref sig .tc := ⟨.hbm, 1203, rfl⟩
abbrev main_c_208 : Ref sig .tc := ⟨.hbm, 1204, rfl⟩
abbrev main_v904 : Ref sig .tc := ⟨.hbm, 1205, rfl⟩
abbrev main_v905 : Ref sig .tc := ⟨.hbm, 1206, rfl⟩
abbrev main_c_209 : Ref sig .tc := ⟨.hbm, 1207, rfl⟩
abbrev main_v906 : Ref sig .tc := ⟨.hbm, 1208, rfl⟩
abbrev main_v907 : Ref sig .tc := ⟨.hbm, 1209, rfl⟩
abbrev main_v908 : Ref sig .tc := ⟨.hbm, 1210, rfl⟩
abbrev main_v909 : Ref sig .tc := ⟨.hbm, 1211, rfl⟩
abbrev main_v910 : Ref sig .tc := ⟨.hbm, 1212, rfl⟩
abbrev main_cst_210 : Ref sig .tc := ⟨.hbm, 1213, rfl⟩
abbrev main_v911 : Ref sig .tc := ⟨.hbm, 1214, rfl⟩
abbrev main_v912 : Ref sig .tc := ⟨.hbm, 1215, rfl⟩
abbrev main_v913 : Ref sig .tc := ⟨.hbm, 1216, rfl⟩
abbrev main_v914 : Ref sig .tc := ⟨.hbm, 1217, rfl⟩
abbrev main_v915 : Ref sig .tc := ⟨.hbm, 1218, rfl⟩
abbrev main_v916 : Ref sig .tc := ⟨.hbm, 1219, rfl⟩
abbrev main_v917 : Ref sig .tc := ⟨.hbm, 1220, rfl⟩
abbrev main_v918 : Ref sig .tc := ⟨.hbm, 1221, rfl⟩
abbrev main_v919 : Ref sig .tc := ⟨.hbm, 1222, rfl⟩
abbrev main_c_211 : Ref sig .tc := ⟨.hbm, 1223, rfl⟩
abbrev main_v920 : Ref sig .tc := ⟨.hbm, 1224, rfl⟩
abbrev main_v921 : Ref sig .tc := ⟨.hbm, 1225, rfl⟩
abbrev main_c_212 : Ref sig .tc := ⟨.hbm, 1226, rfl⟩
abbrev main_v922 : Ref sig .tc := ⟨.hbm, 1227, rfl⟩
abbrev main_v923 : Ref sig .tc := ⟨.hbm, 1228, rfl⟩
abbrev main_c_213 : Ref sig .tc := ⟨.hbm, 1229, rfl⟩
abbrev main_v924 : Ref sig .tc := ⟨.hbm, 1230, rfl⟩
abbrev main_v925 : Ref sig .tc := ⟨.hbm, 1231, rfl⟩
abbrev main_v926 : Ref sig .tc := ⟨.hbm, 1232, rfl⟩
abbrev main_v927 : Ref sig .tc := ⟨.hbm, 1233, rfl⟩
abbrev main_v928 : Ref sig .tc := ⟨.hbm, 1234, rfl⟩
abbrev main_cst_214 : Ref sig .tc := ⟨.hbm, 1235, rfl⟩
abbrev main_v929 : Ref sig .tc := ⟨.hbm, 1236, rfl⟩
abbrev main_v930 : Ref sig .tc := ⟨.hbm, 1237, rfl⟩
abbrev main_v931 : Ref sig .tc := ⟨.hbm, 1238, rfl⟩
abbrev main_v932 : Ref sig .tc := ⟨.hbm, 1239, rfl⟩
abbrev main_v933 : Ref sig .tc := ⟨.hbm, 1240, rfl⟩
abbrev main_v934 : Ref sig .tc := ⟨.hbm, 1241, rfl⟩
abbrev main_v935 : Ref sig .tc := ⟨.hbm, 1242, rfl⟩
abbrev main_v936 : Ref sig .tc := ⟨.hbm, 1243, rfl⟩
abbrev main_v937 : Ref sig .tc := ⟨.hbm, 1244, rfl⟩
abbrev main_c_215 : Ref sig .tc := ⟨.hbm, 1245, rfl⟩
abbrev main_v938 : Ref sig .tc := ⟨.hbm, 1246, rfl⟩
abbrev main_v939 : Ref sig .tc := ⟨.hbm, 1247, rfl⟩
abbrev main_c_216 : Ref sig .tc := ⟨.hbm, 1248, rfl⟩
abbrev main_v940 : Ref sig .tc := ⟨.hbm, 1249, rfl⟩
abbrev main_v941 : Ref sig .tc := ⟨.hbm, 1250, rfl⟩
abbrev main_c_217 : Ref sig .tc := ⟨.hbm, 1251, rfl⟩
abbrev main_v942 : Ref sig .tc := ⟨.hbm, 1252, rfl⟩
abbrev main_v943 : Ref sig .tc := ⟨.hbm, 1253, rfl⟩
abbrev main_c_218 : Ref sig .tc := ⟨.hbm, 1254, rfl⟩
abbrev main_v944 : Ref sig .tc := ⟨.hbm, 1255, rfl⟩
abbrev main_v945 : Ref sig .tc := ⟨.hbm, 1256, rfl⟩
abbrev main_v946 : Ref sig .tc := ⟨.hbm, 1257, rfl⟩
abbrev main_v947 : Ref sig .tc := ⟨.hbm, 1258, rfl⟩
abbrev main_v948 : Ref sig .tc := ⟨.hbm, 1259, rfl⟩
abbrev main_v949 : Ref sig .tc := ⟨.hbm, 1260, rfl⟩
abbrev main_v950 : Ref sig .tc := ⟨.hbm, 1261, rfl⟩
abbrev main_v951 : Ref sig .tc := ⟨.hbm, 1262, rfl⟩
abbrev main_v952 : Ref sig .tc := ⟨.hbm, 1263, rfl⟩
abbrev main_v953 : Ref sig .tc := ⟨.hbm, 1264, rfl⟩
abbrev main_v954 : Ref sig .tc := ⟨.hbm, 1265, rfl⟩
abbrev main_v955 : Ref sig .tc := ⟨.hbm, 1266, rfl⟩
abbrev main_v956 : Ref sig .tc := ⟨.hbm, 1267, rfl⟩
abbrev main_cst_219 : Ref sig .tc := ⟨.hbm, 1268, rfl⟩
abbrev main_call22_v0 : Ref sig .tc := ⟨.hbm, 1269, rfl⟩
abbrev main_call22_v1 : Ref sig .tc := ⟨.hbm, 1270, rfl⟩
abbrev main_call22_v2 : Ref sig .tc := ⟨.hbm, 1271, rfl⟩
abbrev main_v957 : Ref sig .tc := ⟨.hbm, 1272, rfl⟩
abbrev main_v958 : Ref sig .tc := ⟨.hbm, 1273, rfl⟩
abbrev main_v959 : Ref sig .tc := ⟨.hbm, 1274, rfl⟩
abbrev main_v960 : Ref sig .tc := ⟨.hbm, 1275, rfl⟩
abbrev main_v961 : Ref sig .tc := ⟨.hbm, 1276, rfl⟩
abbrev main_cst_220 : Ref sig .tc := ⟨.hbm, 1277, rfl⟩
abbrev main_v962 : Ref sig .tc := ⟨.hbm, 1278, rfl⟩
abbrev main_v963 : Ref sig .tc := ⟨.hbm, 1279, rfl⟩
abbrev main_v964 : Ref sig .tc := ⟨.hbm, 1280, rfl⟩
abbrev main_v965 : Ref sig .tc := ⟨.hbm, 1281, rfl⟩
abbrev main_v966 : Ref sig .tc := ⟨.hbm, 1282, rfl⟩
abbrev main_cst_221 : Ref sig .tc := ⟨.hbm, 1283, rfl⟩
abbrev main_v967 : Ref sig .tc := ⟨.hbm, 1284, rfl⟩
abbrev main_v968 : Ref sig .tc := ⟨.hbm, 1285, rfl⟩
abbrev main_v969 : Ref sig .tc := ⟨.hbm, 1286, rfl⟩
abbrev main_v970 : Ref sig .tc := ⟨.hbm, 1287, rfl⟩
abbrev main_cst_222 : Ref sig .tc := ⟨.hbm, 1288, rfl⟩
abbrev main_v971 : Ref sig .tc := ⟨.hbm, 1289, rfl⟩
abbrev main_v972 : Ref sig .tc := ⟨.hbm, 1290, rfl⟩
abbrev main_cst_223 : Ref sig .tc := ⟨.hbm, 1291, rfl⟩
abbrev main_v973 : Ref sig .tc := ⟨.hbm, 1292, rfl⟩
abbrev main_v974 : Ref sig .tc := ⟨.hbm, 1293, rfl⟩
abbrev main_v975 : Ref sig .tc := ⟨.hbm, 1294, rfl⟩
abbrev main_v976 : Ref sig .tc := ⟨.hbm, 1295, rfl⟩
abbrev main_cst_224 : Ref sig .tc := ⟨.hbm, 1296, rfl⟩
abbrev main_v977 : Ref sig .tc := ⟨.hbm, 1297, rfl⟩
abbrev main_v978 : Ref sig .tc := ⟨.hbm, 1298, rfl⟩
abbrev main_cst_225 : Ref sig .tc := ⟨.hbm, 1299, rfl⟩
abbrev main_v979 : Ref sig .tc := ⟨.hbm, 1300, rfl⟩
abbrev main_v980 : Ref sig .tc := ⟨.hbm, 1301, rfl⟩
abbrev main_v981 : Ref sig .tc := ⟨.hbm, 1302, rfl⟩
abbrev main_v982 : Ref sig .tc := ⟨.hbm, 1303, rfl⟩
abbrev main_v983 : Ref sig .tc := ⟨.hbm, 1304, rfl⟩
abbrev main_v984 : Ref sig .tc := ⟨.hbm, 1305, rfl⟩
abbrev main_v985 : Ref sig .tc := ⟨.hbm, 1306, rfl⟩
abbrev main_v986 : Ref sig .tc := ⟨.hbm, 1307, rfl⟩
abbrev main_cst_226 : Ref sig .tc := ⟨.hbm, 1308, rfl⟩
abbrev main_cst_227 : Ref sig .tc := ⟨.hbm, 1309, rfl⟩
abbrev main_call23_v0 : Ref sig .tc := ⟨.hbm, 1310, rfl⟩
abbrev main_call23_v1 : Ref sig .tc := ⟨.hbm, 1311, rfl⟩
abbrev main_call23_v2 : Ref sig .tc := ⟨.hbm, 1312, rfl⟩
abbrev main_call23_v3 : Ref sig .tc := ⟨.hbm, 1313, rfl⟩
abbrev main_call23_v4 : Ref sig .tc := ⟨.hbm, 1314, rfl⟩
abbrev main_v987 : Ref sig .tc := ⟨.hbm, 1315, rfl⟩
abbrev main_v988 : Ref sig .tc := ⟨.hbm, 1316, rfl⟩
abbrev main_cst_228 : Ref sig .tc := ⟨.hbm, 1317, rfl⟩
abbrev main_cst_229 : Ref sig .tc := ⟨.hbm, 1318, rfl⟩
abbrev main_call24_v0 : Ref sig .tc := ⟨.hbm, 1319, rfl⟩
abbrev main_call24_v1 : Ref sig .tc := ⟨.hbm, 1320, rfl⟩
abbrev main_call24_v2 : Ref sig .tc := ⟨.hbm, 1321, rfl⟩
abbrev main_call24_v3 : Ref sig .tc := ⟨.hbm, 1322, rfl⟩
abbrev main_call24_v4 : Ref sig .tc := ⟨.hbm, 1323, rfl⟩
abbrev main_v989 : Ref sig .tc := ⟨.hbm, 1324, rfl⟩
abbrev main_v990 : Ref sig .tc := ⟨.hbm, 1325, rfl⟩
abbrev main_v991 : Ref sig .tc := ⟨.hbm, 1326, rfl⟩
abbrev main_v992 : Ref sig .tc := ⟨.hbm, 1327, rfl⟩
abbrev main_v993 : Ref sig .tc := ⟨.hbm, 1328, rfl⟩
abbrev main_cst_230 : Ref sig .tc := ⟨.hbm, 1329, rfl⟩
abbrev main_v994 : Ref sig .tc := ⟨.hbm, 1330, rfl⟩
abbrev main_v995 : Ref sig .tc := ⟨.hbm, 1331, rfl⟩
abbrev main_v996 : Ref sig .tc := ⟨.hbm, 1332, rfl⟩
abbrev main_v997 : Ref sig .tc := ⟨.hbm, 1333, rfl⟩
abbrev main_v998 : Ref sig .tc := ⟨.hbm, 1334, rfl⟩
abbrev main_v999 : Ref sig .tc := ⟨.hbm, 1335, rfl⟩
abbrev main_v1000 : Ref sig .tc := ⟨.hbm, 1336, rfl⟩
abbrev main_v1001 : Ref sig .tc := ⟨.hbm, 1337, rfl⟩
abbrev main_v1002 : Ref sig .tc := ⟨.hbm, 1338, rfl⟩
abbrev main_v1003 : Ref sig .tc := ⟨.hbm, 1339, rfl⟩
abbrev main_c_231 : Ref sig .tc := ⟨.hbm, 1340, rfl⟩
abbrev main_v1004 : Ref sig .tc := ⟨.hbm, 1341, rfl⟩
abbrev main_v1005 : Ref sig .tc := ⟨.hbm, 1342, rfl⟩
abbrev main_v1006 : Ref sig .tc := ⟨.hbm, 1343, rfl⟩
abbrev main_v1007 : Ref sig .tc := ⟨.hbm, 1344, rfl⟩
abbrev main_v1008 : Ref sig .tc := ⟨.hbm, 1345, rfl⟩
abbrev main_v1009 : Ref sig .tc := ⟨.hbm, 1346, rfl⟩
abbrev main_v1010 : Ref sig .tc := ⟨.hbm, 1347, rfl⟩
abbrev main_c_232 : Ref sig .tc := ⟨.hbm, 1348, rfl⟩
abbrev main_v1011 : Ref sig .tc := ⟨.hbm, 1349, rfl⟩
abbrev main_v1012 : Ref sig .tc := ⟨.hbm, 1350, rfl⟩
abbrev main_c_233 : Ref sig .tc := ⟨.hbm, 1351, rfl⟩
abbrev main_v1013 : Ref sig .tc := ⟨.hbm, 1352, rfl⟩
abbrev main_v1014 : Ref sig .tc := ⟨.hbm, 1353, rfl⟩
abbrev main_v1015 : Ref sig .tc := ⟨.hbm, 1354, rfl⟩
abbrev main_v1016 : Ref sig .tc := ⟨.hbm, 1355, rfl⟩
abbrev main_v1017 : Ref sig .tc := ⟨.hbm, 1356, rfl⟩
abbrev main_cst_234 : Ref sig .tc := ⟨.hbm, 1357, rfl⟩
abbrev main_v1018 : Ref sig .tc := ⟨.hbm, 1358, rfl⟩
abbrev main_v1019 : Ref sig .tc := ⟨.hbm, 1359, rfl⟩
abbrev main_cst_235 : Ref sig .tc := ⟨.hbm, 1360, rfl⟩
abbrev main_v1020 : Ref sig .tc := ⟨.hbm, 1361, rfl⟩
abbrev main_v1021 : Ref sig .tc := ⟨.hbm, 1362, rfl⟩
abbrev main_v1022 : Ref sig .tc := ⟨.hbm, 1363, rfl⟩
abbrev main_v1023 : Ref sig .tc := ⟨.hbm, 1364, rfl⟩
abbrev main_v1024 : Ref sig .tc := ⟨.hbm, 1365, rfl⟩
abbrev main_v1025 : Ref sig .tc := ⟨.hbm, 1366, rfl⟩
abbrev main_v1026 : Ref sig .tc := ⟨.hbm, 1367, rfl⟩
abbrev main_v1027 : Ref sig .tc := ⟨.hbm, 1368, rfl⟩
abbrev main_c_236 : Ref sig .tc := ⟨.hbm, 1369, rfl⟩
abbrev main_v1028 : Ref sig .tc := ⟨.hbm, 1370, rfl⟩
abbrev main_v1029 : Ref sig .tc := ⟨.hbm, 1371, rfl⟩
abbrev main_c_237 : Ref sig .tc := ⟨.hbm, 1372, rfl⟩
abbrev main_v1030 : Ref sig .tc := ⟨.hbm, 1373, rfl⟩
abbrev main_v1031 : Ref sig .tc := ⟨.hbm, 1374, rfl⟩
abbrev main_c_238 : Ref sig .tc := ⟨.hbm, 1375, rfl⟩
abbrev main_v1032 : Ref sig .tc := ⟨.hbm, 1376, rfl⟩
abbrev main_v1033 : Ref sig .tc := ⟨.hbm, 1377, rfl⟩
abbrev main_v1034 : Ref sig .tc := ⟨.hbm, 1378, rfl⟩
abbrev main_v1035 : Ref sig .tc := ⟨.hbm, 1379, rfl⟩
abbrev main_v1036 : Ref sig .tc := ⟨.hbm, 1380, rfl⟩
abbrev main_cst_239 : Ref sig .tc := ⟨.hbm, 1381, rfl⟩
abbrev main_v1037 : Ref sig .tc := ⟨.hbm, 1382, rfl⟩
abbrev main_v1038 : Ref sig .tc := ⟨.hbm, 1383, rfl⟩
abbrev main_v1039 : Ref sig .tc := ⟨.hbm, 1384, rfl⟩
abbrev main_v1040 : Ref sig .tc := ⟨.hbm, 1385, rfl⟩
abbrev main_v1041 : Ref sig .tc := ⟨.hbm, 1386, rfl⟩
abbrev main_v1042 : Ref sig .tc := ⟨.hbm, 1387, rfl⟩
abbrev main_v1043 : Ref sig .tc := ⟨.hbm, 1388, rfl⟩
abbrev main_v1044 : Ref sig .tc := ⟨.hbm, 1389, rfl⟩
abbrev main_v1045 : Ref sig .tc := ⟨.hbm, 1390, rfl⟩
abbrev main_c_240 : Ref sig .tc := ⟨.hbm, 1391, rfl⟩
abbrev main_v1046 : Ref sig .tc := ⟨.hbm, 1392, rfl⟩
abbrev main_v1047 : Ref sig .tc := ⟨.hbm, 1393, rfl⟩
abbrev main_c_241 : Ref sig .tc := ⟨.hbm, 1394, rfl⟩
abbrev main_v1048 : Ref sig .tc := ⟨.hbm, 1395, rfl⟩
abbrev main_v1049 : Ref sig .tc := ⟨.hbm, 1396, rfl⟩
abbrev main_c_242 : Ref sig .tc := ⟨.hbm, 1397, rfl⟩
abbrev main_v1050 : Ref sig .tc := ⟨.hbm, 1398, rfl⟩
abbrev main_v1051 : Ref sig .tc := ⟨.hbm, 1399, rfl⟩
abbrev main_v1052 : Ref sig .tc := ⟨.hbm, 1400, rfl⟩
abbrev main_v1053 : Ref sig .tc := ⟨.hbm, 1401, rfl⟩
abbrev main_v1054 : Ref sig .tc := ⟨.hbm, 1402, rfl⟩
abbrev main_cst_243 : Ref sig .tc := ⟨.hbm, 1403, rfl⟩
abbrev main_v1055 : Ref sig .tc := ⟨.hbm, 1404, rfl⟩
abbrev main_v1056 : Ref sig .tc := ⟨.hbm, 1405, rfl⟩
abbrev main_v1057 : Ref sig .tc := ⟨.hbm, 1406, rfl⟩
abbrev main_v1058 : Ref sig .tc := ⟨.hbm, 1407, rfl⟩
abbrev main_v1059 : Ref sig .tc := ⟨.hbm, 1408, rfl⟩
abbrev main_v1060 : Ref sig .tc := ⟨.hbm, 1409, rfl⟩
abbrev main_v1061 : Ref sig .tc := ⟨.hbm, 1410, rfl⟩
abbrev main_v1062 : Ref sig .tc := ⟨.hbm, 1411, rfl⟩
abbrev main_v1063 : Ref sig .tc := ⟨.hbm, 1412, rfl⟩
abbrev main_c_244 : Ref sig .tc := ⟨.hbm, 1413, rfl⟩
abbrev main_v1064 : Ref sig .tc := ⟨.hbm, 1414, rfl⟩
abbrev main_v1065 : Ref sig .tc := ⟨.hbm, 1415, rfl⟩
abbrev main_c_245 : Ref sig .tc := ⟨.hbm, 1416, rfl⟩
abbrev main_v1066 : Ref sig .tc := ⟨.hbm, 1417, rfl⟩
abbrev main_v1067 : Ref sig .tc := ⟨.hbm, 1418, rfl⟩
abbrev main_c_246 : Ref sig .tc := ⟨.hbm, 1419, rfl⟩
abbrev main_v1068 : Ref sig .tc := ⟨.hbm, 1420, rfl⟩
abbrev main_v1069 : Ref sig .tc := ⟨.hbm, 1421, rfl⟩
abbrev main_c_247 : Ref sig .tc := ⟨.hbm, 1422, rfl⟩
abbrev main_v1070 : Ref sig .tc := ⟨.hbm, 1423, rfl⟩
abbrev main_v1071 : Ref sig .tc := ⟨.hbm, 1424, rfl⟩
abbrev main_v1072 : Ref sig .tc := ⟨.hbm, 1425, rfl⟩
abbrev main_v1073 : Ref sig .tc := ⟨.hbm, 1426, rfl⟩
abbrev main_v1074 : Ref sig .tc := ⟨.hbm, 1427, rfl⟩
abbrev main_v1075 : Ref sig .tc := ⟨.hbm, 1428, rfl⟩
abbrev main_v1076 : Ref sig .tc := ⟨.hbm, 1429, rfl⟩
abbrev main_v1077 : Ref sig .tc := ⟨.hbm, 1430, rfl⟩
abbrev main_v1078 : Ref sig .tc := ⟨.hbm, 1431, rfl⟩
abbrev main_v1079 : Ref sig .tc := ⟨.hbm, 1432, rfl⟩
abbrev main_v1080 : Ref sig .tc := ⟨.hbm, 1433, rfl⟩
abbrev main_v1081 : Ref sig .tc := ⟨.hbm, 1434, rfl⟩
abbrev main_v1082 : Ref sig .tc := ⟨.hbm, 1435, rfl⟩
abbrev main_cst_248 : Ref sig .tc := ⟨.hbm, 1436, rfl⟩
abbrev main_call25_v0 : Ref sig .tc := ⟨.hbm, 1437, rfl⟩
abbrev main_call25_v1 : Ref sig .tc := ⟨.hbm, 1438, rfl⟩
abbrev main_call25_v2 : Ref sig .tc := ⟨.hbm, 1439, rfl⟩
abbrev main_v1083 : Ref sig .tc := ⟨.hbm, 1440, rfl⟩
abbrev main_v1084 : Ref sig .tc := ⟨.hbm, 1441, rfl⟩
abbrev main_v1085 : Ref sig .tc := ⟨.hbm, 1442, rfl⟩
abbrev main_v1086 : Ref sig .tc := ⟨.hbm, 1443, rfl⟩
abbrev main_v1087 : Ref sig .tc := ⟨.hbm, 1444, rfl⟩
abbrev main_cst_249 : Ref sig .tc := ⟨.hbm, 1445, rfl⟩
abbrev main_v1088 : Ref sig .tc := ⟨.hbm, 1446, rfl⟩
abbrev main_v1089 : Ref sig .tc := ⟨.hbm, 1447, rfl⟩
abbrev main_v1090 : Ref sig .tc := ⟨.hbm, 1448, rfl⟩
abbrev main_v1091 : Ref sig .tc := ⟨.hbm, 1449, rfl⟩
abbrev main_v1092 : Ref sig .tc := ⟨.hbm, 1450, rfl⟩
abbrev main_cst_250 : Ref sig .tc := ⟨.hbm, 1451, rfl⟩
abbrev main_v1093 : Ref sig .tc := ⟨.hbm, 1452, rfl⟩
abbrev main_v1094 : Ref sig .tc := ⟨.hbm, 1453, rfl⟩
abbrev main_v1095 : Ref sig .tc := ⟨.hbm, 1454, rfl⟩
abbrev main_v1096 : Ref sig .tc := ⟨.hbm, 1455, rfl⟩
abbrev main_cst_251 : Ref sig .tc := ⟨.hbm, 1456, rfl⟩
abbrev main_v1097 : Ref sig .tc := ⟨.hbm, 1457, rfl⟩
abbrev main_v1098 : Ref sig .tc := ⟨.hbm, 1458, rfl⟩
abbrev main_cst_252 : Ref sig .tc := ⟨.hbm, 1459, rfl⟩
abbrev main_v1099 : Ref sig .tc := ⟨.hbm, 1460, rfl⟩
abbrev main_v1100 : Ref sig .tc := ⟨.hbm, 1461, rfl⟩
abbrev main_v1101 : Ref sig .tc := ⟨.hbm, 1462, rfl⟩
abbrev main_v1102 : Ref sig .tc := ⟨.hbm, 1463, rfl⟩
abbrev main_cst_253 : Ref sig .tc := ⟨.hbm, 1464, rfl⟩
abbrev main_v1103 : Ref sig .tc := ⟨.hbm, 1465, rfl⟩
abbrev main_v1104 : Ref sig .tc := ⟨.hbm, 1466, rfl⟩
abbrev main_cst_254 : Ref sig .tc := ⟨.hbm, 1467, rfl⟩
abbrev main_v1105 : Ref sig .tc := ⟨.hbm, 1468, rfl⟩
abbrev main_v1106 : Ref sig .tc := ⟨.hbm, 1469, rfl⟩
abbrev main_v1107 : Ref sig .tc := ⟨.hbm, 1470, rfl⟩
abbrev main_v1108 : Ref sig .tc := ⟨.hbm, 1471, rfl⟩
abbrev main_v1109 : Ref sig .tc := ⟨.hbm, 1472, rfl⟩
abbrev main_v1110 : Ref sig .tc := ⟨.hbm, 1473, rfl⟩
abbrev main_v1111 : Ref sig .tc := ⟨.hbm, 1474, rfl⟩
abbrev main_v1112 : Ref sig .tc := ⟨.hbm, 1475, rfl⟩
abbrev main_cst_255 : Ref sig .tc := ⟨.hbm, 1476, rfl⟩
abbrev main_cst_256 : Ref sig .tc := ⟨.hbm, 1477, rfl⟩
abbrev main_call26_v0 : Ref sig .tc := ⟨.hbm, 1478, rfl⟩
abbrev main_call26_v1 : Ref sig .tc := ⟨.hbm, 1479, rfl⟩
abbrev main_call26_v2 : Ref sig .tc := ⟨.hbm, 1480, rfl⟩
abbrev main_call26_v3 : Ref sig .tc := ⟨.hbm, 1481, rfl⟩
abbrev main_call26_v4 : Ref sig .tc := ⟨.hbm, 1482, rfl⟩
abbrev main_v1113 : Ref sig .tc := ⟨.hbm, 1483, rfl⟩
abbrev main_v1114 : Ref sig .tc := ⟨.hbm, 1484, rfl⟩
abbrev main_cst_257 : Ref sig .tc := ⟨.hbm, 1485, rfl⟩
abbrev main_cst_258 : Ref sig .tc := ⟨.hbm, 1486, rfl⟩
abbrev main_call27_v0 : Ref sig .tc := ⟨.hbm, 1487, rfl⟩
abbrev main_call27_v1 : Ref sig .tc := ⟨.hbm, 1488, rfl⟩
abbrev main_call27_v2 : Ref sig .tc := ⟨.hbm, 1489, rfl⟩
abbrev main_call27_v3 : Ref sig .tc := ⟨.hbm, 1490, rfl⟩
abbrev main_call27_v4 : Ref sig .tc := ⟨.hbm, 1491, rfl⟩
abbrev main_v1115 : Ref sig .tc := ⟨.hbm, 1492, rfl⟩
abbrev main_v1116 : Ref sig .tc := ⟨.hbm, 1493, rfl⟩
abbrev main_v1117 : Ref sig .tc := ⟨.hbm, 1494, rfl⟩
abbrev main_v1118 : Ref sig .tc := ⟨.hbm, 1495, rfl⟩
abbrev main_v1119 : Ref sig .tc := ⟨.hbm, 1496, rfl⟩
abbrev main_cst_259 : Ref sig .tc := ⟨.hbm, 1497, rfl⟩
abbrev main_v1120 : Ref sig .tc := ⟨.hbm, 1498, rfl⟩
abbrev main_v1121 : Ref sig .tc := ⟨.hbm, 1499, rfl⟩
abbrev main_v1122 : Ref sig .tc := ⟨.hbm, 1500, rfl⟩
abbrev main_v1123 : Ref sig .tc := ⟨.hbm, 1501, rfl⟩
abbrev main_v1124 : Ref sig .tc := ⟨.hbm, 1502, rfl⟩
abbrev main_v1125 : Ref sig .tc := ⟨.hbm, 1503, rfl⟩
abbrev main_v1126 : Ref sig .tc := ⟨.hbm, 1504, rfl⟩
abbrev main_v1127 : Ref sig .tc := ⟨.hbm, 1505, rfl⟩
abbrev main_v1128 : Ref sig .tc := ⟨.hbm, 1506, rfl⟩
abbrev main_v1129 : Ref sig .tc := ⟨.hbm, 1507, rfl⟩
abbrev main_c_260 : Ref sig .tc := ⟨.hbm, 1508, rfl⟩
abbrev main_v1130 : Ref sig .tc := ⟨.hbm, 1509, rfl⟩
abbrev main_v1131 : Ref sig .tc := ⟨.hbm, 1510, rfl⟩
abbrev main_v1132 : Ref sig .tc := ⟨.hbm, 1511, rfl⟩
abbrev main_v1133 : Ref sig .tc := ⟨.hbm, 1512, rfl⟩
abbrev main_v1134 : Ref sig .tc := ⟨.hbm, 1513, rfl⟩
abbrev main_v1135 : Ref sig .tc := ⟨.hbm, 1514, rfl⟩
abbrev main_v1136 : Ref sig .tc := ⟨.hbm, 1515, rfl⟩
abbrev main_c_261 : Ref sig .tc := ⟨.hbm, 1516, rfl⟩
abbrev main_v1137 : Ref sig .tc := ⟨.hbm, 1517, rfl⟩
abbrev main_v1138 : Ref sig .tc := ⟨.hbm, 1518, rfl⟩
abbrev main_c_262 : Ref sig .tc := ⟨.hbm, 1519, rfl⟩
abbrev main_v1139 : Ref sig .tc := ⟨.hbm, 1520, rfl⟩
abbrev main_v1140 : Ref sig .tc := ⟨.hbm, 1521, rfl⟩
abbrev main_v1141 : Ref sig .tc := ⟨.hbm, 1522, rfl⟩
abbrev main_v1142 : Ref sig .tc := ⟨.hbm, 1523, rfl⟩
abbrev main_v1143 : Ref sig .tc := ⟨.hbm, 1524, rfl⟩
abbrev main_cst_263 : Ref sig .tc := ⟨.hbm, 1525, rfl⟩
abbrev main_v1144 : Ref sig .tc := ⟨.hbm, 1526, rfl⟩
abbrev main_v1145 : Ref sig .tc := ⟨.hbm, 1527, rfl⟩
abbrev main_cst_264 : Ref sig .tc := ⟨.hbm, 1528, rfl⟩
abbrev main_v1146 : Ref sig .tc := ⟨.hbm, 1529, rfl⟩
abbrev main_v1147 : Ref sig .tc := ⟨.hbm, 1530, rfl⟩
abbrev main_v1148 : Ref sig .tc := ⟨.hbm, 1531, rfl⟩
abbrev main_v1149 : Ref sig .tc := ⟨.hbm, 1532, rfl⟩
abbrev main_v1150 : Ref sig .tc := ⟨.hbm, 1533, rfl⟩
abbrev main_v1151 : Ref sig .tc := ⟨.hbm, 1534, rfl⟩
abbrev main_v1152 : Ref sig .tc := ⟨.hbm, 1535, rfl⟩
abbrev main_v1153 : Ref sig .tc := ⟨.hbm, 1536, rfl⟩
abbrev main_c_265 : Ref sig .tc := ⟨.hbm, 1537, rfl⟩
abbrev main_v1154 : Ref sig .tc := ⟨.hbm, 1538, rfl⟩
abbrev main_v1155 : Ref sig .tc := ⟨.hbm, 1539, rfl⟩
abbrev main_c_266 : Ref sig .tc := ⟨.hbm, 1540, rfl⟩
abbrev main_v1156 : Ref sig .tc := ⟨.hbm, 1541, rfl⟩
abbrev main_v1157 : Ref sig .tc := ⟨.hbm, 1542, rfl⟩
abbrev main_c_267 : Ref sig .tc := ⟨.hbm, 1543, rfl⟩
abbrev main_v1158 : Ref sig .tc := ⟨.hbm, 1544, rfl⟩
abbrev main_v1159 : Ref sig .tc := ⟨.hbm, 1545, rfl⟩
abbrev main_v1160 : Ref sig .tc := ⟨.hbm, 1546, rfl⟩
abbrev main_v1161 : Ref sig .tc := ⟨.hbm, 1547, rfl⟩
abbrev main_v1162 : Ref sig .tc := ⟨.hbm, 1548, rfl⟩
abbrev main_cst_268 : Ref sig .tc := ⟨.hbm, 1549, rfl⟩
abbrev main_v1163 : Ref sig .tc := ⟨.hbm, 1550, rfl⟩
abbrev main_v1164 : Ref sig .tc := ⟨.hbm, 1551, rfl⟩
abbrev main_v1165 : Ref sig .tc := ⟨.hbm, 1552, rfl⟩
abbrev main_v1166 : Ref sig .tc := ⟨.hbm, 1553, rfl⟩
abbrev main_v1167 : Ref sig .tc := ⟨.hbm, 1554, rfl⟩
abbrev main_v1168 : Ref sig .tc := ⟨.hbm, 1555, rfl⟩
abbrev main_v1169 : Ref sig .tc := ⟨.hbm, 1556, rfl⟩
abbrev main_v1170 : Ref sig .tc := ⟨.hbm, 1557, rfl⟩
abbrev main_v1171 : Ref sig .tc := ⟨.hbm, 1558, rfl⟩
abbrev main_c_269 : Ref sig .tc := ⟨.hbm, 1559, rfl⟩
abbrev main_v1172 : Ref sig .tc := ⟨.hbm, 1560, rfl⟩
abbrev main_v1173 : Ref sig .tc := ⟨.hbm, 1561, rfl⟩
abbrev main_c_270 : Ref sig .tc := ⟨.hbm, 1562, rfl⟩
abbrev main_v1174 : Ref sig .tc := ⟨.hbm, 1563, rfl⟩
abbrev main_v1175 : Ref sig .tc := ⟨.hbm, 1564, rfl⟩
abbrev main_c_271 : Ref sig .tc := ⟨.hbm, 1565, rfl⟩
abbrev main_v1176 : Ref sig .tc := ⟨.hbm, 1566, rfl⟩
abbrev main_v1177 : Ref sig .tc := ⟨.hbm, 1567, rfl⟩
abbrev main_v1178 : Ref sig .tc := ⟨.hbm, 1568, rfl⟩
abbrev main_v1179 : Ref sig .tc := ⟨.hbm, 1569, rfl⟩
abbrev main_v1180 : Ref sig .tc := ⟨.hbm, 1570, rfl⟩
abbrev main_cst_272 : Ref sig .tc := ⟨.hbm, 1571, rfl⟩
abbrev main_v1181 : Ref sig .tc := ⟨.hbm, 1572, rfl⟩
abbrev main_v1182 : Ref sig .tc := ⟨.hbm, 1573, rfl⟩
abbrev main_v1183 : Ref sig .tc := ⟨.hbm, 1574, rfl⟩
abbrev main_v1184 : Ref sig .tc := ⟨.hbm, 1575, rfl⟩
abbrev main_v1185 : Ref sig .tc := ⟨.hbm, 1576, rfl⟩
abbrev main_v1186 : Ref sig .tc := ⟨.hbm, 1577, rfl⟩
abbrev main_v1187 : Ref sig .tc := ⟨.hbm, 1578, rfl⟩
abbrev main_v1188 : Ref sig .tc := ⟨.hbm, 1579, rfl⟩
abbrev main_v1189 : Ref sig .tc := ⟨.hbm, 1580, rfl⟩
abbrev main_c_273 : Ref sig .tc := ⟨.hbm, 1581, rfl⟩
abbrev main_v1190 : Ref sig .tc := ⟨.hbm, 1582, rfl⟩
abbrev main_v1191 : Ref sig .tc := ⟨.hbm, 1583, rfl⟩
abbrev main_c_274 : Ref sig .tc := ⟨.hbm, 1584, rfl⟩
abbrev main_v1192 : Ref sig .tc := ⟨.hbm, 1585, rfl⟩
abbrev main_v1193 : Ref sig .tc := ⟨.hbm, 1586, rfl⟩
abbrev main_c_275 : Ref sig .tc := ⟨.hbm, 1587, rfl⟩
abbrev main_v1194 : Ref sig .tc := ⟨.hbm, 1588, rfl⟩
abbrev main_v1195 : Ref sig .tc := ⟨.hbm, 1589, rfl⟩
abbrev main_c_276 : Ref sig .tc := ⟨.hbm, 1590, rfl⟩
abbrev main_v1196 : Ref sig .tc := ⟨.hbm, 1591, rfl⟩
abbrev main_v1197 : Ref sig .tc := ⟨.hbm, 1592, rfl⟩
abbrev main_v1198 : Ref sig .tc := ⟨.hbm, 1593, rfl⟩
abbrev main_v1199 : Ref sig .tc := ⟨.hbm, 1594, rfl⟩
abbrev main_v1200 : Ref sig .tc := ⟨.hbm, 1595, rfl⟩
abbrev main_v1201 : Ref sig .tc := ⟨.hbm, 1596, rfl⟩
abbrev main_v1202 : Ref sig .tc := ⟨.hbm, 1597, rfl⟩
abbrev main_v1203 : Ref sig .tc := ⟨.hbm, 1598, rfl⟩
abbrev main_v1204 : Ref sig .tc := ⟨.hbm, 1599, rfl⟩
abbrev main_v1205 : Ref sig .tc := ⟨.hbm, 1600, rfl⟩
abbrev main_v1206 : Ref sig .tc := ⟨.hbm, 1601, rfl⟩
abbrev main_v1207 : Ref sig .tc := ⟨.hbm, 1602, rfl⟩
abbrev main_v1208 : Ref sig .tc := ⟨.hbm, 1603, rfl⟩
abbrev main_cst_277 : Ref sig .tc := ⟨.hbm, 1604, rfl⟩
abbrev main_call28_v0 : Ref sig .tc := ⟨.hbm, 1605, rfl⟩
abbrev main_call28_v1 : Ref sig .tc := ⟨.hbm, 1606, rfl⟩
abbrev main_call28_v2 : Ref sig .tc := ⟨.hbm, 1607, rfl⟩
abbrev main_v1209 : Ref sig .tc := ⟨.hbm, 1608, rfl⟩
abbrev main_v1210 : Ref sig .tc := ⟨.hbm, 1609, rfl⟩
abbrev main_v1211 : Ref sig .tc := ⟨.hbm, 1610, rfl⟩
abbrev main_v1212 : Ref sig .tc := ⟨.hbm, 1611, rfl⟩
abbrev main_v1213 : Ref sig .tc := ⟨.hbm, 1612, rfl⟩
abbrev main_cst_278 : Ref sig .tc := ⟨.hbm, 1613, rfl⟩
abbrev main_v1214 : Ref sig .tc := ⟨.hbm, 1614, rfl⟩
abbrev main_v1215 : Ref sig .tc := ⟨.hbm, 1615, rfl⟩
abbrev main_v1216 : Ref sig .tc := ⟨.hbm, 1616, rfl⟩
abbrev main_v1217 : Ref sig .tc := ⟨.hbm, 1617, rfl⟩
abbrev main_v1218 : Ref sig .tc := ⟨.hbm, 1618, rfl⟩
abbrev main_cst_279 : Ref sig .tc := ⟨.hbm, 1619, rfl⟩
abbrev main_call29_v0 : Ref sig .tc := ⟨.hbm, 1620, rfl⟩
abbrev main_call29_v1 : Ref sig .tc := ⟨.hbm, 1621, rfl⟩
abbrev main_call29_v2 : Ref sig .tc := ⟨.hbm, 1622, rfl⟩
abbrev main_v1219 : Ref sig .tc := ⟨.hbm, 1623, rfl⟩
abbrev main_v1220 : Ref sig .tc := ⟨.hbm, 1624, rfl⟩
abbrev main_cst_280 : Ref sig .tc := ⟨.hbm, 1625, rfl⟩
abbrev main_v1221 : Ref sig .tc := ⟨.hbm, 1626, rfl⟩
abbrev main_v1222 : Ref sig .tc := ⟨.hbm, 1627, rfl⟩

abbrev nD : Nat := 1
abbrev τ : Topo := Topo.v7x

variable {F : FTy → Type} [FloatOps F]
-- ==== Proof.WindowWord.lean ====
/- The corner of the feature window as the kernel computes it on 32-bit words: the floor of a coordinate less two,
   rounded down to a multiple of eight and clamped to `[0, 48]`. Stated once, for every word. -/
module

public import Idealize.ShloMosaic.Lib.WordArith
public import Idealize.ShloMosaic.Lib.StableHlo.Predicate

@[expose] public section

namespace Cert.Roi

open Idealize.ShloMosaic

/-- A word divided by eight, rounded towards minus infinity: the truncating quotient, less one where the signs
    differ and the remainder is not zero. -/
def floorWord (w : BitVec 32) : BitVec 32 :=
  Scalar.select
    (Scalar.andi
      (Scalar.cmpi .ne (Scalar.subi (Scalar.extui (Scalar.cmpi .sgt w 0#32)) (Scalar.extui (Scalar.cmpi .slt w 0#32)))
        (Scalar.subi (Scalar.extui (Scalar.cmpi .sgt 8#32 0#32)) (Scalar.extui (Scalar.cmpi .slt 8#32 0#32))))
      (Scalar.cmpi .ne (Scalar.remsi w 8#32) 0#32))
    (Scalar.subi (Scalar.divsi w 8#32) 1#32) (Scalar.divsi w 8#32)

/-- The window's corner for the floor `v` of a coordinate. -/
def winWord (v : BitVec 32) : BitVec 32 :=
  Scalar.minsi 48#32 (Scalar.maxsi 0#32 (Scalar.muli (floorWord (Scalar.subi v 2#32)) 8#32))

/-- Truncated division by eight: quotient, remainder and the remainder's sign. -/
theorem tdiv_eight (x : Int) : 8 * x.tdiv 8 + x.tmod 8 = x ∧ (0 ≤ x → 0 ≤ x.tmod 8 ∧ x.tmod 8 < 8)
    ∧ (x ≤ 0 → -8 < x.tmod 8 ∧ x.tmod 8 ≤ 0) := by
  refine ⟨Int.mul_tdiv_add_tmod x 8, fun h => ⟨Int.tmod_nonneg 8 h, Int.tmod_lt_of_pos x (by decide)⟩, fun h => ?_⟩
  have h1 := Int.tmod_nonneg (a := -x) 8 (by omega)
  have h2 := Int.tmod_lt_of_pos (-x) (b := 8) (by decide)
  rw [Int.neg_tmod] at h1 h2
  omega

theorem divsi_eight (w : BitVec 32) : (Scalar.divsi w 8#32).toInt = w.toInt.tdiv 8 := by
  unfold Scalar.divsi IntOp.divsi
  rw [if_neg (by unfold IntOp.SDivCorner; simp), BitVec.toInt_sdiv]
  have h1 := BitVec.le_toInt w
  have h2 := BitVec.toInt_lt (x := w)
  have e8 : (8#32 : BitVec 32).toInt = 8 := by decide
  have ht := tdiv_eight w.toInt
  rw [e8]
  simp only [show (2 : Int) ^ (32 - 1) = 2147483648 from rfl] at h1 h2
  apply Int.bmod_eq_of_le
  · simp only [show ((2 ^ 32 : ℕ) : Int) = 4294967296 from rfl]; omega
  · simp only [show ((2 ^ 32 : ℕ) : Int) = 4294967296 from rfl]; omega

theorem remsi_eight (w : BitVec 32) : (Scalar.remsi w 8#32).toInt = w.toInt.tmod 8 := by
  unfold Scalar.remsi IntOp.remsi
  rw [if_neg (by unfold IntOp.SDivCorner; simp), BitVec.toInt_srem]
  rfl

/-- `floorWord` is the floor of the eighth. -/
theorem floorWord_toInt (w : BitVec 32) : (floorWord w).toInt = w.toInt / 8 := by
  have h1 := BitVec.le_toInt w
  have h2 := BitVec.toInt_lt (x := w)
  simp only [show (2 : Int) ^ (32 - 1) = 2147483648 from rfl] at h1 h2
  have ht := tdiv_eight w.toInt
  have hd := divsi_eight w
  have hr := remsi_eight w
  have hrz : (Scalar.remsi w 8#32 = 0#32) ↔ w.toInt.tmod 8 = 0 := by
    rw [← hr]; constructor
    · intro h; rw [h]; decide
    · intro h; exact BitVec.eq_of_toInt_eq (by rw [h]; decide)
  have hs : (Scalar.subi (Scalar.divsi w 8#32) 1#32).toInt = w.toInt.tdiv 8 - 1 := by
    unfold Scalar.subi IntOp.subi
    rw [WordArith.toInt_sub_of_bounds, hd]
    · rfl
    · rw [hd, show (1#32 : BitVec 32).toInt = 1 from by decide]; omega
    · rw [hd, show (1#32 : BitVec 32).toInt = 1 from by decide]; omega
  unfold floorWord
  generalize hD : Scalar.divsi w 8#32 = D at hd hs ⊢
  generalize hR : Scalar.remsi w 8#32 = R at hrz ⊢
  have e8 : Scalar.subi (Scalar.extui (Scalar.cmpi .sgt 8#32 0#32)) (Scalar.extui (Scalar.cmpi .slt 8#32 0#32)) = 1#32 := by decide
  rw [e8]
  have hgt : Scalar.cmpi .sgt w 0#32 = BitVec.ofBool (decide (0 < w.toInt)) := by
    simp [Scalar.cmpi, IntOp.cmpi, BitVec.slt]
  have hlt : Scalar.cmpi .slt w 0#32 = BitVec.ofBool (decide (w.toInt < 0)) := by
    simp [Scalar.cmpi, IntOp.cmpi, BitVec.slt]
  rw [hgt, hlt]
  have hne : Scalar.cmpi .ne R 0#32 = BitVec.ofBool (decide (w.toInt.tmod 8 ≠ 0)) := by
    unfold Scalar.cmpi IntOp.cmpi
    congr 1
    rw [Bool.eq_iff_iff]; simp [hrz]
  rw [hne]
  by_cases hneg : w.toInt < 0
  · rw [decide_eq_false (by omega : ¬ 0 < w.toInt), decide_eq_true hneg,
      show Scalar.cmpi .ne (Scalar.subi (Scalar.extui (BitVec.ofBool false)) (Scalar.extui (BitVec.ofBool true))) 1#32 = BitVec.ofBool true from by decide]
    by_cases hz : w.toInt.tmod 8 = 0
    · rw [decide_eq_false (by simpa using hz)]
      rw [show ∀ a b : BitVec 32, Scalar.select (Scalar.andi (BitVec.ofBool true) (BitVec.ofBool false)) a b = b from fun a b => by simp [Scalar.select, Scalar.andi, IntOp.andi]]
      rw [hd]; omega
    · rw [decide_eq_true (by simpa using hz)]
      rw [show ∀ a b : BitVec 32, Scalar.select (Scalar.andi (BitVec.ofBool true) (BitVec.ofBool true)) a b = a from fun a b => by simp [Scalar.select, Scalar.andi, IntOp.andi]]
      rw [hs]; omega
  · by_cases hp : 0 < w.toInt
    · rw [decide_eq_true hp, decide_eq_false hneg,
        show Scalar.cmpi .ne (Scalar.subi (Scalar.extui (BitVec.ofBool true)) (Scalar.extui (BitVec.ofBool false))) 1#32 = BitVec.ofBool false from by decide]
      rw [show ∀ (x : BitVec 1) (a b : BitVec 32), Scalar.select (Scalar.andi (BitVec.ofBool false) x) a b = b from fun x a b => by simp [Scalar.select, Scalar.andi, IntOp.andi]]
      rw [hd]; omega
    · have h0 : w.toInt = 0 := by omega
      rw [decide_eq_false hp, decide_eq_false hneg, h0]
      rw [show ∀ a b : BitVec 32, Scalar.select (Scalar.andi (Scalar.cmpi .ne (Scalar.subi (Scalar.extui (BitVec.ofBool false)) (Scalar.extui (BitVec.ofBool false))) 1#32) (BitVec.ofBool (decide ((0:Int).tmod 8 ≠ 0)))) a b = b from
        fun a b => by simp [Scalar.select, Scalar.andi, IntOp.andi]]
      rw [hd, h0]; rfl

/-- The window's corner as an integer. -/
theorem winWord_toInt (v : BitVec 32) :
    (winWord v).toInt = min 48 (max 0 ((Scalar.subi v 2#32).toInt / 8 * 8)) := by
  unfold winWord
  generalize Scalar.subi v 2#32 = w
  have h1 := BitVec.le_toInt w
  have h2 := BitVec.toInt_lt (x := w)
  simp only [show (2 : Int) ^ (32 - 1) = 2147483648 from rfl] at h1 h2
  have hm : (Scalar.muli (floorWord w) 8#32).toInt = w.toInt / 8 * 8 := by
    unfold Scalar.muli IntOp.muli
    have e8 : (8#32 : BitVec 32).toInt = 8 := by decide
    rw [WordArith.toInt_mul_of_bounds] <;> rw [floorWord_toInt, e8] <;> omega
  have hx : (Scalar.maxsi 0#32 (Scalar.muli (floorWord w) 8#32)).toInt = max 0 (w.toInt / 8 * 8) := by
    unfold Scalar.maxsi; rw [WordArith.toInt_maxsi_zero, hm]
  unfold Scalar.minsi IntOp.minsi
  by_cases h : BitVec.slt 48#32 (Scalar.maxsi 0#32 (Scalar.muli (floorWord w) 8#32)) = true
  · rw [if_pos h]
    have h' := h
    rw [BitVec.slt_iff_toInt_lt, hx] at h'
    have e48 : (48#32 : BitVec 32).toInt = 48 := by decide
    omega
  · rw [if_neg h, hx]
    have h' := h
    rw [BitVec.slt_iff_toInt_lt, hx] at h'
    have e48 : (48#32 : BitVec 32).toInt = 48 := by decide
    omega

/-- The corner as a natural number: a multiple of eight, at most 48, and its own signed value. -/
theorem winWord_toNat (v : BitVec 32) : ((winWord v).toNat : Int) = (winWord v).toInt := by
  have h := winWord_toInt v
  have hr := BitVec.toInt_eq_toNat_cond (winWord v)
  have hl := (winWord v).isLt
  split at hr <;> omega

theorem winWord_le (v : BitVec 32) : (winWord v).toNat ≤ 48 := by
  have h := winWord_toInt v; have h' := winWord_toNat v; omega

theorem winWord_dvd (v : BitVec 32) : 8 ∣ (winWord v).toNat := by
  have h := winWord_toInt v; have h' := winWord_toNat v; omega

/-- The corner times the 256 channels of a group, as the flat column where the window starts. -/
theorem winWord_mul_toNat (v : BitVec 32) : (Scalar.muli (winWord v) 256#32).toNat = (winWord v).toNat * 256 := by
  have h := winWord_le v
  unfold Scalar.muli IntOp.muli
  rw [BitVec.toNat_mul, show (256#32 : BitVec 32).toNat = 256 from by decide]
  apply Nat.mod_eq_of_lt
  omega

end Cert.Roi
-- ==== Proof.Ideal.Checks.lean ====
/- The side conditions the kernel body assumes of its window corners, in the program read over the extended reals: they hold of every word the
   coordinates may convert to, so the body never stops at them. -/
module

public import proofs.«01_k».proof.Proof.Gen.KernelIdeal
public import proofs.«01_k».proof.Proof.WindowWord

@[expose] public section

namespace Cert.KernelIdeal.Roi

open Idealize.ShloMosaic Cert.KernelIdeal Cert.Roi

/-- The row corner is the window word of the row floor. -/
theorem mult1_eq (v : BitVec 32) : k0_mult1 v = winWord v := rfl
/-- The flat column corner is 256 times the window word of the column floor. -/
theorem mult2_eq (v : BitVec 32) : k0_mult2 v = Scalar.muli (winWord v) 256#32 := rfl
/-- The first group's window starts at the row corner and the flat column corner. -/
theorem off2_eq (v w : BitVec 32) : k0_off2 v w = ![0, 0, (winWord v).toNat, (Scalar.muli (winWord w) 256#32).toNat] := rfl
/-- The second group's window starts at the same corners. -/
theorem off3_eq (v w : BitVec 32) : k0_off3 v w = ![0, 1, (winWord v).toNat, (Scalar.muli (winWord w) 256#32).toNat] := rfl

/-- The row corner is a multiple of eight. -/
theorem chk1 (v : BitVec 32) : k0_chk1 v := by
  unfold k0_chk1; rw [mult1_eq]; exact winWord_dvd v

/-- The flat column corner is a multiple of 2048 and both groups' windows lie inside the feature block. -/
theorem chk2 (v w : BitVec 32) : k0_chk2 v w := by
  have hv := winWord_le v
  have hw := winWord_le w
  have hd := winWord_dvd w
  have hm := winWord_mul_toNat w
  unfold k0_chk2
  rw [mult2_eq, off2_eq, off3_eq, hm]
  refine ⟨by omega, fun a => ?_, fun a => ?_⟩ <;> fin_cases a <;>
    simp [S1x1x48x12288, S1x2x96x24576] <;> omega

end Cert.KernelIdeal.Roi
-- ==== Proof.Ideal.Setup.lean ====
/- The host code around the kernel's launch, in the program read over the extended reals: what the buffers hold when the launch is reached, the
   table of batch indices the pipeline reads, the blocks its windows take, and which buffers the lines after the launch
   touch. -/
module

public import proofs.«01_k».proof.Proof.Gen.KernelIdeal.Launch
public import proofs.«01_k».proof.Proof.Gen.KernelIdeal.Skeleton
public import proofs.«01_k».proof.Proof.Ideal.Checks
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Roi

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before and after the launch -/

/-- Every buffer of device `c` after the host lines before the launch. -/
abbrev V0 (c : Dev nD) : Valuation τ sig (Elt F) :=
  StableHlo.after (List.flatten [hostOps0, hostOps0_1, hostOps0_2]) (fun b => m (c, b))
/-- The same, read at a buffer of the core. -/
abbrev V (c : Dev nD) (b : Ref sig .tc) : Buf (Elt F) ((c : Thread nD τ).loc b) := V0 m c (Proc.devRef .tc b)

/-- No host line before the launch allocates. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
/-- Nor one after it. -/
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

set_option maxHeartbeats 800000 in
/-- The program is its host lines, the launch, and the host lines after it. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1, hostOps1_1].map StableHlo.seq)) :=
  Pipeline.hmainP_around pcfgs 0 defs₀ 𝒱₀ m main [hostOps0, hostOps0_1, hostOps0_2] [hostOps1, hostOps1_1]
    (by simp only [List.Forall]; exact ⟨hostOps0_sub, hostOps0_1_sub, hostOps0_2_sub⟩)
    (by simp only [List.Forall]; exact ⟨hostOps0_fresh, hostOps0_1_fresh, hostOps0_2_fresh⟩) main_chain

/-- The lines after the launch use unscoped buffers only, none of them the table. -/
theorem sfx_sub : ∀ ops ∈ ([hostOps1, hostOps1_1] : List (List (HloOp τ sig (Elt F)))), ∀ op ∈ ops,
    op.bufs ⊆ Pipeline.tailRefs sig pre0 spec0 := by
  intro ops hops op hop
  simp only [List.mem_cons, List.mem_nil_iff, or_false] at hops
  rcases hops with rfl | rfl
  · refine Pipeline.sub_tailRefs pre0 spec0 op ((List.forall_iff_forall_mem.mp hostOps1_sub) op hop) ?_
    simp only [hostOps1, List.mem_cons, List.mem_nil_iff, or_false] at hop
    rcases hop with rfl | rfl | rfl
    all_goals intro j; fin_cases j <;> simp only [StableHlo.TRef.nullary, StableHlo.TRef.binary, StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
  · refine Pipeline.sub_tailRefs pre0 spec0 op ((List.forall_iff_forall_mem.mp hostOps1_1_sub) op hop) ?_
    simp only [hostOps1_1, List.mem_cons, List.mem_nil_iff, or_false] at hop
    rcases hop with rfl | rfl | rfl | rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)

/-- They allocate nothing. -/
theorem sfx_fresh : ∀ ops ∈ ([hostOps1, hostOps1_1] : List (List (HloOp τ sig (Elt F)))), ∀ op ∈ ops, op.fresh = ∅ := by
  intro ops hops op hop
  simp only [List.mem_cons, List.mem_nil_iff, or_false] at hops
  rcases hops with rfl | rfl
  · exact (List.forall_iff_forall_mem.mp hostOps1_fresh) op hop
  · exact (List.forall_iff_forall_mem.mp hostOps1_1_fresh) op hop

/-- They write no array of the pipeline. -/
theorem sfx_keeps : ∀ ops ∈ ([hostOps1, hostOps1_1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl
  · simp only [hostOps1, List.mem_cons, List.mem_nil_iff, or_false] at hop
    rcases hop with rfl | rfl | rfl
    all_goals intro w; fin_cases w <;> simp only [StableHlo.TRef.nullary, StableHlo.TRef.binary, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- A buffer no host line before the launch writes is found as launched: the features, -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.TRef.nullary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- and the regions. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.TRef.nullary, StableHlo.TRef.binary, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The table the pipeline reads -/

/-- The table's contents when the launch is reached (the program runs on one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- The condition the pipeline needs of the table: every feature block it names lies inside the features. -/
abbrev Ok : Prop := ok0 (F := F) (tbl m)
/-- The pipeline at that table. -/
abbrev adm (hO : Ok m) : (pcfg0 (F := F)).Adm := ⟨tbl m, hO⟩
abbrev cfgM (hO : Ok m) : Pipeline.Cfg sig Λ₀ := cfg0 (adm m hO)

/-- The table as the body is handed it. -/
abbrev tbM : Memref sig .tc .smem S512 .i32 := Memref.whole main_v10
abbrev htbM : tbM.IsWhole := Memref.isWhole_whole _
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The half of the table the body holds. -/
theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-- No host line after the launch writes the features: they end as launched; -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1, hostOps1_1] c main_arg0 = m ((c : Thread nD τ).loc main_arg0) := by
  unfold Pipeline.afterTail
  rw [StableHlo.after_of_forall_not_mem (b := Proc.devRef .tc main_arg0) _ _ (List.forall_iff_forall_mem.mp (by
      simp only [hostOps1, hostOps1_1, List.flatten_cons, List.flatten_nil, List.append_nil, List.cons_append,
        List.nil_append, List.Forall, StableHlo.TRef.nullary, StableHlo.TRef.binary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- and so do the regions. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1, hostOps1_1] c main_arg1 = m ((c : Thread nD τ).loc main_arg1) := by
  unfold Pipeline.afterTail
  rw [StableHlo.after_of_forall_not_mem (b := Proc.devRef .tc main_arg1) _ _ (List.forall_iff_forall_mem.mp (by
      simp only [hostOps1, hostOps1_1, List.flatten_cons, List.flatten_nil, List.append_nil, List.cons_append,
        List.nil_append, List.Forall, StableHlo.TRef.nullary, StableHlo.TRef.binary, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the launch finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The feature window's buffer holds its block at every point, fetched there or not. -/
theorem before0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The region window's buffer holds its row at every point. -/
theorem before1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Each window's current buffer at point `t`, and that it is a whole buffer. -/
abbrev ms0 (hO : Ok m) (t : Fin (cfgM m hO).N) : Memref sig .tc .vmem S1x2x96x24576 .bf16 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1x128 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x5x5x512 .f32 := spec0_2.stage ((cfgM m hO).slots t 2)
abbrev hs2 (hO : Ok m) (t : Fin (cfgM m hO).N) : (ms2 m hO t).IsWhole := hstage0_2 (((cfgM m hO).slots t 2).cast nbuf0_2)

/-- The kernel body at point `t` on those buffers. -/
abbrev bodyAt (hO : Ok m) (t : Fin (cfgM m hO).N) : Prog (TpuEff nD τ sig (Elt F) Λ₀ .tc) PUnit :=
  cc0_roialign_ada_max (grid0.coords t) tbM htbM (ms0 m hO t) (hs0 m hO t) (ms1 m hO t) (hs1 m hO t) (ms2 m hO t) (hs2 m hO t)

end Cert.KernelIdeal.Roi

end
-- ==== Proof.Order.lean ====
/- Sorting positions: the order in which a stable sort of 512 words visits its positions is a permutation, and
   sorting that permutation again gives its inverse. -/
module

public import Idealize.ShloMosaic.Lib.SortFacts
public import Idealize.ShloMosaic.Lib.StableHlo.Predicate
public import Idealize.ShloMosaic.Lib.Routing.OpsSet
public import Idealize.ShloMosaic.Lib.Routing.OpsPair
public import Idealize.ShloMosaic.Lib.Pointwise
public import Idealize.ShloMosaic.Lib.Pointwise.IndexBridge
public import Mathlib.Order.WellFounded

@[expose] public section

noncomputable section

namespace Cert.Roi

open Idealize.ShloMosaic Idealize.ShloMosaic.Routing

/-- The words' "sorts before". -/
abbrev wordBefore (l r : BitVec 32 × BitVec 32) : BitVec 1 := IntOp.cmpi .slt l.1 r.1

/-- The position that the sort of the words `x` puts at place `k`. -/
def order (x : IVec ⟨1, ![512]⟩ 32) (k : Fin 512) : Fin 512 :=
  sortedFrom (fun a b : Fin 512 => IntOp.cmpi .slt (x (ix1 a)) (x (ix1 b)) == 1#1) k

/-- Every position appears in the order. -/
theorem order_surjective (x : IVec ⟨1, ![512]⟩ 32) : Function.Surjective (order x) := sortedFrom_surjective _
/-- No position appears twice. -/
theorem order_injective (x : IVec ⟨1, ![512]⟩ 32) : Function.Injective (order x) := sortedFrom_injective _

/-- Position `k` of a vector with its only coordinate replaced by `a` is position `a`. -/
theorem along_ix1 {n : ℕ} (k a : Fin n) : (ix1 k : (⟨1, ![n]⟩ : Shape).Idx).along 0 a = ix1 a := by
  funext d
  obtain rfl : d = 0 := Subsingleton.elim _ _
  exact Function.update_self _ _ _

/-- The words carried along by a sort of `x`, read at a place: the word at the position the sort puts there. -/
theorem sort2_snd {n : ℕ} (x y : IVec ⟨1, ![n]⟩ 32) (k : Fin n) :
    (Host.sort2 ⟨1, ![n]⟩ 0 wordBefore x y).2 (ix1 k)
      = y (ix1 (sortedFrom (fun a b : Fin n => IntOp.cmpi .slt (x (ix1 a)) (x (ix1 b)) == 1#1) k)) := by
  unfold Host.sort2
  rw [dif_pos (show 0 < (⟨1, ![n]⟩ : Shape).rank from Nat.one_pos)]
  refine (congrArg y (along_ix1 k _)).trans ?_
  refine congrArg (fun f : Fin n → Fin n → Bool => y (ix1 (sortedFrom f k))) ?_
  funext a b
  exact congrArg₂ (fun i j => IntOp.cmpi .slt (x i) (x j) == 1#1) (along_ix1 k a) (along_ix1 k b)

/-- The positions carried along by the sort of the words `x`, read at place `k`: the word of `order x k`. -/
theorem sort2_iota (x : IVec ⟨1, ![512]⟩ 32) (k : Fin 512) :
    (Host.sort2 ⟨1, ![512]⟩ 0 wordBefore x (iotaInDim ⟨1, ![512]⟩ 32 0)).2 (ix1 k) = BitVec.ofNat 32 (order x k).val :=
  sort2_snd x _ k

/-- Small words compare as the numbers they write. -/
theorem slt_ofNat (a b : Fin 512) : (IntOp.cmpi .slt (BitVec.ofNat 32 a.val) (BitVec.ofNat 32 b.val) == 1#1) = decide (a < b) := by
  have ha := a.isLt; have hb := b.isLt
  have h1 : (BitVec.ofNat 32 a.val).toInt = a.val := StableHlo.Predicate.toInt_ofNat_small _ (by omega)
  have h2 : (BitVec.ofNat 32 b.val).toInt = b.val := StableHlo.Predicate.toInt_ofNat_small _ (by omega)
  have : IntOp.cmpi .slt (BitVec.ofNat 32 a.val) (BitVec.ofNat 32 b.val) = BitVec.ofBool (decide (a < b)) := by
    show BitVec.ofBool (BitVec.slt _ _) = _
    rw [BitVec.slt, h1, h2]
    congr 1
    exact decide_eq_decide.mpr (by rw [Fin.lt_def]; omega)
  rw [this]
  cases decide (a < b) <;> rfl

/-- Sorting the words of a permutation `π` finds its inverse: place `k` is taken by the position whose word is `k`. -/
theorem order_of_perm (x : IVec ⟨1, ![512]⟩ 32) (π : Fin 512 → Fin 512) (hπ : Function.Injective π)
    (hx : ∀ a, x (ix1 a) = BitVec.ofNat 32 (π a).val) (k : Fin 512) : π (order x k) = k := by
  have hno : ∀ i j : Fin 512, i < j → ¬ π (order x j) < π (order x i) := fun i j hij => by
    have h := sortedFrom_noInversion (fun a b : Fin 512 => decide (π a < π b)) (fun a b => IntOp.cmpi .slt (x (ix1 a)) (x (ix1 b)) == 1#1)
      (fun a b h => by rw [hx, hx, slt_ofNat] at h; simp only [decide_eq_true_eq, decide_eq_false_iff_not] at h ⊢; omega)
      (fun a b h => by rw [hx, hx, slt_ofNat]; exact h)
      (fun a b c h1 h2 => by simp only [decide_eq_false_iff_not] at h1 h2 ⊢; omega) i j hij
    exact of_decide_eq_false h
  have hmono : StrictMono fun k => π (order x k) := fun i j hij => by
    have h1 := hno i j hij
    have h2 : π (order x i) ≠ π (order x j) := fun e => absurd (order_injective x (hπ e)) (ne_of_lt hij)
    exact lt_of_le_of_ne (not_lt.mp h1) h2
  exact le_antisymm (hmono.apply_le (x := k)) (hmono.le_apply (x := k))

/-- The wrap of a negative index leaves a small word alone. -/
theorem wrap_ofNat (n : Fin 512) (a : BitVec 32) :
    Scalar.select (IntOp.cmpi .slt (BitVec.ofNat 32 n.val) 0#32) a (BitVec.ofNat 32 n.val) = BitVec.ofNat 32 n.val := by
  refine wrap_of_lt _ _ ?_
  rw [BitVec.toNat_ofNat]
  have := n.isLt
  omega

end Cert.Roi

end
-- ==== Proof.Ideal.Table.lean ====
/- The table of batch indices the pipeline reads, in in the program read over the extended reals: each of its words is the batch index of some region,
   the one the sort puts at that place; so words in range put every feature block inside the features. -/
module

public import proofs.«01_k».proof.Proof.Ideal.Setup
public import proofs.«01_k».proof.Proof.Order
public import Idealize.ShloMosaic.Lib.Pointwise
public import Idealize.ShloMosaic.Lib.StableHlo.ReadAt

@[expose] public section

set_option maxRecDepth 16384

noncomputable section

namespace Cert.KernelIdeal.Roi

open Cert.KernelIdeal Cert.KernelIdeal.Gen Cert.Roi
open Idealize.ShloMosaic Idealize.ShloMosaic.TcCoe Idealize.ShloMosaic.Tactic
open Idealize.SL.Sem

variable {F : FTy → Type} [FloatOps F]
variable (m : (ℓ : Loc nD τ sig) → Buf (Elt F) ℓ)

/-- The regions' batch indices, in the order given. -/
abbrev batchW (c : Dev nD) : IVec ⟨1, ![512]⟩ 32 := fun j => FloatOps.fptosi 32 (m ((c : Thread nD τ).loc main_arg1) (ix2 (j 0) 0))

/-- The region that the sort of the batch indices puts at place `k`. -/
abbrev ord (c : Dev nD) (k : Fin 512) : Fin 512 := order (batchW m c) k

/-- The batch indices as the host lines leave them. -/
theorem V_v2 (c : Dev nD) : V m c main_v2 = batchW m c := by
  funext j
  unfold V V0 batchW
  after_reads_at

/-- The order of the sort as the host lines leave it. -/
theorem V_v3 (c : Dev nD) (k : Fin 512) : V m c main_v3 (ix1 k) = BitVec.ofNat 32 (ord m c k).val := by
  have e : V m c main_v3 = (Host.sort2 S512 0 comparator_i32_i32_d0 (V m c main_v2) (iotaInDim S512 32 0)).2 := by
    unfold V V0
    after_reads_simp <;> rfl
  rw [e, V_v2]
  exact sort2_iota _ k

/-- The word of the table at place `k` is the batch index of the region the sort puts there. -/
theorem V_v10 (c : Dev nD) (k : Fin 512) : V m c main_v10 (ix1 k) = batchW m c (ix1 (ord m c k)) := by
  have e : V m c main_v10 = Host.gather gather_S512_S512x1_S512_n_0_n_n_0_1_1 (V m c main_v2) (broadcastInDim S512x1 ![0] bcast_S512_S512x1_0
      (select (cmpi .slt (V m c main_v3) (broadcastInDim S512 ![] bcast_S_S512 (constantI S_ 32 0#32)))
        (addi (V m c main_v3) (broadcastInDim S512 ![] bcast_S_S512 (constantI S_ 32 512#32))) (V m c main_v3))) := by
    unfold V V0
    after_reads_simp <;> rfl
  rw [e, ← V_v2 m c, ix1_eq_valueIdx, ix1_eq_valueIdx]
  refine Routing.gather_take1 _ rfl rfl rfl rfl _ _ k (ord m c k) ?_ (by decide)
  rw [← ix2_eq_valueIdx]
  pointwise
  rw [V_v3]
  exact wrap_ofNat _ _

/-- The block of features that the pipeline takes at a point: the whole of one image. -/
theorem transform0 (i : grid0.Coords) :
    cc0_transform_0 k0_off1_inb numel1_S1 (tbl m) i = ![(batchW m 0 (ix1 (ord m 0 (i 0)))).toNat, 0, 0, 0] := by
  have hi : (BitVec.ofNat 32 (i 0).val).toNat = (i 0).val := by
    rw [BitVec.toNat_ofNat]; have h : (i 0).val < 512 := (i 0).isLt; omega
  have e : (Rect.unit (s := S512) (k0_off1 i) S1.size (k0_off1_inb i)).emb (Shape.Idx.first (numel1_S1.symm ▸ Nat.one_pos)) = ix1 (i 0) := by
    funext a
    obtain rfl : a = 0 := Subsingleton.elim _ _
    refine Fin.ext ?_
    rw [Rect.emb_apply]
    have h0 : ((Shape.Idx.first (s := (Rect.unit (s := S512) (k0_off1 i) S1.size (k0_off1_inb i)).shape) (numel1_S1.symm ▸ Nat.one_pos) 0 : Fin _) : ℕ) < 1 :=
      Fin.isLt _
    show (BitVec.ofNat 32 (i 0).val).toNat + 1 * _ = (i 0).val
    omega
  have e2 : (tbl m).at 0 (Rect.unit (s := S512) (k0_off1 i) S1.size (k0_off1_inb i)) numel1_S1 = batchW m 0 (ix1 (ord m 0 (i 0))) :=
    (congrArg (V m 0 main_v10) e).trans (V_v10 m 0 (i 0))
  exact congrArg (fun v : BitVec 32 => ![v.toNat, 0, 0, 0]) e2

/-- Batch indices in range put every feature block inside the features. -/
theorem ok_of (h : ∀ j : Fin 512, (batchW m 0 (ix1 j)).toNat < 4) : Ok m := by
  intro i
  have hk := h (ord m 0 (i 0))
  have e := transform0 m i
  revert e
  generalize cc0_transform_0 k0_off1_inb numel1_S1 (tbl m) i = X
  rintro rfl
  revert hk
  generalize (batchW m 0 (ix1 (ord m 0 (i 0)))).toNat = k
  intro hk
  obtain rfl | rfl | rfl | rfl : k = 0 ∨ k = 1 ∨ k = 2 ∨ k = 3 := by omega
  all_goals exact ⟨by decide, Or.inr (by decide)⟩

end Cert.KernelIdeal.Roi

end
-- ==== Proof.Ideal.Run.lean ====
/- The kernel body run once, in the program read over the extended reals: on whole buffers holding a feature block and a region's row it runs to the
   end, leaves both as they were, and leaves in the output buffer what its one store wrote. -/
module

public import proofs.«01_k».proof.Proof.Ideal.Setup

@[expose] public section

set_option maxRecDepth 16384
set_option Elab.async false

noncomputable section

namespace Cert.KernelIdeal.Roi

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- One buffer of the output window, through which its contents are read. -/
abbrev VO : View sig .tc .vmem S1x5x5x512 .f32 := (Memref.whole cc0_stg2_0 : Memref sig .tc .vmem S1x5x5x512 .f32).view

set_option backward.proofsInPublic true in
set_option maxHeartbeats 8000000 in
/-- The body's run, with the pieces it stores in the output buffer. -/
noncomputable def kernelRun (c : Dev nD) (i : grid0.Coords) (arg2 : Memref sig .tc .vmem S1x2x96x24576 .bf16) (harg2 : arg2.IsWhole) (arg3 : Memref sig .tc .vmem S1x1x128 .f32) (harg3 : arg3.IsWhole) (arg4 : Memref sig .tc .vmem S1x5x5x512 .f32) (harg4 : arg4.IsWhole) (T0 : TbBuf (F := F) c tbM)
     (x0 : Vec F S1x2x96x24576 .bf16) (x1 : Vec F S1x1x128 .f32) :
    { out0 : List (View.Piece (Elt F) S1x5x5x512 .f32) //
      ∀ (K : PUnit → sProp 𝕄),
        iprop((arg2.view.loc (c : Thread nD τ) ↦[arg2.view.set]{fullShare} arg2.view.rep x0)
          ∗ (arg3.view.loc (c : Thread nD τ) ↦[arg3.view.set]{fullShare} arg3.view.rep x1)
          ∗ (tbM.view.loc (c : Thread nD τ) ↦{fullShare.right} T0)
          ∗ (∃ d, owns (c : Thread nD τ) arg4 fullShare d)
          ∗ (iprop((arg2.view.loc (c : Thread nD τ) ↦[arg2.view.set]{fullShare} arg2.view.rep x0)
              ∗ (arg3.view.loc (c : Thread nD τ) ↦[arg3.view.set]{fullShare} arg3.view.rep x1)
              ∗ (tbM.view.loc (c : Thread nD τ) ↦{fullShare.right} T0)
              ∗ (∃ f, arg4.view.loc (c : Thread nD τ) ↦[arg4.view.set]{fullShare} arg4.view.writes (Elt F) f out0)) -∗ K ⟨⟩))
          ⊢ wp frame (wpE (defs₀ (F := F)) Variants.none c none) Set.univ (cc0_roialign_ada_max i tbM (Memref.isWhole_whole _) arg2 harg2 arg3 harg3 arg4 harg4) K } :=
  ⟨_, fun K => by
    unfold owns
    rw [cc0_roialign_ada_max_eq_skeleton]; unfold cc0_roialign_ada_max_skel
    iintro ⟨H0, H1, HT0, ⟨%d2, %f2, -, HO2⟩, Hk⟩
    have hT0 : tbM.IsWhole := Memref.isWhole_whole _
    sl_exec! (disch := first | (guard_target = k0_chk1 _; exact chk1 _) | (guard_target = k0_chk2 _ _; exact chk2 _ _))
    sl_step
    iapply Hk
    isplitl [H0]; · iexact H0
    isplitl [H1]; · iexact H1
    isplitl [HT0]; · iexact HT0
    iexists _; iexact HO2⟩

/-- The one piece covers the whole output buffer. -/
theorem cover (c : Dev nD) (i : grid0.Coords) (arg2 : Memref sig .tc .vmem S1x2x96x24576 .bf16) (harg2 : arg2.IsWhole) (arg3 : Memref sig .tc .vmem S1x1x128 .f32) (harg3 : arg3.IsWhole) (arg4 : Memref sig .tc .vmem S1x5x5x512 .f32) (harg4 : arg4.IsWhole) (T0 : TbBuf (F := F) c tbM)
     (x0 : Vec F S1x2x96x24576 .bf16) (x1 : Vec F S1x1x128 .f32) (y : S1x5x5x512.Idx) :
    ∃ pc ∈ (kernelRun c i arg2 harg2 arg3 harg3 arg4 harg4 T0 x0 x1).1, y ∈ pc.1.set :=
  View.cover_of_tiledL (kernelRun c i arg2 harg2 arg3 harg3 arg4 harg4 T0 x0 x1).1 S1x5x5x512.size (by sl_kernel_rfl) y

/-- What the body leaves in the output buffer. -/
def bodyOut (c : Dev nD) (i : grid0.Coords) (arg2 : Memref sig .tc .vmem S1x2x96x24576 .bf16) (harg2 : arg2.IsWhole) (arg3 : Memref sig .tc .vmem S1x1x128 .f32) (harg3 : arg3.IsWhole) (arg4 : Memref sig .tc .vmem S1x5x5x512 .f32) (harg4 : arg4.IsWhole) (T0 : TbBuf (F := F) c tbM)
     (x0 : Vec F S1x2x96x24576 .bf16) (x1 : Vec F S1x1x128 .f32) : Vec F S1x5x5x512 .f32 :=
  VO.read (Elt F) (VO.writes (Elt F) VO.junk (kernelRun c i arg2 harg2 arg3 harg3 arg4 harg4 T0 x0 x1).1)

end Cert.KernelIdeal.Roi

end
-- ==== Proof.Ideal.Launch.lean ====
/- The launch, in the program read over the extended reals: at every grid point the body meets its obligation, so the whole program runs to the end,
   its arguments unchanged, its counters at zero, and the kernel's result array at what the points' bodies leave. -/
module

public import proofs.«01_k».proof.Proof.Ideal.Run
public import Idealize.ShloMosaic.Lib.Claim
public import Idealize.ShloMosaic.Lib.Pipeline.TableIdle

@[expose] public section

set_option maxRecDepth 16384

noncomputable section

namespace Cert.KernelIdeal.Roi

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves in the output buffer at point `t`. -/
def outAt (hO : Ok m) (c : Dev nD) (t : Fin (cfgM m hO).N) : Vec F S1x5x5x512 .f32 :=
  bodyOut c (grid0.coords t) (ms0 m hO t) (hs0 m hO t) (ms1 m hO t) (hs1 m hO t) (ms2 m hO t) (hs2 m hO t) (tbl m 0)
    (iblk m hO c 0 t) (iblk m hO c 1 t)

/-- The proof data of the pipeline: its arrays as the launch finds them; after the body at point `t` the inputs'
    buffers at their blocks and the output's at what the body leaves; the invariant the half of the table. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => outAt m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = outAt m hO c t := by dsimp only [dats]; try rfl

theorem before0 (hO : Ok m) (c : Dev nD) (t : Fin (cfgM m hO).N) (d) : (dats m hO 0 c).before 0 t d = iblk m hO c 0 t :=
  before0_of m hO (dats m hO 0 c) (A_eq m hO c 0) (after0 m hO c) t d
theorem before1 (hO : Ok m) (c : Dev nD) (t : Fin (cfgM m hO).N) (d) : (dats m hO 0 c).before 1 t d = iblk m hO c 1 t :=
  before1_of m hO (dats m hO 0 c) (A_eq m hO c 1) (after1 m hO c) t d

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t))

set_option maxHeartbeats 4000000 in
/-- The body meets its obligation at every point. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1]
  rw [show (dats m hO 0 c).Φ t.succ = (dats m hO 0 c).Φ t.castSucc from rfl,
    show (dats m hO 0 c).owesAt () t.succ = (dats m hO 0 c).owesAt () t.castSucc from rfl,
    after0, after1, after2]
  rw [show (dats m hO 0 c).Φ t.castSucc = iprop(Pipeline.ΦA spec0 c ∗ Pipeline.ΦT pre0 (tbl m) c) from rfl, PhiT_eq]
  iintro ⟨⟨HΦ, HT0⟩, Ho, ⟨%d0, H0⟩, ⟨%d1, H1⟩, ⟨%d2, H2⟩⟩
  iapply ((kernelRun c (grid0.coords t) (ms0 m hO t) (hs0 m hO t) (ms1 m hO t) (hs1 m hO t) (ms2 m hO t) (hs2 m hO t) (tbl m 0) (iblk m hO c 0 t) (iblk m hO c 1 t)).2 _)
  isplitl [H0]; · iapply rep_of_owns; iexact H0
  isplitl [H1]; · iapply rep_of_owns; iexact H1
  isplitl [HT0]; · iexact HT0
  isplitl [H2]; · iexists _; iexact H2
  iintro ⟨H0, H1, HT0, ⟨%e2, H2⟩⟩
  isplitl [HΦ HT0]
  · isplitl [HΦ]
    · iexact HΦ
    iexact HT0
  isplitl [Ho]; · iexact Ho
  isplitl [H0]
  · iapply owns_of_rep; iexact H0
  isplitl [H1]
  · iapply owns_of_rep; iexact H1
  unfold owns; iexists _; isplitr; swap
  · iexact H2
  · ipureintro; unfold outAt bodyOut
    exact View.read_writes_of_cover _ _ _ _ _ (cover c (grid0.coords t) (ms0 m hO t) (hs0 m hO t) (ms1 m hO t) (hs1 m hO t) (ms2 m hO t) (hs2 m hO t) (tbl m 0) (iblk m hO c 0 t) (iblk m hO c 1 t))

/-- The body table's row at point `t` is the body on its buffers. -/
theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

set_option backward.isDefEq.respectTransparency.types false in
set_option maxHeartbeats 4000000 in
/-- The whole program's run: every array of the pipeline and every other buffer at named contents, every counter zero. -/
theorem run_main (hO : Ok m) : θ_run defs (onTc (τ := τ) (main (F := F))) (s₀ m ρ) (fun r =>
      Pipeline.FramePost (Pipeline.pin pcfgs fun _ => adm m hO) (dats m hO) 0
        (Pipeline.afterTail pcfgs (fun _ => adm m hO) (dats m hO) 0 (V0 m) [hostOps1, hostOps1_1]) r ∧ r.2.sem = fun _ => 0) :=
  Pipeline.θ_run_frameP_around (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1, hostOps1_1]) (hsub := sfx_sub) (hfresh := sfx_fresh) (hkeep := sfx_keeps)
    (hmain := hmain m Variants.none) (hA := A_eq m hO) (hpf := V_pre m) (hΦ := fun _ _ => rfl)

/-- The arguments end as launched and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).2 main_arg0 (by decide : main_arg0 ∈ Pipeline.restRefs sig spec0)).trans (W_main_arg0 m hO _ c),
      ((h.1 c).2 main_arg1 (by decide : main_arg1 ∈ Pipeline.restRefs sig spec0)).trans (W_main_arg1 m hO _ c)⟩, h.2⟩) (run_main m ρ hO)

end Cert.KernelIdeal.Roi

end
-- ==== Proof.Inputs.lean ====
/- What the condition on the batch indices says, element by element. -/
module

public import proofs.«01_k».proof.Proof.Gen.Pre_batch_index_in_range
public import Idealize.ShloMosaic.Lib.Pointwise
public import Idealize.ShloMosaic.Lib.WordArith
public import Idealize.ShloMosaic.Lib.Tactic.WordOmega
public import Idealize.ShloMosaic.Lib.StableHlo.Predicate

@[expose] public section

noncomputable section

namespace Cert.Roi

open Idealize.ShloMosaic

variable {F : FTy → Type} [FloatOps F]

/-- A word that is at least zero and below four, read signed, is below four read unsigned. -/
theorem lt_four_of (w : BitVec 32) (h : IntOp.andi (IntOp.cmpi .sge w 0#32) (IntOp.cmpi .slt w 4#32) = 1#1) : w.toNat < 4 := by
  word_omega

/-- The condition: every batch index is one of the four images. -/
theorem batch_lt_of (a0 : FVec F ⟨4, ![4, 512, 96, 96]⟩ .f32) (a1 : FVec F ⟨2, ![512, 5]⟩ .f32)
    (h : Pre_batch_index_in_range.fn (F := F) a0 a1 = fun _ => 1#1) (j : Fin 512) :
    (FloatOps.fptosi (F := F) 32 (a1 (ix2 j 0))).toNat < 4 := by
  have e := congrFun h (ix1 j)
  unfold Pre_batch_index_in_range.fn at e
  pointwise at e
  exact lt_four_of _ e

end Cert.Roi

end
-- ==== Proof.Frames.lean ====
/- The frames: each program runs, leaves its arguments unchanged, and ends with every semaphore at zero. -/
module

public import proofs.«01_k».proof.Defs
public import proofs.«01_k».proof.Proof.Gen.ReferenceIdeal
public import proofs.«01_k».proof.Proof.Gen.ReferenceIdeal.Run
public import proofs.«01_k».proof.Proof.Ideal.Table
public import proofs.«01_k».proof.Proof.Ideal.Launch
public import proofs.«01_k».proof.Proof.Device.Table
public import proofs.«01_k».proof.Proof.Device.Launch
public import proofs.«01_k».proof.Proof.Inputs
public import Idealize.ShloMosaic.Lib.StableHlo.RunHlo
public import Idealize.ShloMosaic.Lib.Claim

@[expose] public section

noncomputable section

namespace Cert.Proof

open Idealize.ShloMosaic Idealize.ShloMosaic.TcCoe Idealize.SL.Sem Cert.Roi

/-- The compiled kernel, at batch indices in range. -/
theorem kernel_frame : quiescent_Kernel := fun m g h =>
  Cert.Kernel.Roi.frame m g (Cert.Kernel.Roi.ok_of m fun j => batch_lt_of _ _ (h 0) j)

/-- The kernel over the extended reals, at batch indices in range. -/
theorem kernelIdeal_frame : quiescent_KernelIdeal := fun m g h =>
  Cert.KernelIdeal.Roi.frame m g (Cert.KernelIdeal.Roi.ok_of m fun j => batch_lt_of _ _ (h 0) j)

/-- The reference, which declares no semaphore. -/
theorem reference_frame : quiescent_ReferenceIdeal := fun m g _ =>
  (θ_run Cert.ReferenceIdeal.defs _ _).mono (fun r h => ⟨fun c => (h c).2, sem_eq_zero_of_no_sems (by decide) r.2⟩)
    (Cert.ReferenceIdeal.Value.run m g)

end Cert.Proof

end
-- ==== Proof.Axis.lean ====
/- One axis of the sampling, over the extended reals: three sample points about a centre, the cell each falls in, its
   fraction, and the weights with which the rows of a 48-row window combine to the sum of the three interpolated
   samples. -/
module

public import Idealize.ShloMosaic.Lib.IdealHost
public import proofs.«01_k».proof.Proof.WindowWord
public import Mathlib.Tactic.Ring
public import Mathlib.Tactic.Linarith
public import Mathlib.Tactic.NormNum
public import Mathlib.Tactic.FinCases
public import Mathlib.Tactic.FieldSimp
public import Mathlib.Tactic.Positivity
public import Mathlib.Data.EReal.Operations
public import Mathlib.Data.EReal.Inv

@[expose] public section

noncomputable section

namespace Cert.Roi

open Idealize.ShloMosaic
open scoped BigOperators

/-! ## The constants -/

theorem bits_eighth : Ideal.ofBits .f32 0x3E000000#32 = ((1 / 8 : ℝ) : EReal) := by
  simp [Ideal.ofBits, Ideal.ieee, -EReal.coe_mul]; norm_num
theorem bits_3 : Ideal.ofBits .f32 0x40400000#32 = ((3 : ℝ) : EReal) := by
  simp [Ideal.ofBits, Ideal.ieee, -EReal.coe_mul]; norm_num
theorem bits_10 : Ideal.ofBits .f32 0x41200000#32 = ((10 : ℝ) : EReal) := by
  simp [Ideal.ofBits, Ideal.ieee, -EReal.coe_mul]; norm_num
theorem bits_11 : Ideal.ofBits .f32 0x41300000#32 = ((11 : ℝ) : EReal) := by
  simp [Ideal.ofBits, Ideal.ieee, -EReal.coe_mul]; norm_num
theorem bits_94 : Ideal.ofBits .f32 0x42BC0000#32 = ((94 : ℝ) : EReal) := by
  simp [Ideal.ofBits, Ideal.ieee, -EReal.coe_mul]; norm_num
theorem bits_96 : Ideal.ofBits .f32 0x42C00000#32 = ((96 : ℝ) : EReal) := by
  simp [Ideal.ofBits, Ideal.ieee, -EReal.coe_mul]; norm_num
theorem bits_288 : Ideal.ofBits .f32 0x43900000#32 = ((288 : ℝ) : EReal) := by
  simp [Ideal.ofBits, Ideal.ieee, -EReal.coe_mul]; norm_num
theorem bits_neg_one : Ideal.ofBits .f32 0xBF800000#32 = ((-1 : ℝ) : EReal) := by
  simp [Ideal.ofBits, Ideal.ieee, -EReal.coe_mul, -EReal.coe_neg]; norm_num
theorem bits_bot : Ideal.ofBits .f32 0xFF800000#32 = ⊥ := by
  simp [Ideal.ofBits, Ideal.ieee]
theorem bits_top : Ideal.ofBits .f32 0x7F800000#32 = ⊤ := by
  simp [Ideal.ofBits, Ideal.ieee]

/-! ## One sample point -/

/-- Whether a sample coordinate lies on the feature map's axis. -/
def Inside (c : EReal) : Prop := 0 ≤ c ∧ c < ((96 : ℝ) : EReal)

instance (c : EReal) : Decidable (Inside c) := Classical.propDecidable _

/-- One inside the map, zero outside. -/
def ins (c : EReal) : ℝ := if Inside c then 1 else 0

/-- The lower of the two places a coordinate is interpolated between, as a whole number. -/
def cell (c : EReal) : ℕ := (min 94 (max 0 ⌊c.toReal⌋)).toNat

/-- How far the coordinate lies above that place. -/
def frac (c : EReal) : ℝ := c.toReal - cell c

/-- The lower place as the programs compute it. -/
def cellE (c : EReal) : EReal := min ((94 : ℝ) : EReal) (max 0 (Ideal.liftRound Int.floor c))

theorem Inside.real {c : EReal} (h : Inside c) : ∃ x : ℝ, c = (x : EReal) ∧ 0 ≤ x ∧ x < 96 := by
  obtain ⟨h0, h1⟩ := h
  induction c using EReal.rec with
  | bot => exact absurd h0 (by simp)
  | top => exact absurd h1 (by simp)
  | coe x => exact ⟨x, rfl, by exact_mod_cast h0, by exact_mod_cast h1⟩

theorem cell_le (c : EReal) : cell c ≤ 94 := by unfold cell; omega

theorem cell_coe (x : ℝ) : ((cell (x : EReal) : ℕ) : ℤ) = min 94 (max 0 ⌊x⌋) := by
  unfold cell; rw [EReal.toReal_coe]; omega

theorem cellE_coe (x : ℝ) : cellE (x : EReal) = ((cell (x : EReal) : ℝ) : EReal) := by
  unfold cellE
  have e : ((cell (x : EReal) : ℕ) : ℝ) = min 94 (max 0 ((⌊x⌋ : ℤ) : ℝ)) := by
    have h := cell_coe x
    have h2 : (((cell (x : EReal) : ℕ) : ℤ) : ℝ) = ((min 94 (max 0 ⌊x⌋) : ℤ) : ℝ) := by rw [h]
    rw [Int.cast_natCast] at h2
    rw [h2]; push_cast; rfl
  rw [e]
  show min ((94 : ℝ) : EReal) (max 0 (((⌊x⌋ : ℤ) : ℝ) : EReal)) = _
  rw [← EReal.coe_zero, ← EReal.coe_strictMono.monotone.map_max, ← EReal.coe_strictMono.monotone.map_min]

theorem cellE_inside {c : EReal} (h : Inside c) : cellE c = ((cell c : ℝ) : EReal) := by
  obtain ⟨x, rfl, -, -⟩ := h.real
  exact cellE_coe x

theorem frac_inside {c : EReal} (h : Inside c) : c - cellE c = ((frac c : ℝ) : EReal) := by
  obtain ⟨x, rfl, -, -⟩ := h.real
  rw [cellE_coe, ← EReal.coe_sub]; rfl

/-- The indicator a comparison is turned into. -/
theorem sitofp_ofBool (P : Prop) [Decidable P] :
    (FloatOps.sitofp (F := Ideal) .f32 (BitVec.setWidth 32 (BitVec.ofBool (decide P))) : EReal) = ((if P then 1 else 0 : ℝ) : EReal) := by
  show ((((BitVec.setWidth 32 (BitVec.ofBool (decide P))).toInt : ℤ) : ℝ) : EReal) = _
  by_cases h : P
  · rw [decide_eq_true h, if_pos h, show (BitVec.setWidth 32 (BitVec.ofBool true)).toInt = 1 by decide]; simp
  · rw [decide_eq_false h, if_neg h, show (BitVec.setWidth 32 (BitVec.ofBool false)).toInt = 0 by decide]; simp

theorem andi_ofBool (P Q : Prop) [Decidable P] [Decidable Q] :
    IntOp.andi (BitVec.ofBool (decide P)) (BitVec.ofBool (decide Q)) = BitVec.ofBool (decide (P ∧ Q)) := by
  by_cases hP : P <;> by_cases hQ : Q <;> simp [hP, hQ, IntOp.andi]

theorem sitofp_inside (c : EReal) :
    (FloatOps.sitofp (F := Ideal) .f32 (BitVec.setWidth 32
      (IntOp.andi (BitVec.ofBool (decide (0 ≤ c))) (BitVec.ofBool (decide (c < ((96 : ℝ) : EReal)))))) : EReal) = ((ins c : ℝ) : EReal) := by
  rw [andi_ofBool, sitofp_ofBool]
  unfold ins
  by_cases h : Inside c
  · rw [if_pos h, if_pos (show 0 ≤ c ∧ c < ((96 : ℝ) : EReal) from h)]
  · rw [if_neg h, if_neg (show ¬(0 ≤ c ∧ c < ((96 : ℝ) : EReal)) from h)]

/-- The weight one sample gives to the window's row `r`, for a window whose first row is `y0`. -/
def tap (y0 : ℕ) (c : EReal) (r : ℕ) : ℝ :=
  ins c * ((if r + y0 = cell c then 1 else 0) * (1 - frac c) + (if r + y0 = cell c + 1 then 1 else 0) * frac c)

/-- That weight as the kernel computes it. -/
theorem tap_eq (y0 r : ℕ) (c rE y0E : EReal) (hr : rE = ((r : ℝ) : EReal)) (hy : y0E = ((y0 : ℝ) : EReal)) :
    ((ins c : ℝ) : EReal) *
      ((FloatOps.sitofp (F := Ideal) .f32 (BitVec.setWidth 32 (BitVec.ofBool (decide (rE = cellE c - y0E)))) : EReal) * (1 - (c - cellE c))
        + (FloatOps.sitofp (F := Ideal) .f32 (BitVec.setWidth 32 (BitVec.ofBool (decide (rE = cellE c - y0E + 1)))) : EReal) * (c - cellE c))
      = ((tap y0 c r : ℝ) : EReal) := by
  subst hr hy
  rw [sitofp_ofBool, sitofp_ofBool]
  unfold tap
  by_cases h : Inside c
  · rw [frac_inside h, cellE_inside h]
    have e1 : (((r : ℝ) : EReal) = ((cell c : ℝ) : EReal) - ((y0 : ℝ) : EReal)) ↔ r + y0 = cell c := by
      rw [← EReal.coe_sub, EReal.coe_eq_coe_iff, eq_sub_iff_add_eq]; exact_mod_cast Iff.rfl
    have e2 : (((r : ℝ) : EReal) = ((cell c : ℝ) : EReal) - ((y0 : ℝ) : EReal) + 1) ↔ r + y0 = cell c + 1 := by
      rw [← EReal.coe_sub, ← EReal.coe_one, ← EReal.coe_add, EReal.coe_eq_coe_iff, sub_add_eq_add_sub, eq_sub_iff_add_eq]
      exact_mod_cast Iff.rfl
    simp only [e1, e2]
    rw [← EReal.coe_one, ← EReal.coe_sub, ← EReal.coe_mul, ← EReal.coe_mul, ← EReal.coe_add, ← EReal.coe_mul]
  · have : ins c = 0 := if_neg h
    rw [this]; simp

/-! ## Three samples about a centre -/

/-- The three sample points about `h`. -/
def nb (h : EReal) : Fin 3 → EReal := ![h + ((-1 : ℝ) : EReal), h, h + ((1 : ℝ) : EReal)]

/-- How many of them lie inside. -/
def num (h : EReal) : ℝ := ∑ s, ins (nb h s)

/-- The weight the three samples give together to row `r`, before the division by their number. -/
def taps (y0 : ℕ) (h : EReal) (r : ℕ) : ℝ := ∑ s, tap y0 (nb h s) r

/-- The scale of a centre: one over the number of samples inside, zero for a centre outside. -/
def scl (h : EReal) : ℝ := ins h / max (num h) 1

/-- The weight of row `r`. -/
def wgt (y0 : ℕ) (h : EReal) (r : ℕ) : ℝ := taps y0 h r * scl h

theorem ins_nonneg (c : EReal) : 0 ≤ ins c := by unfold ins; split <;> norm_num

/-- The scale as the kernel computes it. -/
theorem scl_eq (h : EReal) :
    Ideal.div ((ins h : ℝ) : EReal) (max ((num h : ℝ) : EReal) 1) = ((scl h : ℝ) : EReal) := by
  have h1 : (0 : ℝ) < max (num h) 1 := lt_of_lt_of_le one_pos (le_max_right _ _)
  rw [← EReal.coe_one, ← EReal.coe_strictMono.monotone.map_max, Ideal.div_coe (ne_of_gt h1), ← EReal.coe_mul]
  unfold scl; rw [mul_one_div]

/-- Every sample inside the map falls within the 48 rows of the window at `y0`. -/
def Reach (y0 : ℕ) (h : EReal) : Prop := ∀ s, Inside (nb h s) → y0 ≤ cell (nb h s) ∧ cell (nb h s) + 1 ≤ y0 + 47

/-- A sample interpolated between its two places. -/
def lerp (c : EReal) (g : ℕ → ℝ) : ℝ := g (cell c) * (1 - frac c) + g (cell c + 1) * frac c

theorem sum_tap (y0 : ℕ) (c : EReal) (g : ℕ → ℝ) (hc : Inside c → y0 ≤ cell c ∧ cell c + 1 ≤ y0 + 47) :
    ∑ r : Fin 48, tap y0 c r * g (r + y0) = ins c * lerp c g := by
  by_cases h : Inside c
  · obtain ⟨h1, h2⟩ := hc h
    have e1 : ∑ r : Fin 48, (if (r : ℕ) + y0 = cell c then (1 : ℝ) else 0) * g (r + y0) = g (cell c) := by
      rw [Finset.sum_eq_single (⟨cell c - y0, by omega⟩ : Fin 48)]
      · rw [if_pos (by show cell c - y0 + y0 = _; omega), one_mul]; congr 1; show cell c - y0 + y0 = _; omega
      · intro b _ hb
        rw [if_neg, zero_mul]
        intro hh; apply hb; apply Fin.ext; show (b : ℕ) = cell c - y0; omega
      · intro hn; exact absurd (Finset.mem_univ _) hn
    have e2 : ∑ r : Fin 48, (if (r : ℕ) + y0 = cell c + 1 then (1 : ℝ) else 0) * g (r + y0) = g (cell c + 1) := by
      rw [Finset.sum_eq_single (⟨cell c + 1 - y0, by omega⟩ : Fin 48)]
      · rw [if_pos (by show cell c + 1 - y0 + y0 = _; omega), one_mul]; congr 1; show cell c + 1 - y0 + y0 = _; omega
      · intro b _ hb
        rw [if_neg, zero_mul]
        intro hh; apply hb; apply Fin.ext; show (b : ℕ) = cell c + 1 - y0; omega
      · intro hn; exact absurd (Finset.mem_univ _) hn
    unfold lerp
    rw [← e1, ← e2, Finset.sum_mul, Finset.sum_mul, ← Finset.sum_add_distrib, Finset.mul_sum]
    refine Finset.sum_congr rfl fun r _ => ?_
    unfold tap; ring
  · have : ins c = 0 := if_neg h
    simp [tap, this]

/-- The window's rows combine to the scaled sum of the three samples. -/
theorem sum_wgt (y0 : ℕ) (h : EReal) (g : ℕ → ℝ) (hr : Reach y0 h) :
    ∑ r : Fin 48, wgt y0 h r * g (r + y0) = scl h * ∑ s, ins (nb h s) * lerp (nb h s) g := by
  have e : ∀ r : Fin 48, wgt y0 h r * g (r + y0) = scl h * ∑ s, tap y0 (nb h s) r * g (r + y0) := by
    intro r; unfold wgt taps; rw [Finset.mul_sum, Finset.sum_mul, Finset.sum_mul]
    refine Finset.sum_congr rfl fun s _ => ?_
    ring
  rw [Finset.sum_congr rfl fun r _ => e r, ← Finset.mul_sum, Finset.sum_comm]
  congr 1
  exact Finset.sum_congr rfl fun s _ => sum_tap y0 (nb h s) g (hr s)

/-! ## Both axes -/

/-- A sample interpolated between four places, in the order the reference adds them. -/
def bilin (ch cw : EReal) (f : ℕ → ℕ → ℝ) : ℝ :=
  f (cell ch) (cell cw) * ((1 - frac ch) * (1 - frac cw)) + f (cell ch) (cell cw + 1) * ((1 - frac ch) * frac cw)
    + f (cell ch + 1) (cell cw) * (frac ch * (1 - frac cw)) + f (cell ch + 1) (cell cw + 1) * (frac ch * frac cw)

theorem lerp_lerp (ch cw : EReal) (f : ℕ → ℕ → ℝ) : lerp cw (fun x => lerp ch fun y => f y x) = bilin ch cw f := by
  unfold lerp bilin; ring

/-- The mean of the nine samples about a centre, zero for a centre outside. -/
def mean (h w : EReal) (f : ℕ → ℕ → ℝ) : ℝ :=
  ins h * ins w * ((∑ s, ∑ t, ins (nb h s) * ins (nb w t) * bilin (nb h s) (nb w t) f) / max (num h * num w) 1)

theorem num_cases (h : EReal) : num h = 0 ∨ 1 ≤ num h := by
  unfold num
  rw [Fin.sum_univ_three]
  unfold ins
  split <;> split <;> split <;> norm_num

theorem ins_eq_zero_of_num {h : EReal} (hn : num h = 0) (s : Fin 3) : ins (nb h s) = 0 := by
  have := (Finset.sum_eq_zero_iff_of_nonneg (s := Finset.univ) (f := fun s => ins (nb h s)) fun i _ => ins_nonneg _).mp hn
  exact this s (Finset.mem_univ _)

theorem scl_mul_scl (h w : EReal) (hh : num h ≠ 0) (hw : num w ≠ 0) :
    scl h * scl w = ins h * ins w / max (num h * num w) 1 := by
  have h1 := (num_cases h).resolve_left hh
  have w1 := (num_cases w).resolve_left hw
  unfold scl
  rw [max_eq_left h1, max_eq_left w1, max_eq_left (one_le_mul_of_one_le_of_one_le h1 w1), div_mul_div_comm]

/-- The two axes' weights, one after the other, give the mean of the nine samples. -/
theorem sum_sum_wgt (y0 x0 : ℕ) (h w : EReal) (f : ℕ → ℕ → ℝ) (hh : Reach y0 h) (hw : Reach x0 w) :
    ∑ x : Fin 48, wgt x0 w x * ∑ y : Fin 48, wgt y0 h y * f (y + y0) (x + x0) = mean h w f := by
  have e : ∀ x : Fin 48, ∑ y : Fin 48, wgt y0 h y * f (y + y0) (x + x0)
      = (fun x' => scl h * ∑ s, ins (nb h s) * lerp (nb h s) fun y => f y x') (x + x0) :=
    fun x => sum_wgt y0 h (fun y => f y (x + x0)) hh
  refine ((Finset.sum_congr rfl fun x _ => by rw [e x]).trans
    (sum_wgt x0 w (fun x' => scl h * ∑ s, ins (nb h s) * lerp (nb h s) fun y => f y x') hw)).trans ?_
  have e2 : ∀ t, ins (nb w t) * lerp (nb w t) (fun x' => scl h * ∑ s, ins (nb h s) * lerp (nb h s) fun y => f y x')
      = scl h * ∑ s, ins (nb h s) * ins (nb w t) * bilin (nb h s) (nb w t) f := by
    intro t
    rw [Fin.sum_univ_three, ← lerp_lerp, ← lerp_lerp, ← lerp_lerp]
    show ins (nb w t) * (_ * _ + _ * _) = _
    simp only [Fin.sum_univ_three]
    unfold lerp; ring
  rw [Finset.sum_congr rfl fun t _ => e2 t, ← Finset.mul_sum, Finset.sum_comm, ← mul_assoc]
  unfold mean
  by_cases zh : num h = 0
  · simp [ins_eq_zero_of_num zh]
  by_cases zw : num w = 0
  · simp [ins_eq_zero_of_num zw]
  rw [mul_comm (scl w), scl_mul_scl h w zh zw]; ring

theorem num_mul_num (h w : EReal) : num h * num w = ∑ s, ∑ t, ins (nb h s) * ins (nb w t) := by
  unfold num; rw [Finset.sum_mul_sum]

end Cert.Roi
-- ==== Proof.Fit.lean ====
/- What the condition of the value claim says, element by element: batch indices in range, regions at most 288 wide and
   high, finite features. -/
module

public import proofs.«01_k».proof.Proof.Gen.Pre_rois_fit_the_window
public import proofs.«01_k».proof.Proof.Inputs
public import proofs.«01_k».proof.Proof.Axis

@[expose] public section

noncomputable section

namespace Cert.Roi

open Idealize.ShloMosaic

/-- Both of two conditions. -/
theorem andi_one {a b : BitVec 1} (h : IntOp.andi a b = 1#1) : a = 1#1 ∧ b = 1#1 := by
  have : ∀ a b : BitVec 1, a &&& b = 1#1 → a = 1#1 ∧ b = 1#1 := by decide
  exact this a b h

/-- A comparison that answers yes. -/
theorem ofBool_one {p : Prop} [Decidable p] (h : BitVec.ofBool (decide p) = 1#1) : p := by
  by_contra hn
  rw [decide_eq_false hn] at h
  exact absurd h (by decide)

variable {a0 : FVec Ideal ⟨4, ![4, 512, 96, 96]⟩ .f32} {a1 : FVec Ideal ⟨2, ![512, 5]⟩ .f32}

/-- The condition, read at an image, a place, a row and a column. -/
theorem fit_of (h : Pre_rois_fit_the_window.fn (F := Ideal) a0 a1 = fun _ => 1#1) (n : Fin 4) (j : Fin 512) (y x : Fin 96) :
    ((⊥ : EReal) < a0 (ix4 n j y x) ∧ a0 (ix4 n j y x) < (⊤ : EReal)) ∧ (Ideal.fptosi 32 (a1 (ix2 j 0))).toNat < 4
      ∧ (a1 (ix2 j 3) : EReal) - a1 (ix2 j 1) ≤ ((288 : ℝ) : EReal) ∧ (a1 (ix2 j 4) : EReal) - a1 (ix2 j 2) ≤ ((288 : ℝ) : EReal) := by
  have e := congrFun h (ix4 n j y x)
  unfold Pre_rois_fit_the_window.fn Pre_rois_fit_the_window.fn_part1 at e
  pointwise at e
  obtain ⟨ef, e⟩ := andi_one e
  obtain ⟨e1, e2⟩ := andi_one ef
  obtain ⟨e, e4⟩ := andi_one e
  obtain ⟨eb, e3⟩ := andi_one e
  refine ⟨⟨?_, ?_⟩, lt_four_of _ eb, ?_, ?_⟩
  · have := ofBool_one e1; rwa [bits_bot] at this
  · have := ofBool_one e2; rwa [bits_top] at this
  · have := ofBool_one e3; rwa [bits_288] at this
  · have := ofBool_one e4; rwa [bits_288] at this

/-- The real value of a feature, zero outside the map. -/
def feature (a0 : FVec Ideal ⟨4, ![4, 512, 96, 96]⟩ .f32) (n : Fin 4) (c : Fin 512) (y x : ℕ) : ℝ :=
  if h : y < 96 ∧ x < 96 then (a0 (ix4 n c ⟨y, h.1⟩ ⟨x, h.2⟩) : EReal).toReal else 0

/-- Every feature is that real. -/
theorem feature_eq (h : Pre_rois_fit_the_window.fn (F := Ideal) a0 a1 = fun _ => 1#1) (n : Fin 4) (c : Fin 512) (y x : Fin 96) :
    (a0 (ix4 n c y x) : EReal) = ((feature a0 n c y x : ℝ) : EReal) := by
  obtain ⟨⟨hb, ht⟩, -⟩ := fit_of h n c y x
  unfold feature
  rw [dif_pos ⟨y.isLt, x.isLt⟩]
  exact (EReal.coe_toReal ht.ne hb.ne').symm

/-- The image that region `j` names. -/
def image (h : Pre_rois_fit_the_window.fn (F := Ideal) a0 a1 = fun _ => 1#1) (j : Fin 512) : Fin 4 :=
  ⟨(Ideal.fptosi 32 (a1 (ix2 j 0))).toNat, (fit_of h 0 j 0 0).2.1⟩

end Cert.Roi

end
-- ==== Proof.Ideal.Host.lean ====
/- The arrays that the host lines before the launch hand to it, read at an index: the regions in the order of the sort,
   the features with the channels in two groups, and the regions again in rows of 128. -/
module

public import proofs.«01_k».proof.Proof.Ideal.Table
public import Idealize.ShloMosaic.Lib.Pipeline.ValueKit

@[expose] public section

set_option maxRecDepth 16384

noncomputable section

namespace Cert.KernelIdeal.Roi

open Cert.KernelIdeal Cert.KernelIdeal.Gen Cert.Roi
open Idealize.ShloMosaic Idealize.ShloMosaic.TcCoe Idealize.ShloMosaic.Tactic
open Idealize.SL.Sem

variable {F : FTy → Type} [FloatOps F]
variable (m : (ℓ : Loc nD τ sig) → Buf (Elt F) ℓ)

/-- Row `k` of the sorted regions is the region that the sort puts there. -/
theorem V_v17 (c : Dev nD) (k : Fin 512) (i : Fin 5) :
    V m c main_v17 (ix2 k i) = m ((c : Thread nD τ).loc main_arg1) (ix2 (ord m c k) i) := by
  have e : V m c main_v17 = Host.gather gather_S512x5_S512x1_S512x5_1_0_n_n_0_1_15 (V m c main_arg1) (broadcastInDim S512x1 ![0] bcast_S512_S512x1_0
      (select (cmpi .slt (V m c main_v3) (broadcastInDim S512 ![] bcast_S_S512 (constantI S_ 32 0#32)))
        (addi (V m c main_v3) (broadcastInDim S512 ![] bcast_S_S512 (constantI S_ 32 512#32))) (V m c main_v3))) := by
    unfold V V0
    after_reads_simp <;> rfl
  rw [e, V_main_arg1, ix2_eq_valueIdx, ix2_eq_valueIdx]
  refine Routing.gather_row (nb := 512) (B := 5) (n := 512) gather_S512x5_S512x1_S512x5_1_0_n_n_0_1_15 rfl rfl rfl rfl rfl _ _ k i (ord m c k) ?_ (by decide)
  rw [← ix2_eq_valueIdx]
  pointwise
  rw [V_v3]
  exact wrap_ofNat _ _

/-- The features as the launch finds them: channel `256 b + cc` at place `256 x + cc` of group `b`'s row `y`. -/
theorem V_v22 (mI : (ℓ : Loc nD τ sig) → Buf (Elt Ideal) ℓ) (c : Dev nD) (n : Fin 4) (b : Fin 2) (y x : Fin 96) (cc : Fin 256) :
    V mI c main_v22 (ix4 n b y ⟨x.val * 256 + cc.val, by omega⟩)
      = mI ((c : Thread nD τ).loc main_arg0) (ix4 n ⟨b.val * 256 + cc.val, by omega⟩ y x) := by
  have e : V mI c main_v22 = truncf (F := Ideal) .bf16 (shapeCast S4x2x96x24576 (transpose S4x2x96x96x256 [0, 3, 1, 2, 4]
      (shapeCast S4x96x96x2x256 (transpose S4x96x96x512 [0, 2, 3, 1] (V mI c main_arg0) transposes_S4x512x96x96_S4x96x96x512_0_2_3_1)
        shapeCasts_S4x96x96x512_S4x96x96x2x256) transposes_S4x96x96x2x256_S4x2x96x96x256_0_3_1_2_4) shapeCasts_S4x2x96x96x256_S4x2x96x24576) bitsLt_bf16_f32 := by
    unfold V V0
    after_reads_simp <;> rfl
  rw [e, V_main_arg0]
  generalize mI _ = X
  pointwise

/-- Where the scatter of the sorted regions into rows of 128 puts an entry. -/
theorem lands (idx : IVec S2 32) (h0 : ∀ k, idx k = 0#32) (j : Fin 512) (i : Fin 5) :
    scatter_S512x1x128_S2_S512x5_01_1_12_0.resultIdx? (ix2 j i) idx = some (ix3 j 0 ⟨i.val, by omega⟩) := by
  have hs : ∀ a, scatter_S512x1x128_S2_S512x5_01_1_12_0.start (ix2 j i) idx a = 0 := by
    intro a
    unfold ScatterDims.start
    split
    · rw [h0]; rfl
    · rfl
  have hw : ∀ a, (scatter_S512x1x128_S2_S512x5_01_1_12_0.window (ix2 j i) a : ℕ) = ((ix3 j 0 ⟨i.val, by omega⟩ : S512x1x128.Idx) a).val := by
    intro a
    match a with
    | ⟨0, _⟩ => rfl
    | ⟨1, _⟩ => rfl
    | ⟨2, _⟩ => rfl
  unfold ScatterDims.resultIdx?
  rw [dif_pos fun a => by
    rw [hs, hw]
    have : ((ix3 j 0 ⟨i.val, by omega⟩ : S512x1x128.Idx) a).val < S512x1x128.size a := ((ix3 j 0 ⟨i.val, by omega⟩ : S512x1x128.Idx) a).isLt
    constructor <;> omega]
  refine congrArg some (funext fun a => Fin.ext ?_)
  show (_ : ℤ).toNat = _
  rw [hs, hw]
  omega

/-- The first five entries of row `k` handed to the launch are the region that the sort puts at `k`. -/
theorem V_v27 (c : Dev nD) (k : Fin 512) (i : Fin 5) :
    V m c main_v27 (ix3 k 0 ⟨i.val, by omega⟩) = m ((c : Thread nD τ).loc main_arg1) (ix2 (ord m c k) i) := by
  have e : V m c main_v27 = Host.scatter scatter_S512x1x128_S2_S512x5_01_1_12_0 (fun _ b => b) (V m c main_v23)
      (concatenate S2 0 [⟨S1, broadcastInDim S1 ![] bcast_S_S1 (constantI S_ 32 0#32)⟩, ⟨S1, broadcastInDim S1 ![] bcast_S_S1 (constantI S_ 32 0#32)⟩] concatenates_S1_S1_S2_d0)
      (V m c main_v17) := by
    unfold V V0
    after_reads_simp <;> rfl
  have hz : ∀ k, (concatenate S2 0 [⟨S1, broadcastInDim S1 ![] bcast_S_S1 (constantI S_ 32 0#32)⟩, ⟨S1, broadcastInDim S1 ![] bcast_S_S1 (constantI S_ 32 0#32)⟩] concatenates_S1_S1_S2_d0 : IVec S2 32) k = 0#32 := by
    intro k
    concat_tiles k h <;> pointwise
  rw [e, ← V_v17 m c k i]
  refine Routing.scatter_set_hit _ _ _ _ _ _ (fun u hu => ?_) (ix2 k i) (lands _ hz k i)
  obtain ⟨j, e', rfl⟩ : ∃ (j : Fin 512) (e' : Fin 5), u = ix2 j e' := ⟨u 0, u 1, by funext a; fin_cases a <;> rfl⟩
  rw [lands _ hz] at hu
  have h := Option.some.inj hu
  have h0 : j = k := congrFun h 0
  have h2' : (⟨e'.val, by omega⟩ : Fin 128) = ⟨i.val, by omega⟩ := congrFun h 2
  have h2 : e'.val = i.val := Fin.mk.inj h2'
  rw [h0, Fin.ext h2]

end Cert.KernelIdeal.Roi

end
-- ==== Proof.Reach.lean ====
/- Where a roi of bounded extent puts its samples: the bin is a real number at most 3.6, the stride is one, and every
   sample inside the map falls in the 48 rows from the window's corner. -/
module

public import proofs.«01_k».proof.Proof.Axis

@[expose] public section

noncomputable section

namespace Cert.Roi

open Idealize.ShloMosaic

/-- A whole number's word converts back to the number. -/
theorem sitofp_ofNat (n : ℕ) (h : n < 2147483648) :
    (FloatOps.sitofp (F := Ideal) .f32 (BitVec.ofNat 32 n) : EReal) = ((n : ℝ) : EReal) := by
  show ((((BitVec.ofNat 32 n).toInt : ℤ) : ℝ) : EReal) = _
  have : (BitVec.ofNat 32 n).toInt = (n : ℤ) := by
    rw [BitVec.toInt_eq_toNat_of_lt] <;> rw [BitVec.toNat_ofNat, Nat.mod_eq_of_lt (by omega)]
    omega
  rw [this]; simp

/-- The bin of a roi whose extent is at most 288. -/
def bin (a1 a2 : EReal) : EReal :=
  Ideal.div (max (a2 * ((1 / 8 : ℝ) : EReal) - a1 * ((1 / 8 : ℝ) : EReal)) 0) ((10 : ℝ) : EReal)

theorem bin_real (a1 a2 : EReal) (h : a2 - a1 ≤ ((288 : ℝ) : EReal)) :
    ∃ b : ℝ, 0 ≤ b ∧ b ≤ 18 / 5 ∧ bin a1 a2 = (b : EReal) := by
  have key : ∃ d : ℝ, 0 ≤ d ∧ d ≤ 36 ∧ max (a2 * ((1 / 8 : ℝ) : EReal) - a1 * ((1 / 8 : ℝ) : EReal)) 0 = (d : EReal) := by
    have p8 : (0 : ℝ) < 1 / 8 := by norm_num
    induction a1 using EReal.rec with
    | bot =>
      induction a2 using EReal.rec with
      | bot => exact ⟨0, le_rfl, by norm_num, by rw [EReal.bot_mul_coe_of_pos p8]; simp⟩
      | top => exact absurd h (by simp)
      | coe y => exact absurd h (by simp)
    | top =>
      refine ⟨0, le_rfl, by norm_num, ?_⟩
      rw [EReal.top_mul_coe_of_pos p8, EReal.sub_top]; simp
    | coe x =>
      induction a2 using EReal.rec with
      | bot =>
        refine ⟨0, le_rfl, by norm_num, ?_⟩
        rw [EReal.bot_mul_coe_of_pos p8, EReal.bot_sub]; simp
      | top => exact absurd h (by simp)
      | coe y =>
        rw [← EReal.coe_sub] at h
        have h' : y - x ≤ 288 := by exact_mod_cast h
        refine ⟨max (y * (1 / 8) - x * (1 / 8)) 0, le_max_right _ _, max_le (by linarith) (by norm_num), ?_⟩
        rw [← EReal.coe_mul, ← EReal.coe_mul, ← EReal.coe_sub, ← EReal.coe_zero, ← EReal.coe_strictMono.monotone.map_max]
  obtain ⟨d, d0, d1, e⟩ := key
  refine ⟨d * (1 / 10), by positivity, by linarith, ?_⟩
  unfold bin
  rw [e, Ideal.div_coe (by norm_num), ← EReal.coe_mul]

/-- The stride of such a roi is one. -/
theorem stride_one (b : ℝ) (h0 : 0 ≤ b) (h1 : b ≤ 18 / 5) :
    max 1 (Ideal.liftRound Ideal.roundHalfEven (Ideal.div (b : EReal) ((3 : ℝ) : EReal))) = 1 := by
  rw [Ideal.div_coe (by norm_num), ← EReal.coe_mul]
  show max 1 ((((Ideal.roundHalfEven (b * (1 / 3))) : ℤ) : ℝ) : EReal) = 1
  have hz : Ideal.roundHalfEven (b * (1 / 3)) ≤ 1 := by
    unfold Ideal.roundHalfEven
    have hf : ⌊b * (1 / 3)⌋ ≤ 1 := by
      have : ⌊b * (1 / 3)⌋ < 2 := Int.floor_lt.mpr (by push_cast; linarith)
      omega
    rcases lt_or_eq_of_le hf with hlt | heq
    · dsimp only
      split
      · exact hf
      · split
        · omega
        · split <;> omega
    · dsimp only
      rw [heq, if_pos]
      push_cast; linarith
  apply max_eq_left
  rw [← EReal.coe_one]
  exact EReal.coe_le_coe_iff.mpr (by exact_mod_cast hz)

/-- The floor of a coordinate as a word, when it is small. -/
theorem fptosi_floor (z : ℤ) (h0 : -1000 ≤ z) (h1 : z ≤ 1000) :
    (Ideal.fptosi 32 (((z : ℝ)) : EReal)).toInt = z := by
  unfold Ideal.fptosi
  rw [Ideal.toIntClamped_coe, BitVec.toInt_ofInt]
  have e : (if (0 : ℝ) ≤ (z : ℝ) then ⌊(z : ℝ)⌋ else ⌈(z : ℝ)⌉) = z := by simp
  rw [e]
  have e1 : max (-((2 ^ (32 - 1) : ℕ) : ℤ)) (min (((2 ^ (32 - 1) : ℕ) : ℤ) - 1) z) = z := by
    have : ((2 ^ (32 - 1) : ℕ) : ℤ) = 2147483648 := rfl
    omega
  rw [e1, Int.bmod_eq_of_le]
  · have : ((2 ^ 32 : ℕ) : ℤ) = 4294967296 := rfl
    omega
  · have : ((2 ^ 32 : ℕ) : ℤ) = 4294967296 := rfl
    omega

/-- Every sample inside the map falls within the window. -/
theorem reach (v : EReal) (t : ℝ) (h0 : 0 ≤ t) (h1 : t ≤ 36) :
    Reach (winWord (Ideal.fptosi 32 (Ideal.liftRound Int.floor v))).toNat (v + (t : EReal)) := by
  intro s hs
  induction v using EReal.rec with
  | bot =>
    exfalso
    have h0 := hs.1
    revert h0
    unfold nb
    fin_cases s <;> simp
  | top =>
    exfalso
    have h0 := hs.2
    have e : nb (⊤ + (t : EReal)) s = ⊤ := by
      rw [EReal.top_add_coe]; unfold nb
      fin_cases s
      · exact EReal.top_add_coe _
      · rfl
      · exact EReal.top_add_coe _
    rw [e] at h0
    exact absurd h0 (by simp)
  | coe v =>
    obtain ⟨d, hd0, hd1, e⟩ : ∃ d : ℝ, -1 ≤ d ∧ d ≤ 1 ∧ nb ((v : EReal) + (t : EReal)) s = ((v + t + d : ℝ) : EReal) := by
      unfold nb
      fin_cases s
      · exact ⟨-1, by norm_num, by norm_num, by show _ + _ = _; rw [EReal.coe_add, EReal.coe_add]⟩
      · exact ⟨0, by norm_num, by norm_num, by show _ + _ = _; rw [EReal.coe_add, EReal.coe_add, EReal.coe_zero, add_zero]⟩
      · exact ⟨1, by norm_num, by norm_num, by show _ + _ = _; rw [EReal.coe_add, EReal.coe_add]⟩
    rw [e] at hs ⊢
    have c0 : 0 ≤ v + t + d := by exact_mod_cast hs.1
    have c1 : v + t + d < 96 := by have := hs.2; exact_mod_cast this
    have hc := cell_coe (v + t + d)
    have hlo : ⌊v⌋ - 1 ≤ ⌊v + t + d⌋ := by
      rw [Int.le_floor]; push_cast
      have := Int.floor_le v; linarith
    have hhi : ⌊v + t + d⌋ ≤ ⌊v⌋ + 37 := by
      have : ⌊v + t + d⌋ < ⌊v⌋ + 38 := by
        rw [Int.floor_lt]; push_cast
        have := Int.lt_floor_add_one v; linarith
      omega
    have hc0 : 0 ≤ ⌊v + t + d⌋ := Int.floor_nonneg.mpr c0
    have hc1 : ⌊v + t + d⌋ ≤ 95 := by
      have : ⌊v + t + d⌋ < 96 := Int.floor_lt.mpr (by exact_mod_cast c1)
      omega
    have hw := winWord_toInt (Ideal.fptosi 32 (Ideal.liftRound Int.floor (v : EReal)))
    have hn := winWord_toNat (Ideal.fptosi 32 (Ideal.liftRound Int.floor (v : EReal)))
    have hf : (Ideal.fptosi 32 (Ideal.liftRound Int.floor (v : EReal))).toInt = ⌊v⌋ :=
      fptosi_floor ⌊v⌋ (by omega) (by omega)
    have h2 : (Scalar.subi (Ideal.fptosi 32 (Ideal.liftRound Int.floor (v : EReal))) 2#32).toInt = ⌊v⌋ - 2 := by
      unfold Scalar.subi IntOp.subi
      rw [WordArith.toInt_sub_of_bounds, hf]
      · rfl
      · rw [hf, show (2#32 : BitVec 32).toInt = 2 from by decide]; omega
      · rw [hf, show (2#32 : BitVec 32).toInt = 2 from by decide]; omega
    rw [h2] at hw
    generalize winWord _ = W at hw hn ⊢
    constructor <;> omega

end Cert.Roi
-- ==== Proof.Ideal.Weights.lean ====
/- The weights the kernel body computes, read at an index over the extended reals: row by row they are the weights of
   the three samples on each axis. -/
module

public import proofs.«01_k».proof.Proof.Gen.KernelIdeal.Skeleton
public import proofs.«01_k».proof.Proof.Reach
public import Idealize.ShloMosaic.Lib.Pointwise
public import Idealize.ShloMosaic.Lib.Pointwise.IndexBridge

@[expose] public section

set_option maxRecDepth 16384

noncomputable section

namespace Cert.KernelIdeal.Roi

open Idealize.ShloMosaic Idealize.ShloMosaic.TcCoe Idealize.ShloMosaic.Tactic
open Cert.KernelIdeal Cert.KernelIdeal.Gen Cert.Roi

theorem cellE_fold (c : EReal) : min ((94 : ℝ) : EReal) (max 0 (Ideal.liftRound Int.floor c)) = cellE c := rfl

/-- The row number as a float. -/
theorem pay13_at (p : Fin 16) : k0_pay13 (F := Ideal) (ix2 p 0) = (((p : ℕ) : ℝ) : EReal) := by
  unfold k0_pay13; pointwise; exact sitofp_ofNat _ (by omega)

/-- The window's row number as a float. -/
theorem pay14_at (p : Fin 16) (r : Fin 48) : k0_pay14 (F := Ideal) (ix2 p r) = (((r : ℕ) : ℝ) : EReal) := by
  unfold k0_pay14; pointwise; exact sitofp_ofNat _ (by omega)

/-- The first eleven rows are live. -/
theorem pay18_at (p : Fin 16) (hp : (p : ℕ) < 11) : k0_pay18 (F := Ideal) k0_pay13 (ix2 p 0) = 1 := by
  have h := pay13_at p
  unfold k0_pay18
  generalize k0_pay13 (F := Ideal) = P at h ⊢
  pointwise
  rw [h, bits_11, sitofp_ofBool, if_pos (by exact_mod_cast hp)]; rfl

/-- The centre of row `p`. -/
theorem pay16_at (a b : EReal) (p : Fin 16) :
    k0_pay16 (F := Ideal) a b k0_pay13 (ix2 p 0) = a + (((p : ℕ) : ℝ) : EReal) * b := by
  have h := pay13_at p
  unfold k0_pay16
  generalize k0_pay13 (F := Ideal) = P at h ⊢
  pointwise
  rw [h]

theorem pay17_at (a b : EReal) (p : Fin 16) :
    k0_pay17 (F := Ideal) a b k0_pay13 (ix2 p 0) = a + (((p : ℕ) : ℝ) : EReal) * b := pay16_at a b p

/-- A sample's share of a row, as the kernel computes it. -/
def tapE (c y0E rE : EReal) : EReal :=
  (FloatOps.sitofp (F := Ideal) .f32 (BitVec.setWidth 32 (BitVec.ofBool (decide (rE = cellE c - y0E)))) : EReal) * (1 - (c - cellE c))
    + (FloatOps.sitofp (F := Ideal) .f32 (BitVec.setWidth 32 (BitVec.ofBool (decide (rE = cellE c - y0E + 1)))) : EReal) * (c - cellE c)

theorem tapE_fold (c y0E rE : EReal) :
    (FloatOps.sitofp (F := Ideal) .f32 (BitVec.setWidth 32 (BitVec.ofBool (decide (rE = cellE c - y0E)))) : EReal) * (1 - (c - cellE c))
    + (FloatOps.sitofp (F := Ideal) .f32 (BitVec.setWidth 32 (BitVec.ofBool (decide (rE = cellE c - y0E + 1)))) : EReal) * (c - cellE c)
     = tapE c y0E rE := rfl

theorem wgt_fold (y0 : ℕ) (h y0E rE : EReal) (r : ℕ) (hr : rE = ((r : ℝ) : EReal)) (hy : y0E = ((y0 : ℝ) : EReal)) :
    (((ins (h + ((-1 : ℝ) : EReal)) : ℝ) : EReal) * tapE (h + ((-1 : ℝ) : EReal)) y0E rE + ((ins h : ℝ) : EReal) * tapE h y0E rE
        + ((ins (h + ((1 : ℝ) : EReal)) : ℝ) : EReal) * tapE (h + ((1 : ℝ) : EReal)) y0E rE)
      * Ideal.div ((ins h : ℝ) : EReal)
        (max (((ins (h + ((-1 : ℝ) : EReal)) : ℝ) : EReal) + ((ins h : ℝ) : EReal) + ((ins (h + ((1 : ℝ) : EReal)) : ℝ) : EReal)) 1)
      = ((wgt y0 h r : ℝ) : EReal) := by
  have en : ((ins (h + ((-1 : ℝ) : EReal)) : ℝ) : EReal) + ((ins h : ℝ) : EReal) + ((ins (h + ((1 : ℝ) : EReal)) : ℝ) : EReal)
      = ((num h : ℝ) : EReal) := by
    unfold num; rw [Fin.sum_univ_three, EReal.coe_add, EReal.coe_add]; rfl
  rw [en, scl_eq]
  unfold tapE
  rw [tap_eq y0 r _ rE y0E hr hy, tap_eq y0 r _ rE y0E hr hy, tap_eq y0 r _ rE y0E hr hy,
    ← EReal.coe_add, ← EReal.coe_add, ← EReal.coe_mul]
  unfold wgt taps; rw [Fin.sum_univ_three]; rfl

/-! ## The height's samples, payload by payload: the one before the centre -/

section
variable (a b y0E h rE : EReal) (p : Fin 16) (r : Fin 48) (H K P : FVec Ideal S16x1 .f32) (R : FVec Ideal S16x48 .f32)

theorem pay23_at (hH : k0_pay16 (F := Ideal) a b P (ix2 p 0) = h) :
    k0_pay23 (F := Ideal) a b (1 : EReal) P (ix2 p 0) = h + ((-1 : ℝ) : EReal) := by
  unfold k0_pay23
  generalize k0_pay16 (F := Ideal) a b P = H at hH ⊢
  pointwise
  rw [hH, bits_neg_one]

theorem pay24_at (hH : k0_pay16 (F := Ideal) a b P (ix2 p 0) = h) (hK : k0_pay18 (F := Ideal) P (ix2 p 0) = 1) :
    k0_pay24 (F := Ideal) a b (1 : EReal) P (ix2 p 0) = ((ins (h + ((-1 : ℝ) : EReal)) : ℝ) : EReal) := by
  have hc := pay23_at a b h p P hH
  unfold k0_pay24
  generalize k0_pay23 (F := Ideal) a b (1 : EReal) P = C at hc ⊢
  generalize k0_pay18 (F := Ideal) P = K at hK ⊢
  pointwise
  rw [hc, hK, bits_96, sitofp_inside, mul_one]

theorem pay25_at (hH : k0_pay16 (F := Ideal) a b P (ix2 p 0) = h) :
    k0_pay25 (F := Ideal) a b (1 : EReal) P (ix2 p 0) = cellE (h + ((-1 : ℝ) : EReal)) := by
  have hc := pay23_at a b h p P hH
  unfold k0_pay25
  generalize k0_pay23 (F := Ideal) a b (1 : EReal) P = C at hc ⊢
  pointwise
  rw [hc, bits_94]; rfl

theorem pay30_at (A : FVec Ideal S16x48 .f32) (hH : k0_pay16 (F := Ideal) a b P (ix2 p 0) = h)
    (hK : k0_pay18 (F := Ideal) P (ix2 p 0) = 1) (hR : R (ix2 p r) = rE) :
    k0_pay30 (F := Ideal) A (k0_pay24 a b (1 : EReal) P) (k0_pay26 a b (1 : EReal) P)
      (k0_pay28 a b (1 : EReal) y0E P R) (k0_pay29 a b (1 : EReal) y0E P R) (ix2 p r)
      = A (ix2 p r) + ((ins (h + ((-1 : ℝ) : EReal)) : ℝ) : EReal) * tapE (h + ((-1 : ℝ) : EReal)) y0E rE := by
  have h1 := pay24_at a b h p P hH hK
  have h2 := pay23_at a b h p P hH
  have h3 := pay25_at a b h p P hH
  unfold k0_pay30 k0_pay28 k0_pay29 k0_pay26 k0_pay27
  generalize k0_pay24 (F := Ideal) a b (1 : EReal) P = C1 at h1 ⊢
  generalize k0_pay23 (F := Ideal) a b (1 : EReal) P = C2 at h2 ⊢
  generalize k0_pay25 (F := Ideal) a b (1 : EReal) P = C3 at h3 ⊢
  pointwise
  rw [h1, h2, h3, hR]; rfl

/-! ## The centre's sample -/

theorem pay36_at (hH : H (ix2 p 0) = h) : k0_pay36 (F := Ideal) (1 : EReal) H (ix2 p 0) = h := by
  unfold k0_pay36
  pointwise
  rw [hH]

theorem pay37_at (hH : H (ix2 p 0) = h) (hK : K (ix2 p 0) = 1) :
    k0_pay37 (F := Ideal) K H (ix2 p 0) = ((ins h : ℝ) : EReal) := by
  unfold k0_pay37
  pointwise
  rw [hH, hK, bits_96, sitofp_inside, mul_one]

theorem pay38_at (A : FVec Ideal S16x48 .f32) (hH : H (ix2 p 0) = h) (hK : K (ix2 p 0) = 1) (hR : R (ix2 p r) = rE) :
    k0_pay38 (F := Ideal) y0E R K A H (ix2 p r) = A (ix2 p r) + ((ins h : ℝ) : EReal) * tapE h y0E rE := by
  have h1 := pay37_at h p H K hH hK
  unfold k0_pay38
  generalize k0_pay37 (F := Ideal) K H = C at h1 ⊢
  pointwise
  rw [h1, hH, hR, bits_94, cellE_fold]; rfl

/-! ## The sample after the centre -/

theorem pay45_at (hH : H (ix2 p 0) = h) : k0_pay45 (F := Ideal) (1 : EReal) H (ix2 p 0) = h + ((1 : ℝ) : EReal) := by
  unfold k0_pay45
  pointwise
  rw [hH]; simp

theorem pay46_at (hH : H (ix2 p 0) = h) (hK : K (ix2 p 0) = 1) :
    k0_pay46 (F := Ideal) (1 : EReal) H K (ix2 p 0) = ((ins (h + ((1 : ℝ) : EReal)) : ℝ) : EReal) := by
  have hc := pay45_at h p H hH
  unfold k0_pay46
  generalize k0_pay45 (F := Ideal) (1 : EReal) H = C at hc ⊢
  pointwise
  rw [hc, hK, bits_96, sitofp_inside, mul_one]

theorem pay47_at (hH : H (ix2 p 0) = h) :
    k0_pay47 (F := Ideal) (1 : EReal) H (ix2 p 0) = cellE (h + ((1 : ℝ) : EReal)) := by
  have hc := pay45_at h p H hH
  unfold k0_pay47
  generalize k0_pay45 (F := Ideal) (1 : EReal) H = C at hc ⊢
  pointwise
  rw [hc, bits_94]; rfl

theorem pay52_at (A : FVec Ideal S16x48 .f32) (hH : H (ix2 p 0) = h) (hK : K (ix2 p 0) = 1) (hR : R (ix2 p r) = rE) :
    k0_pay52 (F := Ideal) R A (k0_pay46 (1 : EReal) H K) (k0_pay48 (1 : EReal) H) (k0_pay49 (1 : EReal) y0E H) (k0_pay50 (1 : EReal) H)
        (k0_pay51 (1 : EReal) y0E R H) (ix2 p r)
      = A (ix2 p r) + ((ins (h + ((1 : ℝ) : EReal)) : ℝ) : EReal) * tapE (h + ((1 : ℝ) : EReal)) y0E rE := by
  have h1 := pay46_at h p H K hH hK
  have h2 := pay45_at h p H hH
  have h3 := pay47_at h p H hH
  unfold k0_pay52 k0_pay51 k0_pay50 k0_pay49 k0_pay48
  generalize k0_pay46 (F := Ideal) (1 : EReal) H K = C1 at h1 ⊢
  generalize k0_pay45 (F := Ideal) (1 : EReal) H = C2 at h2 ⊢
  generalize k0_pay47 (F := Ideal) (1 : EReal) H = C3 at h3 ⊢
  pointwise
  rw [h1, h2, h3, hR]; rfl

/-! ## The scale -/

theorem pay57_at (A : FVec Ideal S16x48 .f32) (N : FVec Ideal S16x1 .f32) (hH : H (ix2 p 0) = h) (hK : K (ix2 p 0) = 1) :
    k0_pay57 (F := Ideal) H K A N (ix2 p r) = A (ix2 p r) * Ideal.div ((ins h : ℝ) : EReal) (max (N (ix2 p 0)) 1) := by
  unfold k0_pay57
  pointwise
  rw [hH, hK, bits_96, sitofp_inside, mul_one]

/-- The weights along the height. -/
theorem weightH (y0 : ℕ) (hy : y0E = ((y0 : ℝ) : EReal)) (hH : H (ix2 p 0) = h) (hH' : k0_pay16 (F := Ideal) a b P (ix2 p 0) = h)
    (hK : K (ix2 p 0) = 1) (hK' : k0_pay18 (F := Ideal) P (ix2 p 0) = 1) (hR : R (ix2 p r) = (((r : ℕ) : ℝ) : EReal)) :
    k0_pay57 (F := Ideal) H K
      (k0_pay52 R
        (k0_pay38 y0E R K
          (k0_pay30 k0_pay19 (k0_pay24 a b (1 : EReal) P) (k0_pay26 a b (1 : EReal) P)
            (k0_pay28 a b (1 : EReal) y0E P R) (k0_pay29 a b (1 : EReal) y0E P R))
          (k0_pay36 (1 : EReal) H))
        (k0_pay46 (1 : EReal) H K) (k0_pay48 (1 : EReal) H) (k0_pay49 (1 : EReal) y0E H) (k0_pay50 (1 : EReal) H)
        (k0_pay51 (1 : EReal) y0E R H))
      (k0_pay53 (k0_pay39 K (k0_pay31 k0_pay21 (k0_pay24 a b (1 : EReal) P)) (k0_pay36 (1 : EReal) H)) (k0_pay46 (1 : EReal) H K)) (ix2 p r)
      = ((wgt y0 h r : ℝ) : EReal) := by
  have z : k0_pay19 (F := Ideal) (ix2 p r) = 0 := by unfold k0_pay19; pointwise
  have n : k0_pay53 (F := Ideal) (k0_pay39 K (k0_pay31 k0_pay21 (k0_pay24 a b (1 : EReal) P)) (k0_pay36 (1 : EReal) H)) (k0_pay46 (1 : EReal) H K) (ix2 p 0)
      = ((ins (h + ((-1 : ℝ) : EReal)) : ℝ) : EReal) + ((ins h : ℝ) : EReal) + ((ins (h + ((1 : ℝ) : EReal)) : ℝ) : EReal) := by
    have h1 := pay24_at a b h p P hH' hK'
    have h2 := pay37_at h p _ K (pay36_at h p H hH) hK
    have h3 := pay46_at h p H K hH hK
    unfold k0_pay53 k0_pay39 k0_pay31 k0_pay21
    generalize k0_pay24 (F := Ideal) a b (1 : EReal) P = C1 at h1 ⊢
    generalize k0_pay36 (F := Ideal) (1 : EReal) H = C2 at h2 ⊢
    generalize k0_pay37 (F := Ideal) K C2 = C4 at h2 ⊢
    generalize k0_pay46 (F := Ideal) (1 : EReal) H K = C3 at h3 ⊢
    pointwise
    rw [h1, h2, h3]
  rw [pay57_at h p r H K _ _ hH hK, pay52_at y0E h _ p r H K R _ hH hK hR,
    pay38_at y0E h _ p r _ K R _ (pay36_at h p H hH) hK hR, pay30_at a b y0E h _ p r P R _ hH' hK' hR, z, n, zero_add]
  exact wgt_fold y0 h y0E _ r rfl hy

/-! ## The width's samples -/

theorem pay32_at (hH : H (ix2 p 0) = h) : k0_pay32 (F := Ideal) (1 : EReal) H (ix2 p 0) = h + ((-1 : ℝ) : EReal) := by
  unfold k0_pay32
  pointwise
  rw [hH, bits_neg_one]

theorem pay33_at (hH : H (ix2 p 0) = h) (hK : K (ix2 p 0) = 1) :
    k0_pay33 (F := Ideal) (1 : EReal) H K (ix2 p 0) = ((ins (h + ((-1 : ℝ) : EReal)) : ℝ) : EReal) := by
  have hc := pay32_at h p H hH
  unfold k0_pay33
  generalize k0_pay32 (F := Ideal) (1 : EReal) H = C at hc ⊢
  pointwise
  rw [hc, hK, bits_96, sitofp_inside, mul_one]

theorem pay34_at (A : FVec Ideal S16x48 .f32) (hH : H (ix2 p 0) = h) (hK : K (ix2 p 0) = 1) (hR : R (ix2 p r) = rE) :
    k0_pay34 (F := Ideal) (1 : EReal) y0E R H K A (ix2 p r)
      = A (ix2 p r) + ((ins (h + ((-1 : ℝ) : EReal)) : ℝ) : EReal) * tapE (h + ((-1 : ℝ) : EReal)) y0E rE := by
  have h1 := pay33_at h p H K hH hK
  have h2 := pay32_at h p H hH
  unfold k0_pay34
  generalize k0_pay33 (F := Ideal) (1 : EReal) H K = C1 at h1 ⊢
  generalize k0_pay32 (F := Ideal) (1 : EReal) H = C2 at h2 ⊢
  pointwise
  rw [h1, h2, hR, bits_94, cellE_fold]; rfl

theorem pay40_at (hH : H (ix2 p 0) = h) : k0_pay40 (F := Ideal) (1 : EReal) H (ix2 p 0) = h := pay36_at h p H hH

theorem pay41_at (hH : H (ix2 p 0) = h) (hK : K (ix2 p 0) = 1) :
    k0_pay41 (F := Ideal) (1 : EReal) H K (ix2 p 0) = ((ins h : ℝ) : EReal) := by
  have hc := pay40_at h p H hH
  unfold k0_pay41
  generalize k0_pay40 (F := Ideal) (1 : EReal) H = C at hc ⊢
  pointwise
  rw [hc, hK, bits_96, sitofp_inside, mul_one]

theorem pay43_at (A : FVec Ideal S16x48 .f32) (hH : H (ix2 p 0) = h) (hK : K (ix2 p 0) = 1) (hR : R (ix2 p r) = rE) :
    k0_pay43 (F := Ideal) y0E R A (k0_pay40 (1 : EReal) H) (k0_pay41 (1 : EReal) H K) (k0_pay42 (1 : EReal) H)
        (Scalar.ofBits .f32 0x00000000#32) (Scalar.ofBits .f32 0x42BC0000#32) (ix2 p r)
      = A (ix2 p r) + ((ins h : ℝ) : EReal) * tapE h y0E rE := by
  have h1 := pay41_at h p H K hH hK
  have h2 := pay40_at h p H hH
  unfold k0_pay43 k0_pay42
  generalize k0_pay41 (F := Ideal) (1 : EReal) H K = C1 at h1 ⊢
  generalize k0_pay40 (F := Ideal) (1 : EReal) H = C2 at h2 ⊢
  pointwise
  rw [h1, h2, hR, bits_94, cellE_fold]; rfl

theorem pay54_at (hH : H (ix2 p 0) = h) : k0_pay54 (F := Ideal) (1 : EReal) H (ix2 p 0) = h + ((1 : ℝ) : EReal) := pay45_at h p H hH

theorem pay55_at (hH : H (ix2 p 0) = h) (hK : K (ix2 p 0) = 1) :
    k0_pay55 (F := Ideal) (1 : EReal) H K (ix2 p 0) = ((ins (h + ((1 : ℝ) : EReal)) : ℝ) : EReal) := pay46_at h p H K hH hK

theorem pay56_at (hH : H (ix2 p 0) = h) (hR : R (ix2 p r) = rE) :
    k0_pay56 (F := Ideal) (1 : EReal) y0E R H (ix2 p r) = tapE (h + ((1 : ℝ) : EReal)) y0E rE := by
  have h2 := pay54_at h p H hH
  unfold k0_pay56
  generalize k0_pay54 (F := Ideal) (1 : EReal) H = C2 at h2 ⊢
  pointwise
  rw [h2, hR, bits_94, cellE_fold]; rfl

/-- The weights along the width. -/
theorem weightW (x0 : ℕ) (hy : y0E = ((x0 : ℝ) : EReal)) (hH : H (ix2 p 0) = h)
    (hK : K (ix2 p 0) = 1) (hR : R (ix2 p r) = (((r : ℕ) : ℝ) : EReal)) :
    k0_pay58 (F := Ideal) H K
      (k0_pay43 y0E R (k0_pay34 (1 : EReal) y0E R H K k0_pay20) (k0_pay40 (1 : EReal) H) (k0_pay41 (1 : EReal) H K) (k0_pay42 (1 : EReal) H)
        (Scalar.ofBits .f32 0x00000000#32) (Scalar.ofBits .f32 0x42BC0000#32))
      (k0_pay44 (k0_pay35 (1 : EReal) H K k0_pay22) (k0_pay41 (1 : EReal) H K))
      (k0_pay55 (1 : EReal) H K) (k0_pay56 (1 : EReal) y0E R H) (ix2 p r)
      = ((wgt x0 h r : ℝ) : EReal) := by
  have z : k0_pay20 (F := Ideal) (ix2 p r) = 0 := by unfold k0_pay20; pointwise
  have h1 := pay33_at h p H K hH hK
  have h2 := pay41_at h p H K hH hK
  have h3 := pay55_at h p H K hH hK
  have h4 := pay56_at y0E h _ p r H R hH hR
  have h5 := pay43_at y0E h _ p r H K R (k0_pay34 (1 : EReal) y0E R H K k0_pay20) hH hK hR
  rw [pay34_at y0E h _ p r H K R _ hH hK hR, z, zero_add] at h5
  unfold k0_pay58 k0_pay44 k0_pay35 k0_pay22
  generalize k0_pay43 (F := Ideal) y0E R _ _ _ _ _ _ = C5 at h5 ⊢
  generalize k0_pay33 (F := Ideal) (1 : EReal) H K = C1 at h1 ⊢
  generalize k0_pay41 (F := Ideal) (1 : EReal) H K = C2 at h2 ⊢
  generalize k0_pay55 (F := Ideal) (1 : EReal) H K = C3 at h3 ⊢
  generalize k0_pay56 (F := Ideal) (1 : EReal) y0E R H = C4 at h4 ⊢
  pointwise
  rw [h1, h2, h3, h4, h5, hH, hK, bits_96, sitofp_inside, mul_one]
  exact wgt_fold x0 h y0E _ r rfl hy

end

end Cert.KernelIdeal.Roi
-- ==== Proof.Pool.lean ====
/- The maximum of a three by three window taken with stride two: the largest of nine, however it is folded. -/
module

public import Idealize.ShloMosaic.Lib.IdealHost
public import Mathlib.Data.Finset.Fold
public import Mathlib.Data.Finset.Lattice.Fold
public import Mathlib.Data.EReal.Basic
public import Mathlib.Tactic.FinCases

@[expose] public section

noncomputable section

namespace Cert.Roi

/-- The largest of the nine values whose rows start at `2p` and columns at `2q`. -/
def pool (X : ℕ → ℕ → EReal) (p q : ℕ) : EReal :=
  Finset.univ.sup fun ab : Fin 3 × Fin 3 => X (2 * p + ab.1) (2 * q + ab.2)

theorem pool_le_iff (X : ℕ → ℕ → EReal) (p q : ℕ) (z : EReal) :
    pool X p q ≤ z ↔ ∀ a b : Fin 3, X (2 * p + a) (2 * q + b) ≤ z := by
  unfold pool
  rw [Finset.sup_le_iff]
  exact ⟨fun h a b => h (a, b) (Finset.mem_univ _), fun h ab _ => h ab.1 ab.2⟩

/-- Anything with the same upper bounds is that maximum. -/
theorem eq_pool (X : ℕ → ℕ → EReal) (p q : ℕ) (v : EReal)
    (h : ∀ z, v ≤ z ↔ ∀ a b : Fin 3, X (2 * p + a) (2 * q + b) ≤ z) : v = pool X p q :=
  eq_of_forall_ge_iff fun z => (h z).trans (pool_le_iff X p q z).symm

/-- A maximum folded over three rows of three, row by row. -/
theorem fold_eq_pool (X : ℕ → ℕ → EReal) (p q : ℕ) (f : Fin 3 → EReal)
    (hf : ∀ a : Fin 3, f a = max (max (X (2 * p + a) (2 * q)) (X (2 * p + a) (2 * q + 1))) (X (2 * p + a) (2 * q + 2))) :
    Finset.fold max ⊥ f Finset.univ = pool X p q := by
  apply eq_pool
  intro z
  rw [Finset.fold_max_le]
  constructor
  · rintro ⟨-, h⟩ a b
    have ha := h a (Finset.mem_univ _)
    rw [hf, max_le_iff, max_le_iff] at ha
    fin_cases b
    · exact ha.1.1
    · exact ha.1.2
    · exact ha.2
  · intro h
    refine ⟨bot_le, fun a _ => ?_⟩
    rw [hf, max_le_iff, max_le_iff]
    exact ⟨⟨h a 0, h a 1⟩, h a 2⟩

/-- A maximum folded from the left has the upper bounds of its members. -/
theorem foldl_max_le {ι : Type} (l : List ι) (g : ι → EReal) (v z : EReal) :
    l.foldl (fun r n => max r (g n)) v ≤ z ↔ v ≤ z ∧ ∀ n ∈ l, g n ≤ z := by
  induction l generalizing v with
  | nil => simp
  | cons a l ih =>
    rw [List.foldl_cons, ih, max_le_iff, List.forall_mem_cons, and_assoc]

open Idealize.ShloMosaic in
/-- The upper bounds of a windowed maximum without padding: those of the starting value and of every place in the window. -/
theorem reduceWindow_le {s t u : Shape} (f : EReal → EReal → EReal) (hf : f = max) (window strides lo hi : Fin s.rank → ℕ)
    (x : s.Idx → EReal) (init : u.Idx → EReal) (h : s.ReduceWindows window strides lo hi t) (hu : 0 < u.numel) (j : t.Idx) (z : EReal)
    (hin : ∀ (w : (⟨s.rank, window⟩ : Shape).Idx) (a : Fin s.rank), lo a ≤ (j (a.cast h.1.symm)).val * strides a + (w a).val
            ∧ (j (a.cast h.1.symm)).val * strides a + (w a).val - lo a < s.size a) :
    Host.reduceWindow f window strides lo hi x init h hu j ≤ z ↔ init (Shape.Idx.first hu) ≤ z ∧
      ∀ w : (⟨s.rank, window⟩ : Shape).Idx,
        x (fun a => ⟨(j (a.cast h.1.symm)).val * strides a + (w a).val - lo a, (hin w a).2⟩) ≤ z := by
  subst hf
  unfold Host.reduceWindow
  refine (foldl_max_le _ _ _ z).trans (and_congr_right fun _ => ?_)
  constructor
  · intro h w
    have := h ((⟨s.rank, window⟩ : Shape).rowMajor w) (List.mem_finRange _)
    simp only [Equiv.symm_apply_apply] at this
    rw [dif_pos (hin w)] at this
    exact this
  · intro h n _
    rw [dif_pos (hin _)]
    exact h _

end Cert.Roi
-- ==== Proof.Ideal.Block.lean ====
/- The block the kernel body leaves, read at an index over the extended reals: the largest of nine of the two axes'
   weighted sums of the feature window. -/
module

public import proofs.«01_k».proof.Proof.Ideal.Weights
public import proofs.«01_k».proof.Proof.Pool

@[expose] public section

set_option maxRecDepth 16384

noncomputable section

namespace Cert.KernelIdeal.Roi

open Idealize.ShloMosaic Idealize.ShloMosaic.TcCoe Idealize.ShloMosaic.Tactic
open Cert.KernelIdeal Cert.KernelIdeal.Gen Cert.Roi

theorem five (p : Fin 5) : p = 0 ∨ p = 1 ∨ p = 2 ∨ p = 3 ∨ p = 4 := by
  revert p; decide

/-- The first group's three columns' maximum. -/
theorem pay62_at (A : FVec Ideal S16x11x256 .f32) (x : FVec Ideal S11x256 .f32) (b : FVec Ideal S1x11x256 .f32) (cc : Fin 256)
    (X : ℕ → ℕ → EReal) (hA : ∀ (w : Fin 16) (h : Fin 11), (w : ℕ) < 11 → A (ix3 w h cc) = X h w)
    (hx : ∀ h, x (ix2 h cc) = max (A (ix3 0 h cc)) (A (ix3 1 h cc))) (hb : ∀ h, b (ix3 0 h cc) = A (ix3 2 h cc)) (q : Fin 5) (h : Fin 11) :
    k0_pay62 A x b (ix3 q h cc) = max (max (X h (2 * q)) (X h (2 * q + 1))) (X h (2 * q + 2)) := by
  unfold k0_pay62
  rcases five q with rfl | rfl | rfl | rfl | rfl
  · pointwise; rw [hx, hb, hA, hA, hA] <;> first | rfl | decide
  · pointwise; rw [hA, hA, hA] <;> first | rfl | decide
  · pointwise; rw [hA, hA, hA] <;> first | rfl | decide
  · pointwise; rw [hA, hA, hA] <;> first | rfl | decide
  · pointwise; rw [hA, hA, hA] <;> first | rfl | decide

/-- The first group's half of the block. -/
theorem half0_at (A : FVec Ideal S16x11x256 .f32) (x : FVec Ideal S11x256 .f32) (b : FVec Ideal S1x11x256 .f32) (cc : Fin 256)
    (X : ℕ → ℕ → EReal) (hA : ∀ (w : Fin 16) (h : Fin 11), (w : ℕ) < 11 → A (ix3 w h cc) = X h w)
    (hx : ∀ h, x (ix2 h cc) = max (A (ix3 0 h cc)) (A (ix3 1 h cc))) (hb : ∀ h, b (ix3 0 h cc) = A (ix3 2 h cc)) (p q : Fin 5) :
    k0_pay68 (F := Ideal) (k0_pay63 A x b) (k0_pay64 A x b) (k0_pay65 A x b) (k0_pay66 A x b) (k0_pay67 A x b) (ix3 p q cc)
      = pool X p q := by
  have h62 := pay62_at A x b cc X hA hx hb q
  unfold k0_pay68 k0_pay63 k0_pay64 k0_pay65 k0_pay66 k0_pay67
  generalize k0_pay62 A x b = M at h62 ⊢
  rcases five p with rfl | rfl | rfl | rfl | rfl
  · pointwise; rw [bits_bot]
    exact fold_eq_pool X 0 q _ fun a => (h62 _).trans (by simp)
  · pointwise; rw [bits_bot]
    exact fold_eq_pool X 1 q _ fun a => (h62 _).trans (by simp)
  · pointwise; rw [bits_bot]
    exact fold_eq_pool X 2 q _ fun a => (h62 _).trans (by simp)
  · pointwise; rw [bits_bot]
    exact fold_eq_pool X 3 q _ fun a => (h62 _).trans (by simp)
  · pointwise; rw [bits_bot]
    exact fold_eq_pool X 4 q _ fun a => (h62 _).trans (by simp)

/-- The second group's three columns' maximum, as the last payload stacks it. -/
def stack (x : FVec Ideal S11x256 .f32) (y0 y1 y2 y3 : FVec Ideal S1x11x256 .f32) : FVec Ideal S5x11x256 .f32 :=
  concatenate S5x11x256 0 [⟨S1x11x256, y0⟩, ⟨S1x11x256, y1⟩, ⟨S1x11x256, y2⟩, ⟨S1x11x256, y3⟩,
    ⟨S1x11x256, shapeCast S1x11x256 x shapeCasts_S11x256_S1x11x256⟩] concatenates_S1x11x256_S1x11x256_S1x11x256_S1x11x256_S1x11x256_S5x11x256_d0

theorem stack_at (x : FVec Ideal S11x256 .f32) (y0 y1 y2 y3 : FVec Ideal S1x11x256 .f32) (cc : Fin 256) (Z : ℕ → ℕ → EReal)
    (h0 : ∀ h, y0 (ix3 0 h cc) = Z h 0) (h1 : ∀ h, y1 (ix3 0 h cc) = Z h 1) (h2 : ∀ h, y2 (ix3 0 h cc) = Z h 2)
    (h3 : ∀ h, y3 (ix3 0 h cc) = Z h 3) (h4 : ∀ h, x (ix2 h cc) = Z h 4) (q : Fin 5) (h : Fin 11) :
    stack x y0 y1 y2 y3 (ix3 q h cc) = Z h q := by
  unfold stack
  rcases five q with rfl | rfl | rfl | rfl | rfl
  · pointwise; exact h0 h
  · pointwise; exact h1 h
  · pointwise; exact h2 h
  · pointwise; exact h3 h
  · pointwise; exact h4 h

/-- The second group's half from its stack. -/
def half1 (v494 : FVec Ideal S5x11x256 .f32) : FVec Ideal S5x5x256 .f32 :=
  concatenate S5x5x256 0
    [⟨S1x5x256, shapeCast S1x5x256 (multiReduction .maximumf [1] S5x256 (extractStridedSlice S5x3x256 ![0, 0, 0] v494 slices_S5x11x256_o0_0_0_S5x3x256) 0xFF800000#32 reduces_S5x3x256_S5x256 (.inl rfl) rfl) shapeCasts_S5x256_S1x5x256⟩,
     ⟨S1x5x256, shapeCast S1x5x256 (multiReduction .maximumf [1] S5x256 (extractStridedSlice S5x3x256 ![0, 2, 0] v494 slices_S5x11x256_o0_2_0_S5x3x256) 0xFF800000#32 reduces_S5x3x256_S5x256 (.inl rfl) rfl) shapeCasts_S5x256_S1x5x256⟩,
     ⟨S1x5x256, shapeCast S1x5x256 (multiReduction .maximumf [1] S5x256 (extractStridedSlice S5x3x256 ![0, 4, 0] v494 slices_S5x11x256_o0_4_0_S5x3x256) 0xFF800000#32 reduces_S5x3x256_S5x256 (.inl rfl) rfl) shapeCasts_S5x256_S1x5x256⟩,
     ⟨S1x5x256, shapeCast S1x5x256 (multiReduction .maximumf [1] S5x256 (extractStridedSlice S5x3x256 ![0, 6, 0] v494 slices_S5x11x256_o0_6_0_S5x3x256) 0xFF800000#32 reduces_S5x3x256_S5x256 (.inl rfl) rfl) shapeCasts_S5x256_S1x5x256⟩,
     ⟨S1x5x256, shapeCast S1x5x256 (multiReduction .maximumf [1] S5x256 (extractStridedSlice S5x3x256 ![0, 8, 0] v494 slices_S5x11x256_o0_8_0_S5x3x256) 0xFF800000#32 reduces_S5x3x256_S5x256 (.inl rfl) rfl) shapeCasts_S5x256_S1x5x256⟩]
    concatenates_S1x5x256_S1x5x256_S1x5x256_S1x5x256_S1x5x256_S5x5x256_d0

theorem half1_at (M : FVec Ideal S5x11x256 .f32) (cc : Fin 256) (X : ℕ → ℕ → EReal) (q : Fin 5)
    (hM : ∀ h : Fin 11, M (ix3 q h cc) = max (max (X h (2 * q)) (X h (2 * q + 1))) (X h (2 * q + 2))) (p : Fin 5) :
    half1 M (ix3 p q cc) = pool X p q := by
  unfold half1
  rcases five p with rfl | rfl | rfl | rfl | rfl
  · pointwise; rw [bits_bot]
    exact fold_eq_pool X 0 q _ fun a => (hM _).trans (by simp)
  · pointwise; rw [bits_bot]
    exact fold_eq_pool X 1 q _ fun a => (hM _).trans (by simp)
  · pointwise; rw [bits_bot]
    exact fold_eq_pool X 2 q _ fun a => (hM _).trans (by simp)
  · pointwise; rw [bits_bot]
    exact fold_eq_pool X 3 q _ fun a => (hM _).trans (by simp)
  · pointwise; rw [bits_bot]
    exact fold_eq_pool X 4 q _ fun a => (hM _).trans (by simp)

/-- The stored block: the first group's half below, the second group's above. -/
theorem pay1_eq (A : FVec Ideal S5x5x256 .f32) (x : FVec Ideal S11x256 .f32) (y0 y1 y2 y3 : FVec Ideal S1x11x256 .f32) :
    k0_pay1 (F := Ideal) A x y0 y1 y2 y3
      = shapeCast S1x5x5x512 (concatenate S5x5x512 2 [⟨S5x5x256, A⟩, ⟨S5x5x256, half1 (stack x y0 y1 y2 y3)⟩]
          concatenates_S5x5x256_S5x5x256_S5x5x512_d2) shapeCasts_S5x5x512_S1x5x5x512 := rfl

theorem pay1_at (A B : FVec Ideal S5x5x256 .f32) (p q : Fin 5) (c : Fin 512) :
    (shapeCast S1x5x5x512 (concatenate S5x5x512 2 [⟨S5x5x256, A⟩, ⟨S5x5x256, B⟩]
          concatenates_S5x5x256_S5x5x256_S5x5x512_d2) shapeCasts_S5x5x512_S1x5x5x512 : FVec Ideal S1x5x5x512 .f32) (ix4 0 p q c)
      = if h : (c : ℕ) < 256 then A (ix3 p q ⟨c, h⟩) else B (ix3 p q ⟨c - 256, by omega⟩) := by
  pointwise

/-- One group's weighted sums. -/
theorem acc_at (a b : FVec Ideal S16x48 .f32) (f : FVec Ideal S1x1x48x12288 .bf16) (w : Fin 16) (h : Fin 11) (cc : Fin 256) :
    k0_pay69 (F := Ideal) a b f (ix3 w h cc)
      = ∑ x : Fin 48, b (ix2 w x) * ∑ y : Fin 48, a (ix2 ⟨h, by omega⟩ y) * f (ix4 0 0 y ⟨x * 256 + cc, by omega⟩) := by
  unfold k0_pay69
  pointwise

/-- The second group's five stacked maxima. -/
theorem stack1_at (a b : FVec Ideal S16x48 .f32) (f : FVec Ideal S1x1x48x12288 .bf16) (cc : Fin 256)
    (X : ℕ → ℕ → EReal) (hA : ∀ (w : Fin 16) (h : Fin 11), (w : ℕ) < 11 → k0_pay69 (F := Ideal) a b f (ix3 w h cc) = X h w) (q : Fin 5) (h : Fin 11) :
    stack (k0_pay70 a b f) (k0_pay71 a b f) (k0_pay72 a b f) (k0_pay73 a b f) (k0_pay74 a b f) (ix3 q h cc)
      = max (max (X h (2 * q)) (X h (2 * q + 1))) (X h (2 * q + 2)) := by
  unfold k0_pay70 k0_pay71 k0_pay72 k0_pay73 k0_pay74
  generalize k0_pay69 (F := Ideal) a b f = A at hA ⊢
  refine stack_at _ _ _ _ _ cc (fun h q => max (max (X h (2 * q)) (X h (2 * q + 1))) (X h (2 * q + 2))) ?_ ?_ ?_ ?_ ?_ q h <;> intro h
  · pointwise; rw [hA, hA, hA] <;> first | rfl | decide
  · pointwise; rw [hA, hA, hA] <;> first | rfl | decide
  · pointwise; rw [hA, hA, hA] <;> first | rfl | decide
  · pointwise; rw [hA, hA, hA] <;> first | rfl | decide
  · pointwise; rw [hA, hA, hA] <;> first | rfl | decide

/-- The first group's first two columns' maximum, and its third column. -/
theorem pay60_at (a b c : FVec Ideal S16x1 .f32) (d : FVec Ideal S16x48 .f32) (e : FVec Ideal S16x1 .f32) (f : FVec Ideal S16x48 .f32)
    (g h : FVec Ideal S16x1 .f32) (k : FVec Ideal S16x48 .f32) (v : FVec Ideal S1x1x48x12288 .bf16) (cc : Fin 256) (r : Fin 11) :
    k0_pay60 (F := Ideal) a b c d e f g h k v (ix2 r cc)
      = max (k0_pay59 (F := Ideal) a b c d e f g h k v (ix3 0 r cc)) (k0_pay59 (F := Ideal) a b c d e f g h k v (ix3 1 r cc)) := by
  unfold k0_pay60
  generalize k0_pay59 (F := Ideal) a b c d e f g h k v = A
  pointwise

theorem pay61_at (a b c : FVec Ideal S16x1 .f32) (d : FVec Ideal S16x48 .f32) (e : FVec Ideal S16x1 .f32) (f : FVec Ideal S16x48 .f32)
    (g h : FVec Ideal S16x1 .f32) (k : FVec Ideal S16x48 .f32) (v : FVec Ideal S1x1x48x12288 .bf16) (cc : Fin 256) (r : Fin 11) :
    k0_pay61 (F := Ideal) a b c d e f g h k v (ix3 0 r cc) = k0_pay59 (F := Ideal) a b c d e f g h k v (ix3 2 r cc) := by
  unfold k0_pay61
  generalize k0_pay59 (F := Ideal) a b c d e f g h k v = A
  pointwise

end Cert.KernelIdeal.Roi
-- ==== Proof.Ideal.Body.lean ====
/- What the kernel body leaves in its output buffer, from the feature block and the region's row it was given: at every
   cell the largest of nine means, over the extended reals. -/
module

public import proofs.«01_k».proof.Proof.Ideal.Block
public import proofs.«01_k».proof.Proof.Ideal.Run
public import Idealize.ShloMosaic.Lib.VecWindow
public import Idealize.ShloMosaic.Lib.Pipeline.Value
public import Idealize.ShloMosaic.Lib.Pipeline.FrameBody

@[expose] public section

set_option maxRecDepth 16384

noncomputable section

namespace Cert.KernelIdeal.Roi

open Idealize.ShloMosaic Idealize.ShloMosaic.TcCoe Idealize.ShloMosaic.Tactic
open Cert.KernelIdeal Cert.KernelIdeal.Gen Cert.Roi

/-! ## The region's numbers -/

section
variable (x1 : Vec Ideal S1x1x128 .f32)

theorem pay3_at : k0_pay3 (F := Ideal) x1 = x1 (ix3 0 0 1) * ((1 / 8 : ℝ) : EReal) := by
  unfold k0_pay3 k0_pay2; pointwise; rw [bits_eighth]
theorem pay4_at : k0_pay4 (F := Ideal) x1 = x1 (ix3 0 0 2) * ((1 / 8 : ℝ) : EReal) := by
  unfold k0_pay4 k0_pay2; pointwise; rw [bits_eighth]
theorem pay5_at : k0_pay5 (F := Ideal) x1 = bin (x1 (ix3 0 0 2)) (x1 (ix3 0 0 4)) := by
  unfold k0_pay5 k0_pay4 k0_pay2; pointwise; rw [bits_eighth, bits_10]; rfl
theorem pay6_at : k0_pay6 (F := Ideal) x1 = bin (x1 (ix3 0 0 1)) (x1 (ix3 0 0 3)) := by
  unfold k0_pay6 k0_pay3 k0_pay2; pointwise; rw [bits_eighth, bits_10]; rfl

theorem pay7_at (h : x1 (ix3 0 0 4) - x1 (ix3 0 0 2) ≤ ((288 : ℝ) : EReal)) : k0_pay7 (F := Ideal) x1 = (1 : EReal) := by
  obtain ⟨b, h0, h1, e⟩ := bin_real _ _ h
  have h5 := pay5_at x1
  unfold k0_pay7
  generalize k0_pay5 (F := Ideal) x1 = v at h5 ⊢
  pointwise
  rw [h5, e, bits_3]
  exact stride_one b h0 h1

theorem pay8_at (h : x1 (ix3 0 0 3) - x1 (ix3 0 0 1) ≤ ((288 : ℝ) : EReal)) : k0_pay8 (F := Ideal) x1 = (1 : EReal) := by
  obtain ⟨b, h0, h1, e⟩ := bin_real _ _ h
  have h5 := pay6_at x1
  unfold k0_pay8
  generalize k0_pay6 (F := Ideal) x1 = v at h5 ⊢
  pointwise
  rw [h5, e, bits_3]
  exact stride_one b h0 h1

end

/-- A window corner as a float. -/
theorem sitofp_winWord (v : BitVec 32) :
    (FloatOps.sitofp (F := Ideal) .f32 (winWord v) : EReal) = (((winWord v).toNat : ℝ) : EReal) := by
  show ((((winWord v).toInt : ℤ) : ℝ) : EReal) = _
  rw [← winWord_toNat]; simp

/-- A finite sum of reals, as extended reals. -/
theorem coe_sum {n : ℕ} (f : Fin n → ℝ) : ((∑ i, f i : ℝ) : EReal) = ∑ i, (f i : EReal) :=
  map_sum (⟨⟨fun x : ℝ => (x : EReal), EReal.coe_zero⟩, EReal.coe_add⟩ : ℝ →+ EReal) f Finset.univ

/-- One group's weighted sums are the means. -/
theorem acc_mean (a b : FVec Ideal S16x48 .f32) (f : FVec Ideal S1x1x48x12288 .bf16) (w : Fin 16) (h : Fin 11) (cc : Fin 256)
    (y0 x0 : ℕ) (hh ww : EReal) (g : ℕ → ℕ → ℝ)
    (ha : ∀ y : Fin 48, a (ix2 ⟨h, by omega⟩ y) = ((wgt y0 hh y : ℝ) : EReal)) (hb : ∀ x : Fin 48, b (ix2 w x) = ((wgt x0 ww x : ℝ) : EReal))
    (hf : ∀ y x : Fin 48, f (ix4 0 0 y ⟨x * 256 + cc, by omega⟩) = ((g (y + y0) (x + x0) : ℝ) : EReal))
    (hy : Reach y0 hh) (hx : Reach x0 ww) :
    k0_pay69 (F := Ideal) a b f (ix3 w h cc) = ((mean hh ww g : ℝ) : EReal) := by
  rw [acc_at, ← sum_sum_wgt y0 x0 hh ww g hy hx, coe_sum]
  refine Finset.sum_congr rfl fun x _ => ?_
  rw [EReal.coe_mul, hb, coe_sum]
  congr 1
  refine Finset.sum_congr rfl fun y _ => ?_
  rw [EReal.coe_mul, ha, hf]

/-! ## The values of the body's run -/

section
variable (arg2 : Memref sig .tc .vmem S1x2x96x24576 .bf16) (arg3 : Memref sig .tc .vmem S1x1x128 .f32)
  (x0 : Vec Ideal S1x2x96x24576 .bf16) (x1 : Vec Ideal S1x1x128 .f32)

theorem bodyOut_eq (c : Dev nD) (i : grid0.Coords) (harg2 : arg2.IsWhole) (harg3 : arg3.IsWhole)
    (arg4 : Memref sig .tc .vmem S1x5x5x512 .f32) (harg4 : arg4.IsWhole) (T0 : TbBuf (F := Ideal) c tbM) :
    bodyOut c i arg2 harg2 arg3 harg3 arg4 harg4 T0 x0 x1
      = k0_pay1 (kernelRun.sl.r_46 arg2 arg3 x0 x1) (kernelRun.sl.r_47 arg2 arg3 x0 x1) (kernelRun.sl.r_48 arg2 arg3 x0 x1)
          (kernelRun.sl.r_49 arg2 arg3 x0 x1) (kernelRun.sl.r_50 arg2 arg3 x0 x1) (kernelRun.sl.r_51 arg2 arg3 x0 x1) := by
  unfold bodyOut; rw [View.read_writes_junk_eq_canon]; unfold kernelRun; dsimp only; unfold kernelRun.sl.HO2_1
  exact View.canon_unit_zero (by funext a; fin_cases a <;> rfl) _ _

/-- The window's corners as the run names them. -/
def corY : BitVec 32 := winWord (kernelRun.sl.v27 (F := Ideal) arg3 x1)
def corX : BitVec 32 := winWord (kernelRun.sl.v52 (F := Ideal) arg3 x1)

/-- The centre of row `h` of the grid of bins, and of column `w`. -/
def cenY (h : ℕ) : EReal := x1 (ix3 0 0 2) * ((1 / 8 : ℝ) : EReal) + ((h : ℝ) : EReal) * bin (x1 (ix3 0 0 2)) (x1 (ix3 0 0 4))
def cenX (w : ℕ) : EReal := x1 (ix3 0 0 1) * ((1 / 8 : ℝ) : EReal) + ((w : ℝ) : EReal) * bin (x1 (ix3 0 0 1)) (x1 (ix3 0 0 3))

theorem r_at : kernelRun.sl.r (F := Ideal) arg3 x1 = x1 (ix3 0 0 1) * ((1 / 8 : ℝ) : EReal) := by
  unfold kernelRun.sl.r; rw [View.readAt_rep_full]; exact pay3_at x1
theorem r1_at : kernelRun.sl.r_1 (F := Ideal) arg3 x1 = x1 (ix3 0 0 2) * ((1 / 8 : ℝ) : EReal) := by
  unfold kernelRun.sl.r_1; rw [View.readAt_rep_full]; exact pay4_at x1
theorem r2_at : kernelRun.sl.r_2 (F := Ideal) arg3 x1 = bin (x1 (ix3 0 0 2)) (x1 (ix3 0 0 4)) := by
  unfold kernelRun.sl.r_2; rw [View.readAt_rep_full]; exact pay5_at x1
theorem r3_at : kernelRun.sl.r_3 (F := Ideal) arg3 x1 = bin (x1 (ix3 0 0 1)) (x1 (ix3 0 0 3)) := by
  unfold kernelRun.sl.r_3; rw [View.readAt_rep_full]; exact pay6_at x1
theorem r4_at (h : x1 (ix3 0 0 4) - x1 (ix3 0 0 2) ≤ ((288 : ℝ) : EReal)) : kernelRun.sl.r_4 (F := Ideal) arg3 x1 = (1 : EReal) := by
  unfold kernelRun.sl.r_4; rw [View.readAt_rep_full]; exact pay7_at x1 h
theorem r5_at (h : x1 (ix3 0 0 3) - x1 (ix3 0 0 1) ≤ ((288 : ℝ) : EReal)) : kernelRun.sl.r_5 (F := Ideal) arg3 x1 = (1 : EReal) := by
  unfold kernelRun.sl.r_5; rw [View.readAt_rep_full]; exact pay8_at x1 h
theorem r6_at : kernelRun.sl.r_6 (F := Ideal) arg3 x1 = (((corY arg3 x1).toNat : ℝ) : EReal) :=
  sitofp_winWord (kernelRun.sl.v27 (F := Ideal) arg3 x1)
theorem r7_at : kernelRun.sl.r_7 (F := Ideal) arg3 x1 = (((corX arg3 x1).toNat : ℝ) : EReal) :=
  sitofp_winWord (kernelRun.sl.v52 (F := Ideal) arg3 x1)

theorem v27_at : kernelRun.sl.v27 (F := Ideal) arg3 x1
    = Ideal.fptosi 32 (Ideal.liftRound Int.floor (x1 (ix3 0 0 2) * ((1 / 8 : ℝ) : EReal))) := by
  unfold kernelRun.sl.v27; rw [View.readAt_rep_full]; rw [← pay4_at x1]; rfl
theorem v52_at : kernelRun.sl.v52 (F := Ideal) arg3 x1
    = Ideal.fptosi 32 (Ideal.liftRound Int.floor (x1 (ix3 0 0 1) * ((1 / 8 : ℝ) : EReal))) := by
  unfold kernelRun.sl.v52; rw [← r_at arg3 x1]; rfl

theorem reachY (h : x1 (ix3 0 0 4) - x1 (ix3 0 0 2) ≤ ((288 : ℝ) : EReal)) (k : ℕ) (hk : k < 11) :
    Reach (corY arg3 x1).toNat (cenY x1 k) := by
  obtain ⟨b, h0, h1, e⟩ := bin_real _ _ h
  have hk' : (k : ℝ) ≤ 10 := by exact_mod_cast (by omega : k ≤ 10)
  unfold corY cenY
  rw [v27_at, e, ← EReal.coe_mul]
  exact reach _ _ (by positivity) (by nlinarith)
theorem reachX (h : x1 (ix3 0 0 3) - x1 (ix3 0 0 1) ≤ ((288 : ℝ) : EReal)) (k : ℕ) (hk : k < 11) :
    Reach (corX arg3 x1).toNat (cenX x1 k) := by
  obtain ⟨b, h0, h1, e⟩ := bin_real _ _ h
  have hk' : (k : ℝ) ≤ 10 := by exact_mod_cast (by omega : k ≤ 10)
  unfold corX cenX
  rw [v52_at, e, ← EReal.coe_mul]
  exact reach _ _ (by positivity) (by nlinarith)

/-- The run's weights along the height. -/
theorem r36_at (h : x1 (ix3 0 0 4) - x1 (ix3 0 0 2) ≤ ((288 : ℝ) : EReal)) (p : Fin 16) (hp : (p : ℕ) < 11) (y : Fin 48) :
    kernelRun.sl.r_36 (F := Ideal) arg3 x1 (ix2 p y) = ((wgt (corY arg3 x1).toNat (cenY x1 p) y : ℝ) : EReal) := by
  unfold kernelRun.sl.r_36 kernelRun.sl.r_32 kernelRun.sl.r_33 kernelRun.sl.r_27 kernelRun.sl.r_28 kernelRun.sl.r_29
    kernelRun.sl.r_30 kernelRun.sl.r_31 kernelRun.sl.r_20 kernelRun.sl.r_21 kernelRun.sl.r_15 kernelRun.sl.r_16 kernelRun.sl.r_19
    kernelRun.sl.r_11 kernelRun.sl.r_12 kernelRun.sl.r_13 kernelRun.sl.r_14 kernelRun.sl.r_8 kernelRun.sl.r_10
  rw [r4_at arg3 x1 h]
  have hc : k0_pay16 (F := Ideal) (kernelRun.sl.r_1 arg3 x1) (kernelRun.sl.r_2 arg3 x1) k0_pay13 (ix2 p 0) = cenY x1 p := by
    rw [pay16_at, r1_at, r2_at]; rfl
  exact weightH _ _ _ _ p y _ _ _ _ _ (r6_at arg3 x1) hc hc (pay18_at p hp) (pay18_at p hp) (pay14_at p y)

/-- The run's weights along the width. -/
theorem r37_at (h : x1 (ix3 0 0 3) - x1 (ix3 0 0 1) ≤ ((288 : ℝ) : EReal)) (p : Fin 16) (hp : (p : ℕ) < 11) (y : Fin 48) :
    kernelRun.sl.r_37 (F := Ideal) arg3 x1 (ix2 p y) = ((wgt (corX arg3 x1).toNat (cenX x1 p) y : ℝ) : EReal) := by
  unfold kernelRun.sl.r_37 kernelRun.sl.r_25 kernelRun.sl.r_26 kernelRun.sl.r_34 kernelRun.sl.r_35 kernelRun.sl.r_17
    kernelRun.sl.r_18 kernelRun.sl.r_22 kernelRun.sl.r_23 kernelRun.sl.r_24 kernelRun.sl.r_9 kernelRun.sl.r_10
  rw [r5_at arg3 x1 h]
  have hc : k0_pay17 (F := Ideal) (kernelRun.sl.r arg3 x1) (kernelRun.sl.r_3 arg3 x1) k0_pay13 (ix2 p 0) = cenX x1 p := by
    rw [pay17_at, r_at, r3_at]; rfl
  exact weightW _ _ p y _ _ _ _ (r7_at arg3 x1) hc (pay18_at p hp) (pay14_at p y)

/-- The first group's window, as the run loads it. -/
def win0 : FVec Ideal S1x1x48x12288 .bf16 :=
  View.readAt (Elt Ideal) arg2.view
    (Rect.unit (s := S1x2x96x24576) (k0_off2 (kernelRun.sl.v27 (F := Ideal) arg3 x1) (kernelRun.sl.v52 (F := Ideal) arg3 x1)) S1x1x48x12288.size (chk2 _ _).2.1).toLoadRect
    (arg2.view.rep x0)
/-- The second group's window. -/
def win1 : FVec Ideal S1x1x48x12288 .bf16 :=
  View.readAt (Elt Ideal) arg2.view
    (Rect.unit (s := S1x2x96x24576) (k0_off3 (kernelRun.sl.v27 (F := Ideal) arg3 x1) (kernelRun.sl.v52 (F := Ideal) arg3 x1)) S1x1x48x12288.size (chk2 _ _).2.2).toLoadRect
    (arg2.view.rep x0)

theorem win0_at (y x : Fin 48) (cc : Fin 256) :
    win0 arg2 arg3 x0 x1 (ix4 0 0 y ⟨x * 256 + cc, by omega⟩)
      = x0 (ix4 0 0 ⟨y + (corY arg3 x1).toNat, by have := winWord_le (kernelRun.sl.v27 (F := Ideal) arg3 x1); unfold corY; omega⟩
          ⟨(x + (corX arg3 x1).toNat) * 256 + cc, by have := winWord_le (kernelRun.sl.v52 (F := Ideal) arg3 x1); unfold corX; omega⟩) := by
  unfold win0
  rw [View.readAt_rep]
  refine congrArg x0 (funext fun a => Fin.ext ?_)
  fin_cases a
  · rfl
  · rfl
  · show (corY arg3 x1).toNat + 1 * (y : ℕ) = y + (corY arg3 x1).toNat
    omega
  · show (Scalar.muli (corX arg3 x1) 256#32).toNat + 1 * (x * 256 + cc : ℕ) = (x + (corX arg3 x1).toNat) * 256 + cc
    unfold corX; rw [winWord_mul_toNat]; ring

theorem win1_at (y x : Fin 48) (cc : Fin 256) :
    win1 arg2 arg3 x0 x1 (ix4 0 0 y ⟨x * 256 + cc, by omega⟩)
      = x0 (ix4 0 1 ⟨y + (corY arg3 x1).toNat, by have := winWord_le (kernelRun.sl.v27 (F := Ideal) arg3 x1); unfold corY; omega⟩
          ⟨(x + (corX arg3 x1).toNat) * 256 + cc, by have := winWord_le (kernelRun.sl.v52 (F := Ideal) arg3 x1); unfold corX; omega⟩) := by
  unfold win1
  rw [View.readAt_rep]
  refine congrArg x0 (funext fun a => Fin.ext ?_)
  fin_cases a
  · rfl
  · rfl
  · show (corY arg3 x1).toNat + 1 * (y : ℕ) = y + (corY arg3 x1).toNat
    omega
  · show (Scalar.muli (corX arg3 x1) 256#32).toNat + 1 * (x * 256 + cc : ℕ) = (x + (corX arg3 x1).toNat) * 256 + cc
    unfold corX; rw [winWord_mul_toNat]; ring

/-- The block the body leaves: at every cell the largest of nine means of the channel's map. -/
theorem bodyOut_at (c : Dev nD) (i : grid0.Coords) (harg2 : arg2.IsWhole) (harg3 : arg3.IsWhole)
    (arg4 : Memref sig .tc .vmem S1x5x5x512 .f32) (harg4 : arg4.IsWhole) (T0 : TbBuf (F := Ideal) c tbM)
    (hY : x1 (ix3 0 0 4) - x1 (ix3 0 0 2) ≤ ((288 : ℝ) : EReal)) (hX : x1 (ix3 0 0 3) - x1 (ix3 0 0 1) ≤ ((288 : ℝ) : EReal))
    (g : ℕ → ℕ → ℕ → ℝ)
    (hg : ∀ (b : Fin 2) (y x : Fin 96) (cc : Fin 256), x0 (ix4 0 b y ⟨x * 256 + cc, by omega⟩) = ((g (b * 256 + cc) y x : ℝ) : EReal))
    (p q : Fin 5) (ch : Fin 512) :
    bodyOut c i arg2 harg2 arg3 harg3 arg4 harg4 T0 x0 x1 (ix4 0 p q ch)
      = pool (fun h w => ((mean (cenY x1 h) (cenX x1 w) (g ch) : ℝ) : EReal)) p q := by
  have ly := winWord_le (kernelRun.sl.v27 (F := Ideal) arg3 x1)
  have lx := winWord_le (kernelRun.sl.v52 (F := Ideal) arg3 x1)
  rw [bodyOut_eq, pay1_eq, pay1_at]
  split
  · rename_i hlt
    have hA : ∀ (w : Fin 16) (h : Fin 11), (w : ℕ) < 11 →
        k0_pay69 (F := Ideal) (kernelRun.sl.r_36 arg3 x1) (kernelRun.sl.r_37 arg3 x1) (win0 arg2 arg3 x0 x1) (ix3 w h ⟨ch, hlt⟩)
          = ((mean (cenY x1 h) (cenX x1 w) (g ch) : ℝ) : EReal) := fun w h hw =>
      acc_mean _ _ _ w h _ _ _ _ _ (g ch) (fun y => r36_at arg3 x1 hY _ h.isLt y) (fun x => r37_at arg3 x1 hX w hw x)
        (fun y x => by
          rw [win0_at, hg 0 ⟨y + (corY arg3 x1).toNat, by unfold corY; omega⟩ ⟨x + (corX arg3 x1).toNat, by unfold corX; omega⟩ ⟨ch, hlt⟩]
          simp)
        (reachY arg3 x1 hY h h.isLt) (reachX arg3 x1 hX w hw)
    unfold kernelRun.sl.r_46 kernelRun.sl.r_41 kernelRun.sl.r_42 kernelRun.sl.r_43 kernelRun.sl.r_44 kernelRun.sl.r_45
    have e38 : kernelRun.sl.r_38 (F := Ideal) arg2 arg3 x0 x1
        = k0_pay69 (F := Ideal) (kernelRun.sl.r_36 arg3 x1) (kernelRun.sl.r_37 arg3 x1) (win0 arg2 arg3 x0 x1) := rfl
    rw [← e38] at hA
    exact half0_at (kernelRun.sl.r_38 arg2 arg3 x0 x1)
      (kernelRun.sl.r_39 arg2 arg3 x0 x1) (kernelRun.sl.r_40 arg2 arg3 x0 x1) ⟨ch, hlt⟩
      (fun h w => ((mean (cenY x1 h) (cenX x1 w) (g ch) : ℝ) : EReal)) hA
      (fun h => by unfold kernelRun.sl.r_39 kernelRun.sl.r_38; exact pay60_at _ _ _ _ _ _ _ _ _ _ _ h)
      (fun h => by unfold kernelRun.sl.r_40 kernelRun.sl.r_38; exact pay61_at _ _ _ _ _ _ _ _ _ _ _ h) p q
  · rename_i hlt
    have hA : ∀ (w : Fin 16) (h : Fin 11), (w : ℕ) < 11 →
        k0_pay69 (F := Ideal) (kernelRun.sl.r_36 arg3 x1) (kernelRun.sl.r_37 arg3 x1) (win1 arg2 arg3 x0 x1) (ix3 w h ⟨ch - 256, by omega⟩)
          = ((mean (cenY x1 h) (cenX x1 w) (g ch) : ℝ) : EReal) := fun w h hw =>
      acc_mean _ _ _ w h _ _ _ _ _ (g ch) (fun y => r36_at arg3 x1 hY _ h.isLt y) (fun x => r37_at arg3 x1 hX w hw x)
        (fun y x => by
          rw [win1_at, hg 1 ⟨y + (corY arg3 x1).toNat, by unfold corY; omega⟩ ⟨x + (corX arg3 x1).toNat, by unfold corX; omega⟩ ⟨ch - 256, by omega⟩]
          have e : ((1 : Fin 2) : ℕ) * 256 + (ch - 256) = (ch : ℕ) := by simp; omega
          simp only [e])
        (reachY arg3 x1 hY h h.isLt) (reachX arg3 x1 hX w hw)
    exact half1_at _ _ (fun h w => ((mean (cenY x1 h) (cenX x1 w) (g ch) : ℝ) : EReal)) q
      (fun h => stack1_at (kernelRun.sl.r_36 (F := Ideal) arg3 x1) (kernelRun.sl.r_37 arg3 x1) (win1 arg2 arg3 x0 x1) _
        (fun h w => ((mean (cenY x1 h) (cenX x1 w) (g ch) : ℝ) : EReal)) hA q h) p

end

end Cert.KernelIdeal.Roi
-- ==== Proof.Ideal.Region.lean ====
/- What the launch leaves in its result array: at region `k` of the sorted order and cell `(p, q)`, for every channel, the
   largest of the cell's nine means, over the extended reals. -/
module

public import proofs.«01_k».proof.Proof.Ideal.Host
public import proofs.«01_k».proof.Proof.Ideal.Launch
public import proofs.«01_k».proof.Proof.Ideal.Body
public import Idealize.ShloMosaic.Lib.Pipeline.Covers

@[expose] public section

set_option maxRecDepth 16384

noncomputable section

namespace Cert.KernelIdeal.Roi

open Cert.KernelIdeal Cert.KernelIdeal.Gen Cert.Roi
open Idealize.ShloMosaic Idealize.ShloMosaic.TcCoe Idealize.ShloMosaic.Tactic
open Idealize.SL.Sem

variable (m : (ℓ : Loc nD τ sig) → Buf (Elt Ideal) ℓ) (hO : Ok m)

/-- The region, in the sorted order, that a point of the grid works on. -/
abbrev place (t : Fin (cfgM m hO).N) : Fin 512 := grid0.coords t 0

theorem place_toNat (i : grid0.Coords) : (BitVec.ofNat 32 (i 0).val).toNat = (i 0).val := by
  rw [BitVec.toNat_ofNat]; have h : (i 0).val < 512 := (i 0).isLt; omega

/-- The block a point takes of the features, by the index map. -/
theorem index0 (a : (pcfg0 (F := Ideal)).Adm) (t : Fin (cfg0 a).N) :
    ((cfg0 a).win 0).index t = cc0_transform_0 k0_off1_inb numel1_S1 a.1 (grid0.coords t) := rfl

/-- The feature block at a point is the image that the point's region names. -/
theorem iblk0_at (c : Dev nD) (t : Fin (cfgM m hO).N) (n : Fin 4) (hn : (batchW m 0 (ix1 (ord m 0 (place m hO t)))).toNat = n.val)
    (b : Fin 2) (y : Fin 96) (z : Fin 24576) :
    iblk m hO c 0 t (ix4 0 b y z) = V m c main_v22 (ix4 n b y z) := by
  unfold iblk
  refine congrArg (V m c main_v22) (funext fun a => Fin.ext ?_)
  refine (Pipeline.Window.rect_emb_val ((cfgM m hO).win 0) t _ a rfl).trans ?_
  have e : ((cfgM m hO).win 0).index t = ![(batchW m 0 (ix1 (ord m 0 (place m hO t)))).toNat, 0, 0, 0] :=
    (index0 (adm m hO) t).trans (transform0 m (grid0.coords t))
  rw [e, hn]
  match a with
  | ⟨0, _⟩ => show n.val * 1 + 0 = n.val; omega
  | ⟨1, _⟩ => show 0 * 2 + b.val = b.val; omega
  | ⟨2, _⟩ => show 0 * 96 + y.val = y.val; omega
  | ⟨3, _⟩ => show 0 * 24576 + z.val = z.val; omega

/-- The row at a point is the row of the point's region. -/
theorem iblk1_at (c : Dev nD) (t : Fin (cfgM m hO).N) (z : Fin 128) :
    iblk m hO c 1 t (ix3 0 0 z) = V m c main_v27 (ix3 (place m hO t) 0 z) := by
  unfold iblk
  refine congrArg (V m c main_v27) (funext fun a => Fin.ext ?_)
  refine (Pipeline.Window.rect_emb_val ((cfgM m hO).win 1) t _ a rfl).trans ?_
  have e : ((cfgM m hO).win 1).index t = ![(place m hO t).val, 0, 0] :=
    congrArg (fun n : ℕ => ![n, 0, 0]) (place_toNat (grid0.coords t))
  rw [e]
  match a with
  | ⟨0, _⟩ => show (place m hO t).val * 1 + 0 = _; exact Nat.mul_one _
  | ⟨1, _⟩ => rfl
  | ⟨2, _⟩ => show 0 * 128 + z.val = z.val; omega

/-- Every cell of the result is written by some point. -/
theorem covers2 : ((cfgM m hO).win 2).Covers := by
  refine ((cfgM m hO).win 2).covers_of_indexMap_surj rfl ?_ ?_
  · exact (by decide : ∀ a : Fin 4, 0 < S1x5x5x512.size a)
  · intro β
    have e : ∀ i : grid0.Coords, ((cfgM m hO).win 2).indexMap i = ![(i 0).val, 0, 0, 0] := fun i =>
      congrArg (fun n : ℕ => ![n, 0, 0, 0]) (place_toNat i)
    have hβ : ∀ a : Fin 4, (β a).val < ![512, 1, 1, 1] a := fun a => by
      have h : (β a).val < (S512x5x5x512.size a + S1x5x5x512.size a - 1) / S1x5x5x512.size a := (β a).isLt
      rwa [(by decide : ∀ a : Fin 4, (S512x5x5x512.size a + S1x5x5x512.size a - 1) / S1x5x5x512.size a = ![512, 1, 1, 1] a)] at h
    refine ⟨fun b => ⟨(β (0 : Fin 4)).val, ?_⟩, fun a => ?_⟩
    · obtain rfl : b = (0 : Fin 1) := Subsingleton.elim _ _
      exact hβ 0
    rw [e]
    match a with
    | ⟨0, _⟩ => rfl
    | ⟨1, _⟩ => have := hβ 1; show 0 = (β (1 : Fin 4)).val; exact (Nat.lt_one_iff.mp this).symm
    | ⟨2, _⟩ => have := hβ 2; show 0 = (β (2 : Fin 4)).val; exact (Nat.lt_one_iff.mp this).symm
    | ⟨3, _⟩ => have := hβ 3; show 0 = (β (3 : Fin 4)).val; exact (Nat.lt_one_iff.mp this).symm

/-- A region's entries, -/
abbrev roi (j : Fin 512) (i : Fin 5) : EReal := m (((0 : Dev nD) : Thread nD τ).loc main_arg1) (ix2 j i)
/-- the centre of its row `h` of bins, -/
def rowCentre (j : Fin 512) (h : ℕ) : EReal := roi m j 2 * ((1 / 8 : ℝ) : EReal) + ((h : ℝ) : EReal) * bin (roi m j 2) (roi m j 4)
/-- and of its column `w`. -/
def colCentre (j : Fin 512) (w : ℕ) : EReal := roi m j 1 * ((1 / 8 : ℝ) : EReal) + ((w : ℝ) : EReal) * bin (roi m j 1) (roi m j 3)

/-- What the inputs must satisfy for the value: the regions' extents at most 288, every feature the real `f`, and the
    region `j`'s image the `img j`-th. -/
structure Fits (f : Fin 4 → Fin 512 → ℕ → ℕ → ℝ) (img : Fin 512 → Fin 4) : Prop where
  rows : ∀ j, roi m j 4 - roi m j 2 ≤ ((288 : ℝ) : EReal)
  cols : ∀ j, roi m j 3 - roi m j 1 ≤ ((288 : ℝ) : EReal)
  feat : ∀ n c (y x : Fin 96), m (((0 : Dev nD) : Thread nD τ).loc main_arg0) (ix4 n c y x) = ((f n c y x : ℝ) : EReal)
  image : ∀ j, (batchW m 0 (ix1 j)).toNat = (img j).val

/-- What region `j` pools to. -/
def pooled (f : Fin 4 → Fin 512 → ℕ → ℕ → ℝ) (img : Fin 512 → Fin 4) (j c : Fin 512) (p q : Fin 5) : EReal :=
  pool (fun h w => ((mean (rowCentre m j h) (colCentre m j w) (f (img j) c) : ℝ) : EReal)) p q

variable {m} in
/-- What the body leaves, given the row of region `j` and the image it names. -/
theorem body_pooled {f img} (hF : Fits m f img) (j : Fin 512) {arg2 : Memref sig .tc .vmem S1x2x96x24576 .bf16} {arg3 : Memref sig .tc .vmem S1x1x128 .f32}
    {arg4 : Memref sig .tc .vmem S1x5x5x512 .f32} (h2 : arg2.IsWhole) (h3 : arg3.IsWhole) (h4 : arg4.IsWhole)
    (x0 : Vec Ideal S1x2x96x24576 .bf16) (x1 : Vec Ideal S1x1x128 .f32) (c : Dev nD) (i : grid0.Coords) (T0)
    (e1 : x1 (ix3 0 0 1) = roi m j 1) (e2 : x1 (ix3 0 0 2) = roi m j 2) (e3 : x1 (ix3 0 0 3) = roi m j 3) (e4 : x1 (ix3 0 0 4) = roi m j 4)
    (ex : ∀ (b : Fin 2) (y x : Fin 96) (cc : Fin 256), x0 (ix4 0 b y ⟨x.val * 256 + cc.val, by omega⟩)
      = ((f (img j) ⟨b.val * 256 + cc.val, by omega⟩ y x : ℝ) : EReal)) (p q : Fin 5) (ch : Fin 512) :
    bodyOut c i arg2 h2 arg3 h3 arg4 h4 T0 x0 x1 (ix4 0 p q ch) = pooled m f img j ch p q := by
  have hY : x1 (ix3 0 0 4) - x1 (ix3 0 0 2) ≤ ((288 : ℝ) : EReal) := by rw [e4, e2]; exact hF.rows j
  have hX : x1 (ix3 0 0 3) - x1 (ix3 0 0 1) ≤ ((288 : ℝ) : EReal) := by rw [e3, e1]; exact hF.cols j
  rw [bodyOut_at arg2 arg3 x0 x1 c i h2 h3 arg4 h4 T0 hY hX (fun c y x => if h : c < 512 then f (img j) ⟨c, h⟩ y x else 0)
    (fun b y x cc => (ex b y x cc).trans (by rw [dif_pos (by omega)])) p q ch]
  have eY : cenY x1 = rowCentre m j := by funext h; unfold cenY rowCentre; rw [e2, e4]
  have eX : cenX x1 = colCentre m j := by funext w; unfold cenX colCentre; rw [e1, e3]
  rw [eY, eX]
  unfold pooled
  simp only [ch.isLt, dif_pos]

variable {m} in
/-- What a point leaves in its output buffer. -/
theorem outAt_at {f img} (hF : Fits m f img) (t : Fin (cfgM m hO).N) (p q : Fin 5) (ch : Fin 512) :
    outAt m hO 0 t (ix4 0 p q ch) = pooled m f img (ord m 0 (place m hO t)) ch p q := by
  have hr : ∀ i : Fin 5, iblk m hO 0 1 t (ix3 0 0 ⟨i.val, by omega⟩) = roi m (ord m 0 (place m hO t)) i := fun i =>
    (iblk1_at m hO 0 t _).trans (V_v27 m 0 _ i)
  unfold outAt
  exact body_pooled hF _ _ _ _ _ _ 0 _ _ (hr 1) (hr 2) (hr 3) (hr 4)
    (fun b y x cc => (iblk0_at m hO 0 t _ (hF.image _) b y _).trans ((V_v22 m 0 _ b y x cc).trans (hF.feat _ _ y x))) p q ch

variable {m} in
/-- The launch's result array. -/
theorem arr_at {f img} (hF : Fits m f img) (k : Fin 512) (p q : Fin 5) (ch : Fin 512) :
    (dats m hO 0 0).arrAt 2 (cfgM m hO).N (ix4 k p q ch) = pooled m f img (ord m 0 k) ch p q := by
  have e : (dats m hO 0 0).arrAt 2 (cfgM m hO).N = fun i : S512x5x5x512.Idx => pooled m f img (ord m 0 (i 0)) (i 3) (i 1) (i 2) := by
    refine (dats m hO 0 0).arrAt_eq_of_covers 2 _ (covers2 m hO) fun t hf y => ?_
    have ei : ((cfgM m hO).win 2).index t = ![(place m hO t).val, 0, 0, 0] :=
      congrArg (fun n : ℕ => ![n, 0, 0, 0]) (place_toNat (grid0.coords t))
    obtain ⟨o, p, q, ch, rfl⟩ : ∃ (o : Fin 1) (p q : Fin 5) (ch : Fin 512), y = ix4 o p q ch :=
      ⟨y (0 : Fin 4), y (1 : Fin 4), y (2 : Fin 4), y (3 : Fin 4), by funext a; match a with | ⟨0, _⟩ => rfl | ⟨1, _⟩ => rfl | ⟨2, _⟩ => rfl | ⟨3, _⟩ => rfl⟩
    obtain rfl : o = 0 := Subsingleton.elim _ _
    have em : (((cfgM m hO).win 2).blk t).view.emb (ix4 0 p q ch) = ix4 (place m hO t) p q ch := by
      refine funext fun a => Fin.ext ?_
      refine (Pipeline.Window.rect_emb_val ((cfgM m hO).win 2) t _ a rfl).trans ?_
      rw [ei]
      match a with
      | ⟨0, _⟩ => show (place m hO t).val * 1 + 0 = _; exact Nat.mul_one _
      | ⟨1, _⟩ => show 0 * 5 + p.val = p.val; omega
      | ⟨2, _⟩ => show 0 * 5 + q.val = q.val; omega
      | ⟨3, _⟩ => show 0 * 512 + ch.val = ch.val; omega
    have ex : ((cfgM m hO).win 2).xinj ((cfgM m hO).grid.coords t) (ix4 0 p q ch) = ix4 0 p q ch := rfl
    rw [em]
    refine (cast_eq _ _).trans ?_
    rw [after2]
    refine (congrArg (outAt m hO 0 t) ex).trans ?_
    exact outAt_at hO hF t p q ch
  exact congrFun e _

end Cert.KernelIdeal.Roi

end
-- ==== Proof.Ideal.Value.lean ====
/- The kernel's run with its result named: entry `(j, c, p, q)` is what region `j` pools to at channel `c` and cell
   `(p, q)`. The host lines after the launch sort the order of the sort, which undoes it. -/
module

public import proofs.«01_k».proof.Proof.Ideal.Region

@[expose] public section

set_option maxRecDepth 16384

noncomputable section

namespace Cert.KernelIdeal.Roi

open Cert.KernelIdeal Cert.KernelIdeal.Gen Cert.Roi
open Idealize.ShloMosaic Idealize.ShloMosaic.TcCoe Idealize.ShloMosaic.Tactic
open Idealize.SL.Sem

variable (m : (ℓ : Loc nD τ sig) → Buf (Elt Ideal) ℓ) (hO : Ok m)

/-- A row of the gather that puts the regions back in their own order. -/
theorem back_at (x : FVec Ideal S512x5x5x512 .f32) (idx : IVec S512x1 32) (j n : Fin 512) (h : idx (ix2 j 0) = BitVec.ofNat 32 n.val)
    (p q : Fin 5) (ch : Fin 512) :
    Host.gather gather_S512x5x5x512_S512x1_S512x5x5x512_123_0_n_n_0_1_155512 x idx (ix4 j p q ch) = x (ix4 n p q ch) := by
  have hsi : ∀ k, gather_S512x5x5x512_S512x1_S512x5x5x512_123_0_n_n_0_1_155512.siIdx (ix4 j p q ch) k = ix2 j 0 := by
    intro k; funext b
    fin_cases b
    · rfl
    · fin_cases k; rfl
  unfold Host.gather
  refine congrArg x (funext fun a => Fin.ext ?_)
  match a with
  | ⟨0, _⟩ =>
    show min (idx (gather_S512x5x5x512_S512x1_S512x5x5x512_123_0_n_n_0_1_155512.siIdx (ix4 j p q ch) _)).toInt.toNat (512 - 1) + 0 + 0 = n.val
    rw [hsi, h, StableHlo.Predicate.toInt_ofNat_small _ (by omega)]; omega
  | ⟨1, _⟩ => show 0 + 0 + p.val = p.val; omega
  | ⟨2, _⟩ => show 0 + 0 + q.val = q.val; omega
  | ⟨3, _⟩ => show 0 + 0 + ch.val = ch.val; omega

/-- The place, in the sorted order, of region `j`. -/
abbrev inv (j : Fin 512) : Fin 512 := order (V m 0 main_v3) j

theorem ord_inv (j : Fin 512) : ord m 0 (inv m j) = j :=
  order_of_perm _ (ord m 0) (order_injective _) (fun k => V_v3 m 0 k) j

/-- The result as the host lines after the launch leave it, from the launch's result array and the order of the sort. -/
theorem out_eq (W : Valuation τ sig (Elt Ideal)) :
    StableHlo.after (List.flatten [hostOps1, hostOps1_1]) W (Proc.devRef .tc main_v37)
      = transpose S512x512x5x5 [0, 3, 1, 2] (Host.gather gather_S512x5x5x512_S512x1_S512x5x5x512_123_0_n_n_0_1_155512 (W (Proc.devRef .tc main_v28))
        (broadcastInDim S512x1 ![0] bcast_S512_S512x1_0
          (select (cmpi .slt (Host.sort2 S512 0 comparator_i32_i32_d0 (W (Proc.devRef .tc main_v3)) (iotaInDim S512 32 0)).2 (broadcastInDim S512 ![] bcast_S_S512 (constantI S_ 32 0#32)))
            (addi (Host.sort2 S512 0 comparator_i32_i32_d0 (W (Proc.devRef .tc main_v3)) (iotaInDim S512 32 0)).2 (broadcastInDim S512 ![] bcast_S_S512 (constantI S_ 32 512#32)))
            (Host.sort2 S512 0 comparator_i32_i32_d0 (W (Proc.devRef .tc main_v3)) (iotaInDim S512 32 0)).2))) transposes_S512x5x5x512_S512x512x5x5_0_3_1_2 := by
  after_reads_simp <;> rfl

/-- The same at an index. -/
theorem out_at (W : Valuation τ sig (Elt Ideal)) (hW : W (Proc.devRef .tc main_v3) = V m 0 main_v3) (j ch : Fin 512) (p q : Fin 5) :
    (StableHlo.after (List.flatten [hostOps1, hostOps1_1]) W (Proc.devRef .tc main_v37) : FVec Ideal S512x512x5x5 .f32) (ix4 j ch p q)
      = (W (Proc.devRef .tc main_v28) : FVec Ideal S512x5x5x512 .f32) (ix4 (inv m j) p q ch) := by
  rw [out_eq, hW]
  generalize W (Proc.devRef .tc main_v28) = x
  have hs : (Host.sort2 S512 0 comparator_i32_i32_d0 (V m 0 main_v3) (iotaInDim S512 32 0)).2 (ix1 j) = BitVec.ofNat 32 (inv m j).val := sort2_iota _ j
  generalize (Host.sort2 S512 0 comparator_i32_i32_d0 (V m 0 main_v3) (iotaInDim S512 32 0)).2 = s at hs ⊢
  generalize hx : broadcastInDim S512x1 ![0] bcast_S512_S512x1_0
      (select (cmpi .slt s (broadcastInDim S512 ![] bcast_S_S512 (constantI S_ 32 0#32))) (addi s (broadcastInDim S512 ![] bcast_S_S512 (constantI S_ 32 512#32))) s) = idx
  have hi : idx (ix2 j 0) = BitVec.ofNat 32 (inv m j).val := by
    rw [← hx]
    pointwise
    rw [hs]
    exact wrap_ofNat _ _
  rw [← back_at x idx j (inv m j) hi p q ch]
  generalize Host.gather _ _ _ = y
  pointwise

variable {m} in
/-- The whole run ends with region `j`'s pooled values at row `j` of the result, and the arguments as launched. -/
theorem run_value {f img} (hF : Fits m f img) (ρ : Dev nD → PrngReg) : θ_run defs (onTc (τ := τ) (main (F := Ideal))) ⟨m, fun _ => 0, ρ⟩ (fun r => ∀ c : Dev nD,
      (∀ (j ch : Fin 512) (p q : Fin 5), (r.2.mem ((c.tc : Thread nD τ).loc main_v37) : FVec Ideal S512x512x5x5 .f32) (ix4 j ch p q) = pooled m f img j ch p q)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  have hO : Ok m := ok_of m fun j => (hF.image j).trans_lt (img j).isLt
  (θ_run defs _ _).mono (fun r h c => by
    obtain rfl : c = 0 := Subsingleton.elim _ _
    refine ⟨fun j ch p q => ?_, ((h.1 0).2 main_arg0 (by decide : main_arg0 ∈ Pipeline.restRefs sig spec0)).trans (W_main_arg0 m hO _ 0),
      ((h.1 0).2 main_arg1 (by decide : main_arg1 ∈ Pipeline.restRefs sig spec0)).trans (W_main_arg1 m hO _ 0)⟩
    refine (congrFun ((h.1 0).2 main_v37 (by decide : main_v37 ∈ Pipeline.restRefs sig spec0)) (ix4 j ch p q)).trans ?_
    unfold Pipeline.afterTail
    refine (out_at m _ ?_ j ch p q).trans ?_
    · exact Pipeline.withArrays_of_ne _ 0 (V0 m 0) _ main_v3 (by exact (by decide : ∀ w, Pipeline.arrRef spec0 w ≠ main_v3))
    · refine (congrFun (Pipeline.withArrays_arr spec0 (by decide) 0 (V0 m 0) (fun w => (dats m hO 0 0).arrAt w (cfgM m hO).N) 2) _).trans ?_
      rw [arr_at hO hF, ord_inv]) (run_main m ρ hO)

end Cert.KernelIdeal.Roi

end
-- ==== Proof.Reference.Sample.lean ====
/- One of the reference's nine bilinear samples, read at an index over the extended reals. -/
module

public import proofs.«01_k».proof.Proof.Gen.ReferenceIdeal
public import proofs.«01_k».proof.Proof.Reach
public import Idealize.ShloMosaic.Lib.Pointwise
public import Idealize.ShloMosaic.Lib.Pointwise.IndexBridge

@[expose] public section

set_option maxRecDepth 16384

noncomputable section

namespace Cert.ReferenceIdeal.Roi

open Idealize.ShloMosaic Idealize.ShloMosaic.TcCoe Idealize.ShloMosaic.Tactic
open Cert.ReferenceIdeal Cert.ReferenceIdeal.Gen Cert.Roi

/-- The lower cell of each coordinate. -/
def lower (c : FVec Ideal S512x11 .f32) : FVec Ideal S512x11 .f32 :=
  minimumf (broadcastInDim S512x11 ![] bcast_S_S512x11 (id (constant S_ .f32 0x42BC0000#32)))
    (maximumf (broadcastInDim S512x11 ![] bcast_S_S512x11 (id (constant S_ .f32 0x00000000#32))) (Host.floor c))

/-- Which coordinates lie inside the map. -/
def within (c : FVec Ideal S512x11 .f32) : IVec S512x11 1 :=
  andi (cmpf .oge c (broadcastInDim S512x11 ![] bcast_S_S512x11 (constant S_ .f32 0x00000000#32)))
    (cmpf .olt c (broadcastInDim S512x11 ![] bcast_S_S512x11 (constant S_ .f32 0x42C00000#32)))

/-- Which samples lie inside the map on both axes. -/
def valid (ch cw : FVec Ideal S512x11 .f32) : IVec S512x11x11 1 :=
  andi (broadcastInDim S512x11x11 ![0, 1, 2] bcast_S512x11x1_S512x11x11_0_1_2
      (broadcastInDim S512x11x1 ![0, 1] bcast_S512x11_S512x11x1_0_1 (within ch)))
    (broadcastInDim S512x11x11 ![0, 1, 2] bcast_S512x1x11_S512x11x11_0_1_2
      (broadcastInDim S512x1x11 ![0, 2] bcast_S512x11_S512x1x11_0_2 (within cw)))

/-- The fractional parts along the height and along the width. -/
def fracH (ch : FVec Ideal S512x11 .f32) : FVec Ideal S512x11x1 .f32 :=
  broadcastInDim S512x11x1 ![0, 1] bcast_S512x11_S512x11x1_0_1 (subf ch (lower ch))
def fracW (cw : FVec Ideal S512x11 .f32) : FVec Ideal S512x1x11 .f32 :=
  broadcastInDim S512x1x11 ![0, 2] bcast_S512x11_S512x1x11_0_2 (subf cw (lower cw))

/-- The row of the flat feature table that holds the upper left neighbour. -/
def spot (base : IVec S512x1x1 32) (ch cw : FVec Ideal S512x11 .f32) : IVec S512x11x11 32 :=
  addi (broadcastInDim S512x11x11 ![0, 1, 2] bcast_S512x11x1_S512x11x11_0_1_2
      (addi (broadcastInDim S512x11x1 ![0, 1, 2] bcast_S512x1x1_S512x11x1_0_1_2 base)
        (muli (broadcastInDim S512x11x1 ![0, 1] bcast_S512x11_S512x11x1_0_1 (fptosi 32 (lower ch)))
          (broadcastInDim S512x11x1 ![] bcast_S_S512x11x1 (constantI S_ 32 96#32)))))
    (broadcastInDim S512x11x11 ![0, 1, 2] bcast_S512x1x11_S512x11x11_0_1_2
      (broadcastInDim S512x1x11 ![0, 2] bcast_S512x11_S512x1x11_0_2 (fptosi 32 (lower cw))))

/-- A row number moved along by a constant. -/
def moved (u : IVec S512x11x11 32) (n : BitVec 32) : IVec S512x11x11 32 :=
  addi u (broadcastInDim S512x11x11 ![] bcast_S_S512x11x11 (constantI S_ 32 n))

/-- The features of a neighbour. -/
def corner (f : FVec Ideal S36864x512 .f32) (u : IVec S512x11x11 32) : FVec Ideal S512x11x11x512 .f32 :=
  Host.gather gather_S36864x512_S512x11x11x1_S512x11x11x512_3_0_n_n_0_3_1512 f
    (broadcastInDim S512x11x11x1 ![0, 1, 2] bcast_S512x11x11_S512x11x11x1_0_1_2
      (select (cmpi .slt u (broadcastInDim S512x11x11 ![] bcast_S_S512x11x11 (constantI S_ 32 0#32)))
        (addi u (broadcastInDim S512x11x11 ![] bcast_S_S512x11x11 (constantI S_ 32 36864#32))) u))

/-- A value per sample, repeated over the channels. -/
def spread {α : Type} (x : S512x11x11.Idx → α) : S512x11x11x512.Idx → α :=
  broadcastInDim S512x11x11x512 ![0, 1, 2, 3] bcast_S512x11x11x1_S512x11x11x512_0_1_2_3
    (broadcastInDim S512x11x11x1 ![0, 1, 2] bcast_S512x11x11_S512x11x11x1_0_1_2 x)

/-- The product of a value per row and a value per column. -/
def cross (h : FVec Ideal S512x11x1 .f32) (w : FVec Ideal S512x1x11 .f32) : FVec Ideal S512x11x11 .f32 :=
  mulf (broadcastInDim S512x11x11 ![0, 1, 2] bcast_S512x11x1_S512x11x11_0_1_2 h)
    (broadcastInDim S512x11x11 ![0, 1, 2] bcast_S512x1x11_S512x11x11_0_1_2 w)

def restH (h : FVec Ideal S512x11x1 .f32) : FVec Ideal S512x11x1 .f32 :=
  subf (broadcastInDim S512x11x1 ![] bcast_S_S512x11x1 (constant S_ .f32 0x3F800000#32)) h
def restW (w : FVec Ideal S512x1x11 .f32) : FVec Ideal S512x1x11 .f32 :=
  subf (broadcastInDim S512x1x11 ![] bcast_S_S512x1x11 (constant S_ .f32 0x3F800000#32)) w

/-- One sample: the four neighbours' features by their weights, and zero outside the map. -/
def sample (f : FVec Ideal S36864x512 .f32) (base : IVec S512x1x1 32) (ch cw : FVec Ideal S512x11 .f32) : FVec Ideal S512x11x11x512 .f32 :=
  select (spread (valid ch cw))
    (addf (addf (addf
      (mulf (corner f (spot base ch cw)) (spread (cross (restH (fracH ch)) (restW (fracW cw)))))
      (mulf (corner f (moved (spot base ch cw) 1#32)) (spread (cross (restH (fracH ch)) (fracW cw)))))
      (mulf (corner f (moved (spot base ch cw) 96#32)) (spread (cross (fracH ch) (restW (fracW cw))))))
      (mulf (corner f (moved (moved (spot base ch cw) 96#32) 1#32)) (spread (cross (fracH ch) (fracW cw)))))
    (broadcastInDim S512x11x11x512 ![] bcast_S_S512x11x11x512 (id (constant S_ .f32 0x00000000#32)))

section
variable (ch cw : FVec Ideal S512x11 .f32) (base : IVec S512x1x1 32) (f : FVec Ideal S36864x512 .f32)
  (j : Fin 512) (p q : Fin 11) (c : Fin 512)

theorem lower_at : lower ch (ix2 j p) = cellE (ch (ix2 j p)) := by
  unfold lower; simp only [id]; pointwise; rw [bits_94]; rfl

theorem within_at : within ch (ix2 j p) = BitVec.ofBool (decide (Inside (ch (ix2 j p)))) := by
  unfold within; pointwise; rw [bits_96, andi_ofBool]; exact congrArg BitVec.ofBool (decide_eq_decide.mpr Iff.rfl)

theorem valid_at : valid ch cw (ix3 j p q)
    = BitVec.ofBool (decide (Inside (ch (ix2 j p)) ∧ Inside (cw (ix2 j q)))) := by
  have h1 := within_at ch j p
  have h2 := within_at cw j q
  unfold valid
  generalize within ch = A at h1 ⊢
  generalize within cw = B at h2 ⊢
  pointwise
  rw [h1, h2]; exact andi_ofBool _ _

theorem fracH_at : fracH ch (ix3 j p 0) = ch (ix2 j p) - cellE (ch (ix2 j p)) := by
  have h := lower_at ch j p
  unfold fracH
  generalize lower ch = A at h ⊢
  pointwise
  rw [h]
theorem fracW_at : fracW cw (ix3 j 0 p) = cw (ix2 j p) - cellE (cw (ix2 j p)) := by
  have h := lower_at cw j p
  unfold fracW
  generalize lower cw = A at h ⊢
  pointwise
  rw [h]

theorem spot_at : spot base ch cw (ix3 j p q)
    = base (ix3 j 0 0) + (Ideal.fptosi 32 (cellE (ch (ix2 j p)))) * 96#32 + Ideal.fptosi 32 (cellE (cw (ix2 j q))) := by
  have h1 := lower_at ch j p
  have h2 := lower_at cw j q
  unfold spot
  generalize lower ch = A at h1 ⊢
  generalize lower cw = B at h2 ⊢
  pointwise
  rw [h1, h2]
  rfl

theorem moved_at (u : IVec S512x11x11 32) (n : BitVec 32) : moved u n (ix3 j p q) = u (ix3 j p q) + n := by
  unfold moved; pointwise; rfl

theorem gather_at (idx : IVec S512x11x11x1 32) (n : ℕ) (hn : n < 36864) (h : idx (ix4 j p q 0) = BitVec.ofNat 32 n) :
    Host.gather gather_S36864x512_S512x11x11x1_S512x11x11x512_3_0_n_n_0_3_1512 f idx (ix4 j p q c) = f (ix2 ⟨n, hn⟩ c) := by
  unfold Host.gather
  refine congrArg f (funext fun a => Fin.ext ?_)
  have hsi : ∀ k, gather_S36864x512_S512x11x11x1_S512x11x11x512_3_0_n_n_0_3_1512.siIdx (ix4 j p q c) k = ix4 j p q 0 := by
    intro k; funext b; fin_cases b
    · rfl
    · rfl
    · rfl
    · fin_cases k; rfl
  match a with
  | ⟨0, _⟩ =>
    show min (idx (gather_S36864x512_S512x11x11x1_S512x11x11x512_3_0_n_n_0_3_1512.siIdx (ix4 j p q c) _)).toInt.toNat (36864 - 1) + 0 + 0 = n
    rw [hsi, h, StableHlo.Predicate.toInt_ofNat_small _ (by omega)]
    omega
  | ⟨1, _⟩ =>
    show 0 + 0 + (c : ℕ) = c
    omega

theorem corner_at (u : IVec S512x11x11 32) (n : ℕ) (hn : n < 36864) (h : u (ix3 j p q) = BitVec.ofNat 32 n) :
    corner f u (ix4 j p q c) = f (ix2 ⟨n, hn⟩ c) := by
  unfold corner
  refine gather_at f j p q c _ n hn ?_
  pointwise
  rw [h]
  have e : IntOp.cmpi .slt (BitVec.ofNat 32 n) 0#32 = 0#1 := by
    show BitVec.ofBool (BitVec.slt _ _) = _
    rw [BitVec.slt, StableHlo.Predicate.toInt_ofNat_small _ (by omega)]
    have : ¬((n : ℤ) < (0#32 : BitVec 32).toInt) := by simp
    rw [decide_eq_false this]; rfl
  rw [e]; rfl

theorem spread_at {α : Type} (x : S512x11x11.Idx → α) : spread x (ix4 j p q c) = x (ix3 j p q) := by
  unfold spread; pointwise

theorem cross_at (h : FVec Ideal S512x11x1 .f32) (w : FVec Ideal S512x1x11 .f32) :
    cross h w (ix3 j p q) = h (ix3 j p 0) * w (ix3 j 0 q) := by
  unfold cross; pointwise

theorem restH_at (h : FVec Ideal S512x11x1 .f32) : restH h (ix3 j p 0) = 1 - h (ix3 j p 0) := by
  unfold restH; pointwise
theorem restW_at (w : FVec Ideal S512x1x11 .f32) : restW w (ix3 j 0 q) = 1 - w (ix3 j 0 q) := by
  unfold restW; pointwise

/-- A cell's number as a word. -/
theorem fptosi_cell (n : ℕ) (hn : n ≤ 94) : Ideal.fptosi 32 ((n : ℝ) : EReal) = BitVec.ofNat 32 n := by
  apply BitVec.eq_of_toInt_eq
  rw [StableHlo.Predicate.toInt_ofNat_small _ (by omega)]
  exact fptosi_floor (n : ℤ) (by omega) (by omega)

/-- The sample's value: its bilinear interpolation where it lies inside the map, zero elsewhere. -/
theorem sample_at (b : Fin 4) (g : ℕ → ℕ → ℝ) (hb : base (ix3 j 0 0) = BitVec.ofNat 32 (b * 9216))
    (hg : ∀ y x : Fin 96, f (ix2 ⟨(b * 96 + y) * 96 + x, by omega⟩ c) = ((g y x : ℝ) : EReal)) :
    sample f base ch cw (ix4 j p q c)
      = ((ins (ch (ix2 j p)) * ins (cw (ix2 j q)) * bilin (ch (ix2 j p)) (cw (ix2 j q)) g : ℝ) : EReal) := by
  have hv := valid_at ch cw j p q
  have hfh := fracH_at ch j p
  have hfw := fracW_at cw j q
  have hs := spot_at ch cw base j p q
  unfold sample
  generalize hh : ch (ix2 j p) = h at hv hfh hs ⊢
  generalize hw : cw (ix2 j q) = w at hv hfw hs ⊢
  show Scalar.select (spread (valid ch cw) (ix4 j p q c))
    (corner f (spot base ch cw) (ix4 j p q c) * spread (cross (restH (fracH ch)) (restW (fracW cw))) (ix4 j p q c)
      + corner f (moved (spot base ch cw) 1#32) (ix4 j p q c) * spread (cross (restH (fracH ch)) (fracW cw)) (ix4 j p q c)
      + corner f (moved (spot base ch cw) 96#32) (ix4 j p q c) * spread (cross (fracH ch) (restW (fracW cw))) (ix4 j p q c)
      + corner f (moved (moved (spot base ch cw) 96#32) 1#32) (ix4 j p q c) * spread (cross (fracH ch) (fracW cw)) (ix4 j p q c))
    (Ideal.ofBits .f32 0x00000000#32) = _
  rw [spread_at, spread_at, spread_at, spread_at, spread_at, cross_at, cross_at, cross_at, cross_at, restH_at, restW_at, hfh, hfw, hv]
  by_cases hi : Inside h ∧ Inside w
  · obtain ⟨h1, h2⟩ := hi
    have c1 := cell_le h
    have c2 := cell_le w
    have es : spot base ch cw (ix3 j p q) = BitVec.ofNat 32 ((b * 96 + cell h) * 96 + cell w) := by
      rw [hs, hb, cellE_inside h1, cellE_inside h2, fptosi_cell _ c1, fptosi_cell _ c2]
      apply BitVec.eq_of_toNat_eq
      simp only [BitVec.toNat_add, BitVec.toNat_mul, BitVec.toNat_ofNat]
      omega
    have e1 : moved (spot base ch cw) 1#32 (ix3 j p q) = BitVec.ofNat 32 ((b * 96 + cell h) * 96 + (cell w + 1)) := by
      rw [moved_at, es]
      apply BitVec.eq_of_toNat_eq
      simp only [BitVec.toNat_add, BitVec.toNat_ofNat]
      omega
    have e2 : moved (spot base ch cw) 96#32 (ix3 j p q) = BitVec.ofNat 32 ((b * 96 + (cell h + 1)) * 96 + cell w) := by
      rw [moved_at, es]
      apply BitVec.eq_of_toNat_eq
      simp only [BitVec.toNat_add, BitVec.toNat_ofNat]
      omega
    have e3 : moved (moved (spot base ch cw) 96#32) 1#32 (ix3 j p q) = BitVec.ofNat 32 ((b * 96 + (cell h + 1)) * 96 + (cell w + 1)) := by
      rw [moved_at, e2]
      apply BitVec.eq_of_toNat_eq
      simp only [BitVec.toNat_add, BitVec.toNat_ofNat]
      omega
    have g0 := hg ⟨cell h, by omega⟩ ⟨cell w, by omega⟩
    have g1 := hg ⟨cell h, by omega⟩ ⟨cell w + 1, by omega⟩
    have g2 := hg ⟨cell h + 1, by omega⟩ ⟨cell w, by omega⟩
    have g3 := hg ⟨cell h + 1, by omega⟩ ⟨cell w + 1, by omega⟩
    rw [corner_at f j p q c _ _ (by omega) es, corner_at f j p q c _ _ (by omega) e1, corner_at f j p q c _ _ (by omega) e2,
      corner_at f j p q c _ _ (by omega) e3, g0, g1, g2, g3, frac_inside h1, frac_inside h2,
      decide_eq_true (show Inside h ∧ Inside w from ⟨h1, h2⟩)]
    have i1 : ins h = 1 := by unfold ins; rw [if_pos h1]
    have i2 : ins w = 1 := by unfold ins; rw [if_pos h2]
    rw [i1, i2, one_mul, one_mul]
    unfold bilin
    show _ + _ + _ + _ = _
    norm_cast
  · rw [decide_eq_false hi]
    have e : ins h * ins w = 0 := by
      unfold ins
      by_cases h1 : Inside h
      · rw [if_neg (fun h2 => hi ⟨h1, h2⟩), mul_zero]
      · rw [if_neg h1, zero_mul]
    rw [e, zero_mul]
    show Ideal.ofBits .f32 0x00000000#32 = _
    simp

end

end Cert.ReferenceIdeal.Roi
-- ==== Proof.Reference.Value.lean ====
/- The reference's value at an index: the mean of nine bilinear samples about a bin's centre, before the pooling. -/
module

public import proofs.«01_k».proof.Proof.Gen.ReferenceIdeal.Run
public import proofs.«01_k».proof.Proof.Reference.Sample
public import proofs.«01_k».proof.Proof.Pool

@[expose] public section

set_option maxRecDepth 16384

noncomputable section

namespace Cert.ReferenceIdeal.Roi

open Idealize.ShloMosaic Idealize.ShloMosaic.TcCoe Idealize.ShloMosaic.Tactic
open Idealize.SL Idealize.SL.Sem
open Cert.ReferenceIdeal Cert.ReferenceIdeal.Gen Cert.ReferenceIdeal.Value Cert.Roi

variable (V : Valuation τ sig (Elt Ideal))

/-- The regions, by row and column. -/
def roi (j : Fin 512) (k : Fin 5) : EReal := V (Proc.devRef .tc main_arg1) (ix2 j k)

/-- The centre of row `p` of region `j`'s grid of bins, and of column `q`. -/
def cenY (j : Fin 512) (p : ℕ) : EReal := roi V j 2 * ((1 / 8 : ℝ) : EReal) + ((p : ℝ) : EReal) * bin (roi V j 2) (roi V j 4)
def cenX (j : Fin 512) (q : ℕ) : EReal := roi V j 1 * ((1 / 8 : ℝ) : EReal) + ((q : ℝ) : EReal) * bin (roi V j 1) (roi V j 3)

section
variable (j : Fin 512) (p q : Fin 11) (c : Fin 512)

theorem v26_at : res_main_v26 V (ix1 j) = bin (roi V j 2) (roi V j 4) := by
  unfold res_main_v26 res_main_v10; pointwise; rw [bits_eighth, bits_10]; rfl
theorem v28_at : res_main_v28 V (ix1 j) = bin (roi V j 1) (roi V j 3) := by
  unfold res_main_v28 res_main_v6; pointwise; rw [bits_eighth, bits_10]; rfl

theorem v38_at : res_main_v38 V (ix2 j p) = cenY V j p := by
  have h := v26_at V j
  unfold res_main_v38 res_main_v10
  generalize res_main_v26 V = B at h ⊢
  pointwise; rw [h, bits_eighth, sitofp_ofNat _ (by omega)]; rfl
theorem v46_at : res_main_v46 V (ix2 j p) = cenX V j p := by
  have h := v28_at V j
  unfold res_main_v46 res_main_v6
  generalize res_main_v28 V = B at h ⊢
  pointwise; rw [h, bits_eighth, sitofp_ofNat _ (by omega)]; rfl

theorem v51_at (h : roi V j 4 - roi V j 2 ≤ ((288 : ℝ) : EReal)) : res_main_v51 V (ix1 j) = (1 : EReal) := by
  obtain ⟨b, h0, h1, e⟩ := bin_real _ _ h
  have h5 := v26_at V j
  unfold res_main_v51
  generalize res_main_v26 V = B at h5 ⊢
  pointwise; rw [h5, e, bits_3]
  exact stride_one b h0 h1
theorem v56_at (h : roi V j 3 - roi V j 1 ≤ ((288 : ℝ) : EReal)) : res_main_v56 V (ix1 j) = (1 : EReal) := by
  obtain ⟨b, h0, h1, e⟩ := bin_real _ _ h
  have h5 := v28_at V j
  unfold res_main_v56
  generalize res_main_v28 V = B at h5 ⊢
  pointwise; rw [h5, e, bits_3]
  exact stride_one b h0 h1

/-- A sample's coordinates: the centres moved by a multiple of the stride. -/
def shifted (x : FVec Ideal S512x11 .f32) (s : FVec Ideal S512 .f32) (k : BitVec 32) : FVec Ideal S512x11 .f32 :=
  addf x (broadcastInDim S512x11 ![0, 1] bcast_S512x1_S512x11_0_1
    (mulf (broadcastInDim S512x1 ![] bcast_S_S512x1 (constant S_ .f32 k)) (broadcastInDim S512x1 ![0] bcast_S512_S512x1_0 s)))

theorem shifted_at (x : FVec Ideal S512x11 .f32) (s : FVec Ideal S512 .f32) (hs : s (ix1 j) = 1) (i : Fin 3) :
    shifted x s (![0xBF800000#32, 0x00000000#32, 0x3F800000#32] i) (ix2 j p) = nb (x (ix2 j p)) i := by
  unfold shifted nb
  fin_cases i
  · show shifted x s 0xBF800000#32 (ix2 j p) = _
    unfold shifted; pointwise; rw [hs, bits_neg_one]; simp
  · show shifted x s 0x00000000#32 (ix2 j p) = _
    unfold shifted; pointwise; rw [hs, zero_mul, add_zero]
  · show shifted x s 0x3F800000#32 (ix2 j p) = _
    unfold shifted; pointwise; rw [hs]; simp

/-- The three samples' coordinates on each axis. -/
def sY (i : Fin 3) : FVec Ideal S512x11 .f32 := shifted (res_main_v38 V) (res_main_v51 V) (![0xBF800000#32, 0x00000000#32, 0x3F800000#32] i)
def sX (i : Fin 3) : FVec Ideal S512x11 .f32 := shifted (res_main_v46 V) (res_main_v56 V) (![0xBF800000#32, 0x00000000#32, 0x3F800000#32] i)

theorem sY_at (h : roi V j 4 - roi V j 2 ≤ ((288 : ℝ) : EReal)) (i : Fin 3) : sY V i (ix2 j p) = nb (cenY V j p) i := by
  unfold sY; rw [shifted_at j p _ _ (v51_at V j h), v38_at]
theorem sX_at (h : roi V j 3 - roi V j 1 ≤ ((288 : ℝ) : EReal)) (i : Fin 3) : sX V i (ix2 j p) = nb (cenX V j p) i := by
  unfold sX; rw [shifted_at j p _ _ (v56_at V j h), v46_at]

/-- One sample of the reference. -/
def smp (s t : Fin 3) : FVec Ideal S512x11x11x512 .f32 := sample (res_main_v73 V) (res_main_v76 V) (sY V s) (sX V t)

theorem v328_eq : res_main_v328 V = addf (addf (broadcastInDim S512x11x11x512 ![] bcast_S_S512x11x11x512 (constant S_ .f32 0x00000000#32)) (smp V 0 0)) (smp V 0 1) := rfl
theorem v580_eq : res_main_v580 V = addf (addf (res_main_v328 V) (smp V 0 2)) (smp V 1 0) := rfl
theorem v832_eq : res_main_v832 V = addf (addf (res_main_v580 V) (smp V 1 1)) (smp V 1 2) := rfl
theorem v1084_eq : res_main_v1084 V = addf (addf (res_main_v832 V) (smp V 2 0)) (smp V 2 1) := rfl

/-- How many samples lie inside the map. -/
def cnt : FVec Ideal S512x11x11 .f32 :=
  addf (addf (addf (addf (addf (addf (addf (addf (addf (broadcastInDim S512x11x11 ![] bcast_S_S512x11x11 (constant S_ .f32 0x00000000#32))
    (uitofp .f32 (valid (sY V 0) (sX V 0)))) (uitofp .f32 (valid (sY V 0) (sX V 1)))) (uitofp .f32 (valid (sY V 0) (sX V 2))))
    (uitofp .f32 (valid (sY V 1) (sX V 0)))) (uitofp .f32 (valid (sY V 1) (sX V 1)))) (uitofp .f32 (valid (sY V 1) (sX V 2))))
    (uitofp .f32 (valid (sY V 2) (sX V 0)))) (uitofp .f32 (valid (sY V 2) (sX V 1)))) (uitofp .f32 (valid (sY V 2) (sX V 2)))

theorem v1218_eq : res_main_v1218 V = Host.divf (addf (res_main_v1084 V) (smp V 2 2))
    (spread (maximumf (cnt V) (broadcastInDim S512x11x11 ![] bcast_S_S512x11x11 (constant S_ .f32 0x3F800000#32)))) := rfl

theorem v73_at (n : Fin 36864) : res_main_v73 V (ix2 n c)
    = V (Proc.devRef .tc main_arg0) (ix4 ⟨n / 9216, by omega⟩ c ⟨n / 96 % 96, by omega⟩ ⟨n % 96, by omega⟩) := by
  unfold res_main_v73; pointwise

theorem v76_at : res_main_v76 V (ix3 j 0 0) = Ideal.fptosi 32 (roi V j 0) * 9216#32 := by
  unfold res_main_v76; pointwise; rfl

/-- One sample's value, for a region on image `b` whose channel `c` is the map `g`. -/
theorem smp_at (b : Fin 4) (g : ℕ → ℕ → ℝ) (hb : Ideal.fptosi 32 (roi V j 0) = BitVec.ofNat 32 b)
    (hg : ∀ y x : Fin 96, V (Proc.devRef .tc main_arg0) (ix4 b c y x) = ((g y x : ℝ) : EReal))
    (hY : roi V j 4 - roi V j 2 ≤ ((288 : ℝ) : EReal)) (hX : roi V j 3 - roi V j 1 ≤ ((288 : ℝ) : EReal)) (s t : Fin 3) :
    smp V s t (ix4 j p q c) = ((ins (nb (cenY V j p) s) * ins (nb (cenX V j q) t) * bilin (nb (cenY V j p) s) (nb (cenX V j q) t) g : ℝ) : EReal) := by
  unfold smp
  rw [sample_at _ _ _ _ j p q c b g, sY_at V j p hY, sX_at V j q hX]
  · rw [v76_at, hb]
    apply BitVec.eq_of_toNat_eq
    simp only [BitVec.toNat_mul, BitVec.toNat_ofNat]
    omega
  · intro y x
    rw [v73_at, ← hg y x]
    congr 2
    · apply Fin.ext; show ((b * 96 + y) * 96 + x : ℕ) / 9216 = b; omega
    · apply Fin.ext; show ((b * 96 + y) * 96 + x : ℕ) / 96 % 96 = y; omega
    · apply Fin.ext; show ((b * 96 + y) * 96 + x : ℕ) % 96 = x; omega

/-- A sample's validity as a float. -/
theorem uitofp_valid (hY : roi V j 4 - roi V j 2 ≤ ((288 : ℝ) : EReal)) (hX : roi V j 3 - roi V j 1 ≤ ((288 : ℝ) : EReal)) (s t : Fin 3) :
    (FloatOps.uitofp (F := Ideal) .f32 (valid (sY V s) (sX V t) (ix3 j p q)) : EReal)
      = ((ins (nb (cenY V j p) s) * ins (nb (cenX V j q) t) : ℝ) : EReal) := by
  rw [valid_at, sY_at V j p hY, sX_at V j q hX]
  unfold ins
  by_cases h1 : Inside (nb (cenY V j p) s) <;> by_cases h2 : Inside (nb (cenX V j q) t)
  · rw [decide_eq_true (show _ ∧ _ from ⟨h1, h2⟩), if_pos h1, if_pos h2]
    show (((((1#1 : BitVec 1).toNat : ℕ) : ℝ)) : EReal) = _
    simp
  · rw [decide_eq_false (fun h => h2 h.2), if_neg h2, mul_zero]
    show (((((0#1 : BitVec 1).toNat : ℕ) : ℝ)) : EReal) = _
    simp
  · rw [decide_eq_false (fun h => h1 h.1), if_neg h1, zero_mul]
    show (((((0#1 : BitVec 1).toNat : ℕ) : ℝ)) : EReal) = _
    simp
  · rw [decide_eq_false (fun h => h1 h.1), if_neg h1, zero_mul]
    show (((((0#1 : BitVec 1).toNat : ℕ) : ℝ)) : EReal) = _
    simp

theorem cnt_at (hY : roi V j 4 - roi V j 2 ≤ ((288 : ℝ) : EReal)) (hX : roi V j 3 - roi V j 1 ≤ ((288 : ℝ) : EReal)) :
    cnt V (ix3 j p q) = ((num (cenY V j p) * num (cenX V j q) : ℝ) : EReal) := by
  have h := uitofp_valid V j p q hY hX
  show Ideal.ofBits .f32 0x00000000#32
    + (FloatOps.uitofp (F := Ideal) .f32 (valid (sY V 0) (sX V 0) (ix3 j p q)) : EReal)
    + (FloatOps.uitofp (F := Ideal) .f32 (valid (sY V 0) (sX V 1) (ix3 j p q)) : EReal)
    + (FloatOps.uitofp (F := Ideal) .f32 (valid (sY V 0) (sX V 2) (ix3 j p q)) : EReal)
    + (FloatOps.uitofp (F := Ideal) .f32 (valid (sY V 1) (sX V 0) (ix3 j p q)) : EReal)
    + (FloatOps.uitofp (F := Ideal) .f32 (valid (sY V 1) (sX V 1) (ix3 j p q)) : EReal)
    + (FloatOps.uitofp (F := Ideal) .f32 (valid (sY V 1) (sX V 2) (ix3 j p q)) : EReal)
    + (FloatOps.uitofp (F := Ideal) .f32 (valid (sY V 2) (sX V 0) (ix3 j p q)) : EReal)
    + (FloatOps.uitofp (F := Ideal) .f32 (valid (sY V 2) (sX V 1) (ix3 j p q)) : EReal)
    + (FloatOps.uitofp (F := Ideal) .f32 (valid (sY V 2) (sX V 2) (ix3 j p q)) : EReal) = _
  rw [h, h, h, h, h, h, h, h, h, num_mul_num, Fin.sum_univ_three, Fin.sum_univ_three, Fin.sum_univ_three, Fin.sum_univ_three]
  have z : Ideal.ofBits .f32 0x00000000#32 = 0 := by simp
  rw [z, zero_add]
  norm_cast
  ring

/-- The mean of the nine samples. -/
theorem v1218_at (b : Fin 4) (g : ℕ → ℕ → ℝ) (hb : Ideal.fptosi 32 (roi V j 0) = BitVec.ofNat 32 b)
    (hg : ∀ y x : Fin 96, V (Proc.devRef .tc main_arg0) (ix4 b c y x) = ((g y x : ℝ) : EReal))
    (hY : roi V j 4 - roi V j 2 ≤ ((288 : ℝ) : EReal)) (hX : roi V j 3 - roi V j 1 ≤ ((288 : ℝ) : EReal)) :
    res_main_v1218 V (ix4 j p q c) = (((∑ s, ∑ t, ins (nb (cenY V j p) s) * ins (nb (cenX V j q) t)
        * bilin (nb (cenY V j p) s) (nb (cenX V j q) t) g) / max (num (cenY V j p) * num (cenX V j q)) 1 : ℝ) : EReal) := by
  have h := smp_at V j p q c b g hb hg hY hX
  rw [v1218_eq, v1084_eq, v832_eq, v580_eq, v328_eq]
  show Ideal.div (Ideal.ofBits .f32 0x00000000#32 + smp V 0 0 (ix4 j p q c) + smp V 0 1 (ix4 j p q c) + smp V 0 2 (ix4 j p q c)
    + smp V 1 0 (ix4 j p q c) + smp V 1 1 (ix4 j p q c) + smp V 1 2 (ix4 j p q c)
    + smp V 2 0 (ix4 j p q c) + smp V 2 1 (ix4 j p q c) + smp V 2 2 (ix4 j p q c)) (spread _ (ix4 j p q c)) = _
  rw [spread_at]
  show Ideal.div _ (max (cnt V (ix3 j p q)) (Ideal.ofBits .f32 0x3F800000#32)) = _
  rw [cnt_at V j p q hY hX, h, h, h, h, h, h, h, h, h, Fin.sum_univ_three, Fin.sum_univ_three, Fin.sum_univ_three, Fin.sum_univ_three]
  have z : Ideal.ofBits .f32 0x00000000#32 = 0 := by simp
  have o : Ideal.ofBits .f32 0x3F800000#32 = ((1 : ℝ) : EReal) := by simp
  have hm : max ((num (cenY V j p) * num (cenX V j q) : ℝ) : EReal) ((1 : ℝ) : EReal) = ((max (num (cenY V j p) * num (cenX V j q)) 1 : ℝ) : EReal) :=
    (EReal.coe_strictMono.monotone.map_max).symm
  rw [z, zero_add, o, hm, Ideal.div_coe (by positivity)]
  norm_cast
  ring

/-- A bin's value: the mean where the centre lies inside the map, zero elsewhere. -/
def binned : FVec Ideal S512x11x11x512 .f32 :=
  select (spread (valid (res_main_v38 V) (res_main_v46 V))) (res_main_v1218 V)
    (broadcastInDim S512x11x11x512 ![] bcast_S_S512x11x11x512 (id (constant S_ .f32 0x00000000#32)))

theorem binned_at (b : Fin 4) (g : ℕ → ℕ → ℝ) (hb : Ideal.fptosi 32 (roi V j 0) = BitVec.ofNat 32 b)
    (hg : ∀ y x : Fin 96, V (Proc.devRef .tc main_arg0) (ix4 b c y x) = ((g y x : ℝ) : EReal))
    (hY : roi V j 4 - roi V j 2 ≤ ((288 : ℝ) : EReal)) (hX : roi V j 3 - roi V j 1 ≤ ((288 : ℝ) : EReal)) :
    binned V (ix4 j p q c) = ((mean (cenY V j p) (cenX V j q) g : ℝ) : EReal) := by
  show Scalar.select (spread (valid (res_main_v38 V) (res_main_v46 V)) (ix4 j p q c)) (res_main_v1218 V (ix4 j p q c)) (Ideal.ofBits .f32 0x00000000#32) = _
  rw [spread_at, valid_at, v38_at, v46_at, v1218_at V j p q c b g hb hg hY hX]
  unfold mean
  by_cases hi : Inside (cenY V j p) ∧ Inside (cenX V j q)
  · rw [decide_eq_true hi]
    have i1 : ins (cenY V j p) = 1 := by unfold ins; rw [if_pos hi.1]
    have i2 : ins (cenX V j q) = 1 := by unfold ins; rw [if_pos hi.2]
    rw [i1, i2, one_mul, one_mul]; rfl
  · rw [decide_eq_false hi]
    have e : ins (cenY V j p) * ins (cenX V j q) = 0 := by
      unfold ins
      by_cases h1 : Inside (cenY V j p)
      · rw [if_neg (fun h2 => hi ⟨h1, h2⟩), mul_zero]
      · rw [if_neg h1, zero_mul]
    rw [e, zero_mul]
    show Ideal.ofBits .f32 0x00000000#32 = _
    simp

end

/-- The reference's result as a term of its arguments. -/
def result : FVec Ideal S512x512x5x5 .f32 :=
  Host.reduceWindow (FloatOps.maximumf (F := Ideal)) ![1, 1, 3, 3] ![1, 1, 2, 2] ![0, 0, 0, 0] ![0, 0, 0, 0]
    (transpose S512x512x11x11 [0, 3, 1, 2] (binned V) transposes_S512x11x11x512_S512x512x11x11_0_3_1_2)
    (broadcastInDim S_ ![] bcast_S_S_ (constant S_ .f32 0xFF800000#32))
    reduceWindows_S512x512x11x11_S512x512x5x5_w1s1p0_0_w1s1p0_0_w3s2p0_0_w3s2p0_0 h_S_

theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1222) = result (Idealize.ShloMosaic.StableHlo.launchContents m c) :=
  (θ_run defs _ _).mono (fun _ h c => (h c).1) (Cert.ReferenceIdeal.Value.run (F := Ideal) m ρ)

/-- The shape of one window of the pooling. -/
abbrev W9 : Shape := ⟨4, ![1, 1, 3, 3]⟩

/-- The pooling's upper bounds: those of the nine cells it covers. -/
theorem pooling_le (x : FVec Ideal S512x512x11x11 .f32) (init : FVec Ideal S_ .f32) (hinit : init (Shape.Idx.first h_S_) = (⊥ : EReal))
    (j : Fin 512) (c : Fin 512) (p q : Fin 5) (z : EReal) :
    Host.reduceWindow (FloatOps.maximumf (F := Ideal)) ![1, 1, 3, 3] ![1, 1, 2, 2] ![0, 0, 0, 0] ![0, 0, 0, 0] x init
        reduceWindows_S512x512x11x11_S512x512x5x5_w1s1p0_0_w1s1p0_0_w3s2p0_0_w3s2p0_0 h_S_ (ix4 j c p q) ≤ z
      ↔ ∀ a b : Fin 3, x (ix4 j c ⟨2 * p + a, by omega⟩ ⟨2 * q + b, by omega⟩) ≤ z := by
  have key : ∀ (w : W9.Idx) (a : Fin 4), (![0, 0, 0, 0] : Fin 4 → ℕ) a ≤ ((ix4 j c p q : S512x512x5x5.Idx) a).val * (![1, 1, 2, 2] : Fin 4 → ℕ) a + (w a).val
          ∧ ((ix4 j c p q : S512x512x5x5.Idx) a).val * (![1, 1, 2, 2] : Fin 4 → ℕ) a + (w a).val - (![0, 0, 0, 0] : Fin 4 → ℕ) a < S512x512x11x11.size a := by
    intro w a
    have h0 : (w 0).val < 1 := (w 0).isLt
    have h1 : (w 1).val < 1 := (w 1).isLt
    have h2 : (w 2).val < 3 := (w 2).isLt
    have h3 : (w 3).val < 3 := (w 3).isLt
    fin_cases a
    · exact ⟨Nat.zero_le _, show j.val * 1 + (w 0).val - 0 < 512 by omega⟩
    · exact ⟨Nat.zero_le _, show c.val * 1 + (w 1).val - 0 < 512 by omega⟩
    · exact ⟨Nat.zero_le _, show p.val * 2 + (w 2).val - 0 < 11 by omega⟩
    · exact ⟨Nat.zero_le _, show q.val * 2 + (w 3).val - 0 < 11 by omega⟩
  have place : ∀ w : W9.Idx,
      x (fun a => ⟨((ix4 j c p q : S512x512x5x5.Idx) a).val * (![1, 1, 2, 2] : Fin 4 → ℕ) a + (w a).val - (![0, 0, 0, 0] : Fin 4 → ℕ) a, (key w a).2⟩)
      = x (ix4 j c ⟨2 * p + (w 2).val, by have : (w 2).val < 3 := (w 2).isLt; omega⟩ ⟨2 * q + (w 3).val, by have : (w 3).val < 3 := (w 3).isLt; omega⟩) := by
    intro w
    have h0 : (w 0).val < 1 := (w 0).isLt
    have h1 : (w 1).val < 1 := (w 1).isLt
    refine congrArg x (funext fun a => Fin.ext ?_)
    fin_cases a
    · show j.val * 1 + (w 0).val - 0 = j.val; omega
    · show c.val * 1 + (w 1).val - 0 = c.val; omega
    · show p.val * 2 + (w 2).val - 0 = 2 * p.val + (w 2).val; omega
    · show q.val * 2 + (w 3).val - 0 = 2 * q.val + (w 3).val; omega
  refine (reduceWindow_le (FloatOps.maximumf (F := Ideal) (φ := .f32)) rfl ![1, 1, 3, 3] ![1, 1, 2, 2] ![0, 0, 0, 0] ![0, 0, 0, 0] x init
    reduceWindows_S512x512x11x11_S512x512x5x5_w1s1p0_0_w1s1p0_0_w3s2p0_0_w3s2p0_0 h_S_ (ix4 j c p q) z key).trans ?_
  constructor
  · rintro ⟨-, h⟩ a b
    exact (place (ix4 0 0 a b)).symm.le.trans (h (ix4 0 0 a b))
  · intro h
    refine ⟨by rw [hinit]; exact bot_le, fun w => ?_⟩
    exact (place w).le.trans (h (w 2) (w 3))

/-- The reference's result at an index: the largest of nine bins. -/
theorem result_at (j : Fin 512) (c : Fin 512) (p q : Fin 5) (b : Fin 4) (g : ℕ → ℕ → ℝ)
    (hb : Ideal.fptosi 32 (roi V j 0) = BitVec.ofNat 32 b)
    (hg : ∀ y x : Fin 96, V (Proc.devRef .tc main_arg0) (ix4 b c y x) = ((g y x : ℝ) : EReal))
    (hY : roi V j 4 - roi V j 2 ≤ ((288 : ℝ) : EReal)) (hX : roi V j 3 - roi V j 1 ≤ ((288 : ℝ) : EReal)) :
    result V (ix4 j c p q) = pool (fun h w => ((mean (cenY V j h) (cenX V j w) g : ℝ) : EReal)) p q := by
  apply eq_pool
  intro z
  unfold result
  rw [pooling_le _ _ bits_bot]
  refine forall_congr' fun a => forall_congr' fun b' => ?_
  have e := binned_at V j ⟨2 * p + a, by omega⟩ ⟨2 * q + b', by omega⟩ c b g hb hg hY hX
  generalize binned V = B at e ⊢
  have t : transpose S512x512x11x11 [0, 3, 1, 2] B transposes_S512x11x11x512_S512x512x11x11_0_3_1_2 (ix4 j c ⟨2 * p + a, by omega⟩ ⟨2 * q + b', by omega⟩)
      = B (ix4 j ⟨2 * p + a, by omega⟩ ⟨2 * q + b', by omega⟩ c) := by pointwise
  rw [t, e]

end Cert.ReferenceIdeal.Roi
-- ==== Proof.Agree.lean ====
/- The value claim: over the extended reals the kernel and the reference end with the same array. Both are, entry by
   entry, the largest of a cell's nine means, with the same centres and the same features. -/
module

public import proofs.«01_k».proof.Proof.Frames
public import proofs.«01_k».proof.Proof.Fit
public import proofs.«01_k».proof.Proof.Ideal.Value
public import proofs.«01_k».proof.Proof.Reference.Value

@[expose] public section

noncomputable section

namespace Cert.Proof

open Idealize.ShloMosaic Idealize.ShloMosaic.TcCoe Idealize.SL.Sem Cert.Roi

/-- The kernel over the extended reals, under the value claim's condition. -/
theorem kernelIdeal_frame_fit : quiescent_KernelIdeal_pre_rois_fit_the_window := fun m g h =>
  Cert.KernelIdeal.Roi.frame m g (Cert.KernelIdeal.Roi.ok_of m fun j => (fit_of (h 0) 0 j 0 0).2.1)

/-- The reference, under the same. -/
theorem reference_frame_fit : quiescent_ReferenceIdeal_pre_rois_fit_the_window := fun m g _ => reference_frame m g trivial

/-- The condition makes the kernel's inputs fit. -/
theorem fits (m : (ℓ : Loc Cert.KernelIdeal.nD Cert.KernelIdeal.τ Cert.KernelIdeal.sig) → Buf (Elt Ideal) ℓ) (h : Pre_KernelIdeal_rois_fit_the_window m) :
    Cert.KernelIdeal.Roi.Fits m (feature (m (((0 : Dev Cert.KernelIdeal.nD) : Thread Cert.KernelIdeal.nD Cert.KernelIdeal.τ).loc Cert.KernelIdeal.main_arg0))) (image (h 0)) where
  rows j := (fit_of (h 0) 0 j 0 0).2.2.2
  cols j := (fit_of (h 0) 0 j 0 0).2.2.1
  feat n c y x := feature_eq (h 0) n c y x
  image _ := rfl

/-- The reference pools each region to what the kernel pools it to. -/
theorem reference_pooled (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) {f img} (hF : Cert.KernelIdeal.Roi.Fits m f img)
    (h0 : m' (((0 : Dev Cert.KernelIdeal.nD).tc : Thread Cert.ReferenceIdeal.nD Cert.ReferenceIdeal.τ).loc Cert.ReferenceIdeal.main_arg0)
      = m (((0 : Dev Cert.KernelIdeal.nD).tc : Thread Cert.KernelIdeal.nD Cert.KernelIdeal.τ).loc Cert.KernelIdeal.main_arg0))
    (h1 : m' (((0 : Dev Cert.KernelIdeal.nD).tc : Thread Cert.ReferenceIdeal.nD Cert.ReferenceIdeal.τ).loc Cert.ReferenceIdeal.main_arg1)
      = m (((0 : Dev Cert.KernelIdeal.nD).tc : Thread Cert.KernelIdeal.nD Cert.KernelIdeal.τ).loc Cert.KernelIdeal.main_arg1))
    (j c : Fin 512) (p q : Fin 5) :
    Cert.ReferenceIdeal.Roi.result (StableHlo.launchContents m' 0) (ix4 j c p q) = Cert.KernelIdeal.Roi.pooled m f img j c p q := by
  have hr : ∀ j k, Cert.ReferenceIdeal.Roi.roi (StableHlo.launchContents m' 0) j k = Cert.KernelIdeal.Roi.roi m j k := fun j k => congrFun h1 (ix2 j k)
  have hy : Cert.ReferenceIdeal.Roi.cenY (StableHlo.launchContents m' 0) j = Cert.KernelIdeal.Roi.rowCentre m j := by
    funext h; unfold Cert.ReferenceIdeal.Roi.cenY Cert.KernelIdeal.Roi.rowCentre; rw [hr, hr]
  have hx : Cert.ReferenceIdeal.Roi.cenX (StableHlo.launchContents m' 0) j = Cert.KernelIdeal.Roi.colCentre m j := by
    funext w; unfold Cert.ReferenceIdeal.Roi.cenX Cert.KernelIdeal.Roi.colCentre; rw [hr, hr]
  rw [Cert.ReferenceIdeal.Roi.result_at (StableHlo.launchContents m' 0) j c p q (img j) (f (img j) c)
    (BitVec.eq_of_toNat_eq (by
      rw [hr, BitVec.toNat_ofNat, Nat.mod_eq_of_lt (by have := (img j).isLt; omega)]
      exact hF.image j))
    (fun y x => (congrFun h0 (ix4 (img j) c y x)).trans (hF.feat (img j) c y x))
    (by rw [hr, hr]; exact hF.rows j) (by rw [hr, hr]; exact hF.cols j), hy, hx]
  rfl

/-- The value claim. -/
theorem agree : algebraic_KernelIdeal_ReferenceIdeal_pre_rois_fit_the_window := fun m g m' g' hpre hargs => by
  have hF := fits m hpre
  have hR : ∀ c : Dev Cert.KernelIdeal.nD, ∀ (j ch : Fin 512) (p q : Fin 5),
      Cert.ReferenceIdeal.Roi.result (StableHlo.launchContents m' c) (ix4 j ch p q)
        = Cert.KernelIdeal.Roi.pooled m _ _ j ch p q := fun c => by
    obtain rfl : c = 0 := Subsingleton.elim _ _
    exact reference_pooled m m' hF (hargs 0).1 (hargs 0).2
  refine ⟨fun c => Cert.ReferenceIdeal.Roi.result (StableHlo.launchContents m' c), ?_, ?_⟩
  · refine (θ_run Cert.KernelIdeal.defs _ _).mono (fun r h c => ⟨?_, (h c).2⟩) (Cert.KernelIdeal.Roi.run_value hF g)
    funext i
    obtain ⟨j, ch, p, q, rfl⟩ : ∃ (j ch : Fin 512) (p q : Fin 5), i = ix4 j ch p q :=
      ⟨i (0 : Fin 4), i (1 : Fin 4), i (2 : Fin 4), i (3 : Fin 4), by funext a; match a with | ⟨0, _⟩ => rfl | ⟨1, _⟩ => rfl | ⟨2, _⟩ => rfl | ⟨3, _⟩ => rfl⟩
    exact ((h c).1 j ch p q).trans (hR c j ch p q).symm
  · exact (θ_run Cert.ReferenceIdeal.defs _ _).mono (fun r h c => ⟨(h c).1, (h c).2⟩) (Cert.ReferenceIdeal.Value.run m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_batch_index_in_range
public import proofs.«01_k».proof.Proof.Gen.Pre_rois_fit_the_window
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The claim. -/
theorem claim : Cert.Claim := ⟨Cert.Kernel.Gen.facts, Cert.KernelIdeal.Gen.facts, Cert.ReferenceIdeal.Gen.facts, Cert.Pre_batch_index_in_range.Gen.facts,
  Cert.Pre_rois_fit_the_window.Gen.facts, kernel_frame, kernelIdeal_frame, kernelIdeal_frame_fit, reference_frame, reference_frame_fit, trivial, agree⟩

end Cert.Proof

end
